-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attended_KernelIdeal [hPre_attended_KernelIdeal : Cert.Pre_attended_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_attended_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attended_ReferenceIdeal [hPre_attended_ReferenceIdeal : Cert.Pre_attended_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attended_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attended_KernelIdeal [hKernelIdeal : Cert.KernelIdeal.Facts] [hPre_attended_KernelIdeal : Cert.Pre_attended_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attended_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attended_ReferenceIdeal [hReferenceIdeal : Cert.ReferenceIdeal.Facts] [hPre_attended_ReferenceIdeal : Cert.Pre_attended_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attended_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_attended_KernelIdeal [hKernelIdeal : Cert.KernelIdeal.Facts] [hReferenceIdeal : Cert.ReferenceIdeal.Facts] [hPre_attended_KernelIdeal : Cert.Pre_attended_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attended_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_attended_KernelIdeal : Cert.Pre_attended_KernelIdeal.Facts) (hPre_attended_ReferenceIdeal : Cert.Pre_attended_ReferenceIdeal.Facts),
    quiescent_Kernel (hKernel := hKernel)
    ∧ quiescent_KernelIdeal (hKernelIdeal := hKernelIdeal)
    ∧ quiescent_KernelIdeal_pre_attended_KernelIdeal (hKernelIdeal := hKernelIdeal) (hPre_attended_KernelIdeal := hPre_attended_KernelIdeal)
    ∧ quiescent_ReferenceIdeal (hReferenceIdeal := hReferenceIdeal)
    ∧ quiescent_ReferenceIdeal_pre_attended_ReferenceIdeal (hReferenceIdeal := hReferenceIdeal) (hPre_attended_ReferenceIdeal := hPre_attended_ReferenceIdeal)
    ∧ preserves_Kernel_KernelIdeal
    ∧ algebraic_KernelIdeal_ReferenceIdeal_pre_attended_KernelIdeal (hKernelIdeal := hKernelIdeal) (hReferenceIdeal := hReferenceIdeal) (hPre_attended_KernelIdeal := hPre_attended_KernelIdeal)
-- ==== Pre_attended_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S32x1 : Shape := ⟨2, ![32, 1]⟩
abbrev S_ : Shape := ⟨0, ![]⟩

class Facts : Prop where
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32 : S_.BroadcastsInDim S32 (![] : Fin 0 → Fin S32.rank)
  reducesTo_S32_S_d0 : S32.ReducesTo [0] S_
  reducesTo_S32x256_S_d0_1 : S32x256.ReducesTo [0, 1] S_

variable [Facts]

def fn_part1 {F : FTy → Type} [FloatOps F] (main_arg4 : IVec S32 32) (main_v9 : IVec S32x256 1) (main_v13 : IVec S_ 1) (main_v17 : IVec S_ 1) : IVec S_ 1 :=
  let main_v18 : IVec S_ 1 := andi main_v13 main_v17
  let main_c_4 : IVec S_ 32 := constantI S_ 32 1#32
  let main_v19 : IVec S32 32 := broadcastInDim S32 ![] bcast_S_S32 main_c_4
  let main_v20 : IVec S32 1 := cmpi .sge main_arg4 main_v19
  let main_c_5 : IVec S_ 1 := constantI S_ 1 1#1
  let main_v21 : IVec S_ 1 := (fun x v => Host.reduce IntOp.andi x v reducesTo_S32_S_d0 h_S_) main_v20 main_c_5
  let main_v22 : IVec S_ 1 := andi main_v18 main_v21
  let main_c_6 : IVec S_ 1 := constantI S_ 1 1#1
  let main_v23 : IVec S_ 1 := (fun x v => Host.reduce IntOp.andi x v reducesTo_S32x256_S_d0_1 h_S_) main_v9 main_c_6
  let main_v24 : IVec S_ 1 := andi main_v22 main_v23
  main_v24

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 :=
  let main_v0 : IVec S32x256 32 := iotaInDim S32x256 32 1
  let main_v1 : IVec S32x1 32 := broadcastInDim S32x1 ![0] bcast_S32_S32x1_0 main_arg4
  let main_v2 : IVec S32x256 32 := broadcastInDim S32x256 ![0, 1] bcast_S32x1_S32x256_0_1 main_v1
  let main_v3 : IVec S32x256 1 := cmpi .sge main_v0 main_v2
  let main_c : IVec S_ 32 := constantI S_ 32 0#32
  let main_v4 : IVec S32x256 32 := broadcastInDim S32x256 ![] bcast_S_S32x256 main_c
  let main_v5 : IVec S32x256 1 := cmpi .sge main_arg3 main_v4
  let main_c_0 : IVec S_ 32 := constantI S_ 32 512#32
  let main_v6 : IVec S32x256 32 := broadcastInDim S32x256 ![] bcast_S_S32x256 main_c_0
  let main_v7 : IVec S32x256 1 := cmpi .slt main_arg3 main_v6
  let main_v8 : IVec S32x256 1 := andi main_v5 main_v7
  let main_v9 : IVec S32x256 1 := ori main_v3 main_v8
  let main_v10 : FVec F S32x1x16x128 .f32 := Host.absf main_arg0
  let main_cst : FVec F S_ .f32 := constant S_ .f32 0x7F800000#32
  let main_v11 : FVec F S32x1x16x128 .f32 := broadcastInDim S32x1x16x128 ![] bcast_S_S32x1x16x128 main_cst
  let main_v12 : IVec S32x1x16x128 1 := cmpf .olt main_v10 main_v11
  let main_c_1 : IVec S_ 1 := constantI S_ 1 1#1
  let main_v13 : IVec S_ 1 := (fun x v => Host.reduce IntOp.andi x v reducesTo_S32x1x16x128_S_d0_1_2_3 h_S_) main_v12 main_c_1
  let main_v14 : FVec F S256x32x16x128 .f32 := Host.absf main_arg1
  let main_cst_2 : FVec F S_ .f32 := constant S_ .f32 0x7F800000#32
  let main_v15 : FVec F S256x32x16x128 .f32 := broadcastInDim S256x32x16x128 ![] bcast_S_S256x32x16x128 main_cst_2
  let main_v16 : IVec S256x32x16x128 1 := cmpf .olt main_v14 main_v15
  let main_c_3 : IVec S_ 1 := constantI S_ 1 1#1
  let main_v17 : IVec S_ 1 := (fun x v => Host.reduce IntOp.andi x v reducesTo_S256x32x16x128_S_d0_1_2_3 h_S_) main_v16 main_c_3
  fn_part1 (F := F) main_arg4 main_v9 main_v13 main_v17
-- ==== Pre_attended_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S32x1 : Shape := ⟨2, ![32, 1]⟩
abbrev S_ : Shape := ⟨0, ![]⟩

class Facts : Prop where
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S512x32x16x128 : S_.BroadcastsInDim S512x32x16x128 (![] : Fin 0 → Fin S512x32x16x128.rank)
  reducesTo_S512x32x16x128_S_d0_1_2_3 : S512x32x16x128.ReducesTo [0, 1, 2, 3] S_
  bcast_S_S32 : S_.BroadcastsInDim S32 (![] : Fin 0 → Fin S32.rank)
  reducesTo_S32_S_d0 : S32.ReducesTo [0] S_
  reducesTo_S32x256_S_d0_1 : S32x256.ReducesTo [0, 1] S_

variable [Facts]

def fn_part1 {F : FTy → Type} [FloatOps F] (main_arg4 : IVec S32 32) (main_v9 : IVec S32x256 1) (main_v13 : IVec S_ 1) (main_v17 : IVec S_ 1) : IVec S_ 1 :=
  let main_v18 : IVec S_ 1 := andi main_v13 main_v17
  let main_c_4 : IVec S_ 32 := constantI S_ 32 1#32
  let main_v19 : IVec S32 32 := broadcastInDim S32 ![] bcast_S_S32 main_c_4
  let main_v20 : IVec S32 1 := cmpi .sge main_arg4 main_v19
  let main_c_5 : IVec S_ 1 := constantI S_ 1 1#1
  let main_v21 : IVec S_ 1 := (fun x v => Host.reduce IntOp.andi x v reducesTo_S32_S_d0 h_S_) main_v20 main_c_5
  let main_v22 : IVec S_ 1 := andi main_v18 main_v21
  let main_c_6 : IVec S_ 1 := constantI S_ 1 1#1
  let main_v23 : IVec S_ 1 := (fun x v => Host.reduce IntOp.andi x v reducesTo_S32x256_S_d0_1 h_S_) main_v9 main_c_6
  let main_v24 : IVec S_ 1 := andi main_v22 main_v23
  main_v24

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32 32) : IVec S_ 1 :=
  let main_v0 : IVec S32x256 32 := iotaInDim S32x256 32 1
  let main_v1 : IVec S32x1 32 := broadcastInDim S32x1 ![0] bcast_S32_S32x1_0 main_arg4
  let main_v2 : IVec S32x256 32 := broadcastInDim S32x256 ![0, 1] bcast_S32x1_S32x256_0_1 main_v1
  let main_v3 : IVec S32x256 1 := cmpi .sge main_v0 main_v2
  let main_c : IVec S_ 32 := constantI S_ 32 0#32
  let main_v4 : IVec S32x256 32 := broadcastInDim S32x256 ![] bcast_S_S32x256 main_c
  let main_v5 : IVec S32x256 1 := cmpi .sge main_arg3 main_v4
  let main_c_0 : IVec S_ 32 := constantI S_ 32 512#32
  let main_v6 : IVec S32x256 32 := broadcastInDim S32x256 ![] bcast_S_S32x256 main_c_0
  let main_v7 : IVec S32x256 1 := cmpi .slt main_arg3 main_v6
  let main_v8 : IVec S32x256 1 := andi main_v5 main_v7
  let main_v9 : IVec S32x256 1 := ori main_v3 main_v8
  let main_v10 : FVec F S32x1x16x128 .f32 := Host.absf main_arg0
  let main_cst : FVec F S_ .f32 := constant S_ .f32 0x7F800000#32
  let main_v11 : FVec F S32x1x16x128 .f32 := broadcastInDim S32x1x16x128 ![] bcast_S_S32x1x16x128 main_cst
  let main_v12 : IVec S32x1x16x128 1 := cmpf .olt main_v10 main_v11
  let main_c_1 : IVec S_ 1 := constantI S_ 1 1#1
  let main_v13 : IVec S_ 1 := (fun x v => Host.reduce IntOp.andi x v reducesTo_S32x1x16x128_S_d0_1_2_3 h_S_) main_v12 main_c_1
  let main_v14 : FVec F S512x32x16x128 .f32 := Host.absf main_arg1
  let main_cst_2 : FVec F S_ .f32 := constant S_ .f32 0x7F800000#32
  let main_v15 : FVec F S512x32x16x128 .f32 := broadcastInDim S512x32x16x128 ![] bcast_S_S512x32x16x128 main_cst_2
  let main_v16 : IVec S512x32x16x128 1 := cmpf .olt main_v14 main_v15
  let main_c_3 : IVec S_ 1 := constantI S_ 1 1#1
  let main_v17 : IVec S_ 1 := (fun x v => Host.reduce IntOp.andi x v reducesTo_S512x32x16x128_S_d0_1_2_3 h_S_) main_v16 main_c_3
  fn_part1 (F := F) main_arg4 main_v9 main_v13 main_v17
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S32x16x128 : Shape := ⟨3, ![32, 16, 128]⟩
abbrev S2x32x16 : Shape := ⟨3, ![2, 32, 16]⟩
abbrev S3x32x16x128 : Shape := ⟨4, ![3, 32, 16, 128]⟩
abbrev S3x2x32x16 : Shape := ⟨4, ![3, 2, 32, 16]⟩
abbrev S2x16x32x32x128 : Shape := ⟨5, ![2, 16, 32, 32, 128]⟩
abbrev S16x32x1 : Shape := ⟨3, ![16, 32, 1]⟩
abbrev S16x32x128 : Shape := ⟨3, ![16, 32, 128]⟩
abbrev S2x32x1024 : Shape := ⟨3, ![2, 32, 1024]⟩
abbrev S3 : Shape := ⟨1, ![3]⟩
abbrev S6 : Shape := ⟨1, ![6]⟩
abbrev S_ : Shape := ⟨0, ![]⟩
abbrev S1 : Shape := ⟨1, ![1]⟩
abbrev S1x1x32x32x128 : Shape := ⟨5, ![1, 1, 32, 32, 128]⟩
abbrev S32x32x128 : Shape := ⟨3, ![32, 32, 128]⟩
abbrev S32x32x1x128 : Shape := ⟨4, ![32, 32, 1, 128]⟩
abbrev S1x64 : Shape := ⟨2, ![1, 64]⟩
abbrev S256x1 : Shape := ⟨2, ![256, 1]⟩
abbrev S1x256 : Shape := ⟨2, ![1, 256]⟩
abbrev S256x64 : Shape := ⟨2, ![256, 64]⟩
abbrev S64 : Shape := ⟨1, ![64]⟩
abbrev S32x64 : Shape := ⟨2, ![32, 64]⟩
abbrev S32x32 : Shape := ⟨2, ![32, 32]⟩
abbrev S32x32x1 : Shape := ⟨3, ![32, 32, 1]⟩
abbrev S32x32x32 : Shape := ⟨3, ![32, 32, 32]⟩
abbrev S32x1024 : Shape := ⟨2, ![32, 1024]⟩
abbrev S1x32x1024 : Shape := ⟨3, ![1, 32, 1024]⟩
abbrev S32x1x128 : Shape := ⟨3, ![32, 1, 128]⟩
abbrev S32x128 : Shape := ⟨2, ![32, 128]⟩
abbrev S1024x128 : Shape := ⟨2, ![1024, 128]⟩
abbrev S1x32x1 : Shape := ⟨3, ![1, 32, 1]⟩
abbrev S32x1 : Shape := ⟨2, ![32, 1]⟩
abbrev S1x32x128 : Shape := ⟨3, ![1, 32, 128]⟩
abbrev S16x32 : Shape := ⟨2, ![16, 32]⟩
abbrev S32x16 : Shape := ⟨2, ![32, 16]⟩
abbrev S1x32x16 : Shape := ⟨3, ![1, 32, 16]⟩
abbrev S1x32x16x128 : Shape := ⟨4, ![1, 32, 16, 128]⟩
abbrev S1x2x32x16 : Shape := ⟨4, ![1, 2, 32, 16]⟩
abbrev S1x1x32x16 : Shape := ⟨4, ![1, 1, 32, 16]⟩
abbrev S32x16x1 : Shape := ⟨3, ![32, 16, 1]⟩

abbrev nBuf : Space → Nat
  | .hbm => 6
  | .vmem => 14
  | .smem => 1
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S32x1x16x128, .f32⟩
  | .local _ .vmem, ⟨0, _⟩ => ⟨S32x1x16x128, .f32⟩
  | .local _ .vmem, ⟨1, _⟩ => ⟨S32x256, .i32⟩
  | .local _ .vmem, ⟨2, _⟩ => ⟨S32x1x16x128, .f32⟩
  | .local _ .vmem, ⟨3, _⟩ => ⟨S32x16x128, .f32⟩
  | .local _ .vmem, ⟨4, _⟩ => ⟨S2x32x16, .f32⟩
  | .local _ .vmem, ⟨5, _⟩ => ⟨S32x16x128, .bf16⟩
  | .local _ .vmem, ⟨6, _⟩ => ⟨S3x32x16x128, .bf16⟩
  | .local _ .vmem, ⟨7, _⟩ => ⟨S3x2x32x16, .f32⟩
  | .local _ .vmem, ⟨8, _⟩ => ⟨S2x16x32x32x128, .f32⟩
  | .local _ .vmem, ⟨9, _⟩ => ⟨S2x16x32x32x128, .f32⟩
  | .local _ .vmem, ⟨10, _⟩ => ⟨S16x32x1, .f32⟩
  | .local _ .vmem, ⟨11, _⟩ => ⟨S16x32x1, .f32⟩
  | .local _ .vmem, ⟨12, _⟩ => ⟨S16x32x128, .f32⟩
  | .local _ .vmem, ⟨13, _⟩ => ⟨S2x32x1024, .f32⟩
  | .local _ .smem, ⟨0, _⟩ => ⟨S32, .i32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v18 : BitVec 32 := Scalar.muli v2 c4_i32_8
  let v19 : BitVec 32 := Scalar.addi c0_i32 v18
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_4 v5
  let c2_i32_9 : BitVec 32 := 2#32
  let v20 : BitVec 32 := Scalar.muli v14 c2_i32_9
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v22 : BitVec 32 := Scalar.muli v8 c1_i32_10
  let v23 : BitVec 32 := Scalar.addi v21 v22
  v23.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v24 : BitVec 32 := Scalar.muli v2 c4_i32_12
  let v25 : BitVec 32 := Scalar.addi c0_i32_13 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v26 : BitVec 32 := Scalar.muli v5 c2_i32_14
  let v27 : BitVec 32 := Scalar.addi v25 v26
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c1_i32_15 : BitVec 32 := 1#32
  let v28 : BitVec 32 := Scalar.muli v15 c1_i32_15
  let v29 : BitVec 32 := Scalar.addi v27 v28
  v29.toNat
def k0_dev3 (d0 : Dev nD) : Nat :=
  let c0_i32_18 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_6 v2
  let c4_i32_17 : BitVec 32 := 4#32
  let v30 : BitVec 32 := Scalar.muli v16 c4_i32_17
  let v31 : BitVec 32 := Scalar.addi c0_i32_18 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v34 : BitVec 32 := Scalar.muli v8 c1_i32_20
  let v35 : BitVec 32 := Scalar.addi v33 v34
  v35.toNat
def k0_off1 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_29 : BitVec 32 := 0#32
  let c0_i32_22 : BitVec 32 := 0#32
  let c0_i32_30 : BitVec 32 := 0#32
  ![v36.toNat, 0, 0, 0]
def k0_off2 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_47 : BitVec 32 := 0#32
  let c1_i32_40 : BitVec 32 := 1#32
  let c0_i32_48 : BitVec 32 := 0#32
  ![v36.toNat, 0, 1, 0]
def k0_off3 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_65 : BitVec 32 := 0#32
  let c2_i32_58 : BitVec 32 := 2#32
  let c0_i32_66 : BitVec 32 := 0#32
  ![v36.toNat, 0, 2, 0]
def k0_off4 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_83 : BitVec 32 := 0#32
  let c3_i32_76 : BitVec 32 := 3#32
  let c0_i32_84 : BitVec 32 := 0#32
  ![v36.toNat, 0, 3, 0]
def k0_off5 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_101 : BitVec 32 := 0#32
  let c4_i32_94 : BitVec 32 := 4#32
  let c0_i32_102 : BitVec 32 := 0#32
  ![v36.toNat, 0, 4, 0]
def k0_off6 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_118 : BitVec 32 := 0#32
  let c5_i32 : BitVec 32 := 5#32
  let c0_i32_119 : BitVec 32 := 0#32
  ![v36.toNat, 0, 5, 0]
def k0_off7 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_135 : BitVec 32 := 0#32
  let c6_i32 : BitVec 32 := 6#32
  let c0_i32_136 : BitVec 32 := 0#32
  ![v36.toNat, 0, 6, 0]
def k0_off8 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_152 : BitVec 32 := 0#32
  let c7_i32 : BitVec 32 := 7#32
  let c0_i32_153 : BitVec 32 := 0#32
  ![v36.toNat, 0, 7, 0]
def k0_off9 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_169 : BitVec 32 := 0#32
  let c8_i32 : BitVec 32 := 8#32
  let c0_i32_170 : BitVec 32 := 0#32
  ![v36.toNat, 0, 8, 0]
def k0_off10 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_186 : BitVec 32 := 0#32
  let c9_i32 : BitVec 32 := 9#32
  let c0_i32_187 : BitVec 32 := 0#32
  ![v36.toNat, 0, 9, 0]
def k0_off11 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_203 : BitVec 32 := 0#32
  let c10_i32 : BitVec 32 := 10#32
  let c0_i32_204 : BitVec 32 := 0#32
  ![v36.toNat, 0, 10, 0]
def k0_off12 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_220 : BitVec 32 := 0#32
  let c11_i32 : BitVec 32 := 11#32
  let c0_i32_221 : BitVec 32 := 0#32
  ![v36.toNat, 0, 11, 0]
def k0_off13 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_237 : BitVec 32 := 0#32
  let c12_i32 : BitVec 32 := 12#32
  let c0_i32_238 : BitVec 32 := 0#32
  ![v36.toNat, 0, 12, 0]
def k0_off14 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_254 : BitVec 32 := 0#32
  let c13_i32 : BitVec 32 := 13#32
  let c0_i32_255 : BitVec 32 := 0#32
  ![v36.toNat, 0, 13, 0]
def k0_off15 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_271 : BitVec 32 := 0#32
  let c14_i32 : BitVec 32 := 14#32
  let c0_i32_272 : BitVec 32 := 0#32
  ![v36.toNat, 0, 14, 0]
def k0_off16 (d0 : Dev nD) (c0_i32_21 : BitVec 32) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let v36 : BitVec 32 := Scalar.addi v11 c0_i32_21
  let c0_i32_288 : BitVec 32 := 0#32
  let c15_i32 : BitVec 32 := 15#32
  let c0_i32_289 : BitVec 32 := 0#32
  ![v36.toNat, 0, 15, 0]
@[reducible] def k0_t1_loop : Scf.Loop 32 :=
  let c0_i32_704 : BitVec 32 := 0#32
  let c2_i32_705 : BitVec 32 := 2#32
  let v999 : BitVec 32 := Scalar.addi c0_i32_704 c2_i32_705
  let c1_i32_706 : BitVec 32 := 1#32
  ⟨c0_i32_704, v999, c1_i32_706⟩
def k0_off17 (k0_t1 : Fin k0_t1_loop.trips) : Fin 1 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  ![v1304.toNat]
def k0_off18 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c0_i32_1008 : BitVec 32 := 0#32
  let c0_i32_1009 : BitVec 32 := 0#32
  let c0_i32_1010 : BitVec 32 := 0#32
  let c0_i32_1011 : BitVec 32 := 0#32
  ![v1304.toNat, 0, 0, 0, 0]
def k0_off19 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c1_i32_1024 : BitVec 32 := 1#32
  let c0_i32_1025 : BitVec 32 := 0#32
  let c0_i32_1026 : BitVec 32 := 0#32
  let c0_i32_1027 : BitVec 32 := 0#32
  ![v1304.toNat, 1, 0, 0, 0]
def k0_off20 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c2_i32_1040 : BitVec 32 := 2#32
  let c0_i32_1041 : BitVec 32 := 0#32
  let c0_i32_1042 : BitVec 32 := 0#32
  let c0_i32_1043 : BitVec 32 := 0#32
  ![v1304.toNat, 2, 0, 0, 0]
def k0_off21 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c3_i32_1056 : BitVec 32 := 3#32
  let c0_i32_1057 : BitVec 32 := 0#32
  let c0_i32_1058 : BitVec 32 := 0#32
  let c0_i32_1059 : BitVec 32 := 0#32
  ![v1304.toNat, 3, 0, 0, 0]
def k0_off22 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c4_i32_1072 : BitVec 32 := 4#32
  let c0_i32_1073 : BitVec 32 := 0#32
  let c0_i32_1074 : BitVec 32 := 0#32
  let c0_i32_1075 : BitVec 32 := 0#32
  ![v1304.toNat, 4, 0, 0, 0]
def k0_off23 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c5_i32_1088 : BitVec 32 := 5#32
  let c0_i32_1089 : BitVec 32 := 0#32
  let c0_i32_1090 : BitVec 32 := 0#32
  let c0_i32_1091 : BitVec 32 := 0#32
  ![v1304.toNat, 5, 0, 0, 0]
def k0_off24 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c6_i32_1104 : BitVec 32 := 6#32
  let c0_i32_1105 : BitVec 32 := 0#32
  let c0_i32_1106 : BitVec 32 := 0#32
  let c0_i32_1107 : BitVec 32 := 0#32
  ![v1304.toNat, 6, 0, 0, 0]
def k0_off25 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c7_i32_1120 : BitVec 32 := 7#32
  let c0_i32_1121 : BitVec 32 := 0#32
  let c0_i32_1122 : BitVec 32 := 0#32
  let c0_i32_1123 : BitVec 32 := 0#32
  ![v1304.toNat, 7, 0, 0, 0]
def k0_off26 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c8_i32_1136 : BitVec 32 := 8#32
  let c0_i32_1137 : BitVec 32 := 0#32
  let c0_i32_1138 : BitVec 32 := 0#32
  let c0_i32_1139 : BitVec 32 := 0#32
  ![v1304.toNat, 8, 0, 0, 0]
def k0_off27 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c9_i32_1152 : BitVec 32 := 9#32
  let c0_i32_1153 : BitVec 32 := 0#32
  let c0_i32_1154 : BitVec 32 := 0#32
  let c0_i32_1155 : BitVec 32 := 0#32
  ![v1304.toNat, 9, 0, 0, 0]
def k0_off28 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c10_i32_1168 : BitVec 32 := 10#32
  let c0_i32_1169 : BitVec 32 := 0#32
  let c0_i32_1170 : BitVec 32 := 0#32
  let c0_i32_1171 : BitVec 32 := 0#32
  ![v1304.toNat, 10, 0, 0, 0]
def k0_off29 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c11_i32_1184 : BitVec 32 := 11#32
  let c0_i32_1185 : BitVec 32 := 0#32
  let c0_i32_1186 : BitVec 32 := 0#32
  let c0_i32_1187 : BitVec 32 := 0#32
  ![v1304.toNat, 11, 0, 0, 0]
def k0_off30 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c12_i32_1200 : BitVec 32 := 12#32
  let c0_i32_1201 : BitVec 32 := 0#32
  let c0_i32_1202 : BitVec 32 := 0#32
  let c0_i32_1203 : BitVec 32 := 0#32
  ![v1304.toNat, 12, 0, 0, 0]
def k0_off31 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c13_i32_1216 : BitVec 32 := 13#32
  let c0_i32_1217 : BitVec 32 := 0#32
  let c0_i32_1218 : BitVec 32 := 0#32
  let c0_i32_1219 : BitVec 32 := 0#32
  ![v1304.toNat, 13, 0, 0, 0]
def k0_off32 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c14_i32_1232 : BitVec 32 := 14#32
  let c0_i32_1233 : BitVec 32 := 0#32
  let c0_i32_1234 : BitVec 32 := 0#32
  let c0_i32_1235 : BitVec 32 := 0#32
  ![v1304.toNat, 14, 0, 0, 0]
def k0_off33 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let c15_i32_1248 : BitVec 32 := 15#32
  let c0_i32_1249 : BitVec 32 := 0#32
  let c0_i32_1250 : BitVec 32 := 0#32
  let c0_i32_1251 : BitVec 32 := 0#32
  ![v1304.toNat, 15, 0, 0, 0]
def k0_cond1 (k0_t1 : Fin k0_t1_loop.trips) : BitVec 1 :=
  let c0_i32_704 : BitVec 32 := 0#32
  let c1_i32_706 : BitVec 32 := 1#32
  let arg21 : BitVec 32 := Scf.iv c0_i32_704 c1_i32_706 k0_t1
  let c2_i32_1263 : BitVec 32 := 2#32
  let v1497 : BitVec 32 := Scalar.addi arg21 c2_i32_1263
  let c2_i32_1264 : BitVec 32 := 2#32
  let v1498 : BitVec 1 := Scalar.cmpi .slt v1497 c2_i32_1264
  let v1499 : BitVec 32 := Scalar.extui v1498
  let c0_i32_1265 : BitVec 32 := 0#32
  let v1500 : BitVec 1 := Scalar.cmpi .ne v1499 c0_i32_1265
  v1500

def k0_off34 (k0_t1 : Fin k0_t1_loop.trips) : Fin 1 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  ![v2247.toNat]
def k0_off35 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c0_i32_1772 : BitVec 32 := 0#32
  let c0_i32_1773 : BitVec 32 := 0#32
  let c0_i32_1774 : BitVec 32 := 0#32
  let c0_i32_1775 : BitVec 32 := 0#32
  ![v2247.toNat, 0, 0, 0, 0]
def k0_off36 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1776 : BitVec 32 := 0#32
  let c0_i32_1771 : BitVec 32 := 0#32
  let c0_i32_1777 : BitVec 32 := 0#32
  ![v2250.toNat, 0, 0, 0]
def k0_off37 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c1_i32_1786 : BitVec 32 := 1#32
  let c0_i32_1787 : BitVec 32 := 0#32
  let c0_i32_1788 : BitVec 32 := 0#32
  let c0_i32_1789 : BitVec 32 := 0#32
  ![v2247.toNat, 1, 0, 0, 0]
def k0_off38 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1790 : BitVec 32 := 0#32
  let c1_i32_1785 : BitVec 32 := 1#32
  let c0_i32_1791 : BitVec 32 := 0#32
  ![v2250.toNat, 0, 1, 0]
def k0_off39 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c2_i32_1800 : BitVec 32 := 2#32
  let c0_i32_1801 : BitVec 32 := 0#32
  let c0_i32_1802 : BitVec 32 := 0#32
  let c0_i32_1803 : BitVec 32 := 0#32
  ![v2247.toNat, 2, 0, 0, 0]
def k0_off40 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1804 : BitVec 32 := 0#32
  let c2_i32_1799 : BitVec 32 := 2#32
  let c0_i32_1805 : BitVec 32 := 0#32
  ![v2250.toNat, 0, 2, 0]
def k0_off41 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c3_i32_1814 : BitVec 32 := 3#32
  let c0_i32_1815 : BitVec 32 := 0#32
  let c0_i32_1816 : BitVec 32 := 0#32
  let c0_i32_1817 : BitVec 32 := 0#32
  ![v2247.toNat, 3, 0, 0, 0]
def k0_off42 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1818 : BitVec 32 := 0#32
  let c3_i32_1813 : BitVec 32 := 3#32
  let c0_i32_1819 : BitVec 32 := 0#32
  ![v2250.toNat, 0, 3, 0]
def k0_off43 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c4_i32_1828 : BitVec 32 := 4#32
  let c0_i32_1829 : BitVec 32 := 0#32
  let c0_i32_1830 : BitVec 32 := 0#32
  let c0_i32_1831 : BitVec 32 := 0#32
  ![v2247.toNat, 4, 0, 0, 0]
def k0_off44 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1832 : BitVec 32 := 0#32
  let c4_i32_1827 : BitVec 32 := 4#32
  let c0_i32_1833 : BitVec 32 := 0#32
  ![v2250.toNat, 0, 4, 0]
def k0_off45 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c5_i32_1842 : BitVec 32 := 5#32
  let c0_i32_1843 : BitVec 32 := 0#32
  let c0_i32_1844 : BitVec 32 := 0#32
  let c0_i32_1845 : BitVec 32 := 0#32
  ![v2247.toNat, 5, 0, 0, 0]
def k0_off46 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1846 : BitVec 32 := 0#32
  let c5_i32_1841 : BitVec 32 := 5#32
  let c0_i32_1847 : BitVec 32 := 0#32
  ![v2250.toNat, 0, 5, 0]
def k0_off47 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c6_i32_1856 : BitVec 32 := 6#32
  let c0_i32_1857 : BitVec 32 := 0#32
  let c0_i32_1858 : BitVec 32 := 0#32
  let c0_i32_1859 : BitVec 32 := 0#32
  ![v2247.toNat, 6, 0, 0, 0]
def k0_off48 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1860 : BitVec 32 := 0#32
  let c6_i32_1855 : BitVec 32 := 6#32
  let c0_i32_1861 : BitVec 32 := 0#32
  ![v2250.toNat, 0, 6, 0]
def k0_off49 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c7_i32_1870 : BitVec 32 := 7#32
  let c0_i32_1871 : BitVec 32 := 0#32
  let c0_i32_1872 : BitVec 32 := 0#32
  let c0_i32_1873 : BitVec 32 := 0#32
  ![v2247.toNat, 7, 0, 0, 0]
def k0_off50 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1874 : BitVec 32 := 0#32
  let c7_i32_1869 : BitVec 32 := 7#32
  let c0_i32_1875 : BitVec 32 := 0#32
  ![v2250.toNat, 0, 7, 0]
def k0_off51 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c8_i32_1884 : BitVec 32 := 8#32
  let c0_i32_1885 : BitVec 32 := 0#32
  let c0_i32_1886 : BitVec 32 := 0#32
  let c0_i32_1887 : BitVec 32 := 0#32
  ![v2247.toNat, 8, 0, 0, 0]
def k0_off52 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1888 : BitVec 32 := 0#32
  let c8_i32_1883 : BitVec 32 := 8#32
  let c0_i32_1889 : BitVec 32 := 0#32
  ![v2250.toNat, 0, 8, 0]
def k0_off53 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c9_i32_1898 : BitVec 32 := 9#32
  let c0_i32_1899 : BitVec 32 := 0#32
  let c0_i32_1900 : BitVec 32 := 0#32
  let c0_i32_1901 : BitVec 32 := 0#32
  ![v2247.toNat, 9, 0, 0, 0]
def k0_off54 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1902 : BitVec 32 := 0#32
  let c9_i32_1897 : BitVec 32 := 9#32
  let c0_i32_1903 : BitVec 32 := 0#32
  ![v2250.toNat, 0, 9, 0]
def k0_off55 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c10_i32_1912 : BitVec 32 := 10#32
  let c0_i32_1913 : BitVec 32 := 0#32
  let c0_i32_1914 : BitVec 32 := 0#32
  let c0_i32_1915 : BitVec 32 := 0#32
  ![v2247.toNat, 10, 0, 0, 0]
def k0_off56 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1916 : BitVec 32 := 0#32
  let c10_i32_1911 : BitVec 32 := 10#32
  let c0_i32_1917 : BitVec 32 := 0#32
  ![v2250.toNat, 0, 10, 0]
def k0_off57 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c11_i32_1926 : BitVec 32 := 11#32
  let c0_i32_1927 : BitVec 32 := 0#32
  let c0_i32_1928 : BitVec 32 := 0#32
  let c0_i32_1929 : BitVec 32 := 0#32
  ![v2247.toNat, 11, 0, 0, 0]
def k0_off58 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1930 : BitVec 32 := 0#32
  let c11_i32_1925 : BitVec 32 := 11#32
  let c0_i32_1931 : BitVec 32 := 0#32
  ![v2250.toNat, 0, 11, 0]
def k0_off59 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c12_i32_1940 : BitVec 32 := 12#32
  let c0_i32_1941 : BitVec 32 := 0#32
  let c0_i32_1942 : BitVec 32 := 0#32
  let c0_i32_1943 : BitVec 32 := 0#32
  ![v2247.toNat, 12, 0, 0, 0]
def k0_off60 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1944 : BitVec 32 := 0#32
  let c12_i32_1939 : BitVec 32 := 12#32
  let c0_i32_1945 : BitVec 32 := 0#32
  ![v2250.toNat, 0, 12, 0]
def k0_off61 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c13_i32_1954 : BitVec 32 := 13#32
  let c0_i32_1955 : BitVec 32 := 0#32
  let c0_i32_1956 : BitVec 32 := 0#32
  let c0_i32_1957 : BitVec 32 := 0#32
  ![v2247.toNat, 13, 0, 0, 0]
def k0_off62 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1958 : BitVec 32 := 0#32
  let c13_i32_1953 : BitVec 32 := 13#32
  let c0_i32_1959 : BitVec 32 := 0#32
  ![v2250.toNat, 0, 13, 0]
def k0_off63 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c14_i32_1968 : BitVec 32 := 14#32
  let c0_i32_1969 : BitVec 32 := 0#32
  let c0_i32_1970 : BitVec 32 := 0#32
  let c0_i32_1971 : BitVec 32 := 0#32
  ![v2247.toNat, 14, 0, 0, 0]
def k0_off64 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1972 : BitVec 32 := 0#32
  let c14_i32_1967 : BitVec 32 := 14#32
  let c0_i32_1973 : BitVec 32 := 0#32
  ![v2250.toNat, 0, 14, 0]
def k0_off65 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1767 : BitVec 32 := 2#32
  let v2246 : BitVec 32 := Scalar.addi arg21 c2_i32_1767
  let c2_i32_1768 : BitVec 32 := 2#32
  let v2247 : BitVec 32 := Scalar.remsi v2246 c2_i32_1768
  let c15_i32_1982 : BitVec 32 := 15#32
  let c0_i32_1983 : BitVec 32 := 0#32
  let c0_i32_1984 : BitVec 32 := 0#32
  let c0_i32_1985 : BitVec 32 := 0#32
  ![v2247.toNat, 15, 0, 0, 0]
def k0_off66 (d0 : Dev nD) (k0_t1 : Fin k0_t1_loop.trips) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c64_i32 : BitVec 32 := 64#32
  let v11 : BitVec 32 := Scalar.muli v10 c64_i32
  let c0_i32_704 : BitVec 32 := 0#32
  let c1_i32_706 : BitVec 32 := 1#32
  let arg21 : BitVec 32 := Scf.iv c0_i32_704 c1_i32_706 k0_t1
  let c2_i32_1769 : BitVec 32 := 2#32
  let v2248 : BitVec 32 := Scalar.addi arg21 c2_i32_1769
  let c32_i32_1770 : BitVec 32 := 32#32
  let v2249 : BitVec 32 := Scalar.muli v2248 c32_i32_1770
  let v2250 : BitVec 32 := Scalar.addi v11 v2249
  let c0_i32_1986 : BitVec 32 := 0#32
  let c15_i32_1981 : BitVec 32 := 15#32
  let c0_i32_1987 : BitVec 32 := 0#32
  ![v2250.toNat, 0, 15, 0]
def k0_off67 (k0_t1 : Fin k0_t1_loop.trips) : Fin 3 → Nat :=
  let c0_i32_704 : BitVec 32 := 0#32
  let c1_i32_706 : BitVec 32 := 1#32
  let arg21 : BitVec 32 := Scf.iv c0_i32_704 c1_i32_706 k0_t1
  let v1501 : Index := Scalar.indexCast arg21
  let c0_1266 : Index := 0#32
  let c0_1267 : Index := 0#32
  ![v1501.toNat, 0, 0]
def k0_off68 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1512 : Index := Scalar.indexCast v1304
  let c0_1271 : Index := 0#32
  let c0_1272 : Index := 0#32
  let c0_1273 : Index := 0#32
  let c0_1274 : Index := 0#32
  ![v1512.toNat, 0, 0, 0, 0]
def k0_off69 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1558 : Index := Scalar.indexCast v1304
  let c1_1302 : Index := 1#32
  let c0_1303 : Index := 0#32
  let c0_1304 : Index := 0#32
  let c0_1305 : Index := 0#32
  ![v1558.toNat, 1, 0, 0, 0]
def k0_off70 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1604 : Index := Scalar.indexCast v1304
  let c2_1333 : Index := 2#32
  let c0_1334 : Index := 0#32
  let c0_1335 : Index := 0#32
  let c0_1336 : Index := 0#32
  ![v1604.toNat, 2, 0, 0, 0]
def k0_off71 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1650 : Index := Scalar.indexCast v1304
  let c3_1364 : Index := 3#32
  let c0_1365 : Index := 0#32
  let c0_1366 : Index := 0#32
  let c0_1367 : Index := 0#32
  ![v1650.toNat, 3, 0, 0, 0]
def k0_off72 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1696 : Index := Scalar.indexCast v1304
  let c4_1395 : Index := 4#32
  let c0_1396 : Index := 0#32
  let c0_1397 : Index := 0#32
  let c0_1398 : Index := 0#32
  ![v1696.toNat, 4, 0, 0, 0]
def k0_off73 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1742 : Index := Scalar.indexCast v1304
  let c5_1426 : Index := 5#32
  let c0_1427 : Index := 0#32
  let c0_1428 : Index := 0#32
  let c0_1429 : Index := 0#32
  ![v1742.toNat, 5, 0, 0, 0]
def k0_off74 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1788 : Index := Scalar.indexCast v1304
  let c6_1457 : Index := 6#32
  let c0_1458 : Index := 0#32
  let c0_1459 : Index := 0#32
  let c0_1460 : Index := 0#32
  ![v1788.toNat, 6, 0, 0, 0]
def k0_off75 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1834 : Index := Scalar.indexCast v1304
  let c7_1488 : Index := 7#32
  let c0_1489 : Index := 0#32
  let c0_1490 : Index := 0#32
  let c0_1491 : Index := 0#32
  ![v1834.toNat, 7, 0, 0, 0]
def k0_off76 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1880 : Index := Scalar.indexCast v1304
  let c8_1519 : Index := 8#32
  let c0_1520 : Index := 0#32
  let c0_1521 : Index := 0#32
  let c0_1522 : Index := 0#32
  ![v1880.toNat, 8, 0, 0, 0]
def k0_off77 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1926 : Index := Scalar.indexCast v1304
  let c9_1550 : Index := 9#32
  let c0_1551 : Index := 0#32
  let c0_1552 : Index := 0#32
  let c0_1553 : Index := 0#32
  ![v1926.toNat, 9, 0, 0, 0]
def k0_off78 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v1972 : Index := Scalar.indexCast v1304
  let c10_1581 : Index := 10#32
  let c0_1582 : Index := 0#32
  let c0_1583 : Index := 0#32
  let c0_1584 : Index := 0#32
  ![v1972.toNat, 10, 0, 0, 0]
def k0_off79 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v2018 : Index := Scalar.indexCast v1304
  let c11_1612 : Index := 11#32
  let c0_1613 : Index := 0#32
  let c0_1614 : Index := 0#32
  let c0_1615 : Index := 0#32
  ![v2018.toNat, 11, 0, 0, 0]
def k0_off80 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v2064 : Index := Scalar.indexCast v1304
  let c12_1643 : Index := 12#32
  let c0_1644 : Index := 0#32
  let c0_1645 : Index := 0#32
  let c0_1646 : Index := 0#32
  ![v2064.toNat, 12, 0, 0, 0]
def k0_off81 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v2110 : Index := Scalar.indexCast v1304
  let c13_1674 : Index := 13#32
  let c0_1675 : Index := 0#32
  let c0_1676 : Index := 0#32
  let c0_1677 : Index := 0#32
  ![v2110.toNat, 13, 0, 0, 0]
def k0_off82 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v2156 : Index := Scalar.indexCast v1304
  let c14_1705 : Index := 14#32
  let c0_1706 : Index := 0#32
  let c0_1707 : Index := 0#32
  let c0_1708 : Index := 0#32
  ![v2156.toNat, 14, 0, 0, 0]
def k0_off83 (k0_t1 : Fin k0_t1_loop.trips) : Fin 5 → Nat :=
  let c0_i32_704 : BitVec 32 := 0#32
  let c1_i32_706 : BitVec 32 := 1#32
  let arg21 : BitVec 32 := Scf.iv c0_i32_704 c1_i32_706 k0_t1
  let c2_i32_1006 : BitVec 32 := 2#32
  let v1304 : BitVec 32 := Scalar.remsi arg21 c2_i32_1006
  let v2202 : Index := Scalar.indexCast v1304
  let c15_1736 : Index := 15#32
  let c0_1737 : Index := 0#32
  let c0_1738 : Index := 0#32
  let c0_1739 : Index := 0#32
  ![v2202.toNat, 15, 0, 0, 0]
def k0_dev4 (d0 : Dev nD) : Nat :=
  let c0_i32_736 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_735 : BitVec 32 := 4#32
  let v1022 : BitVec 32 := Scalar.muli v2 c4_i32_735
  let v1023 : BitVec 32 := Scalar.addi c0_i32_736 v1022
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_737 : BitVec 32 := 2#32
  let v1024 : BitVec 32 := Scalar.muli v5 c2_i32_737
  let v1025 : BitVec 32 := Scalar.addi v1023 v1024
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c1_i32_738 : BitVec 32 := 1#32
  let v1026 : BitVec 32 := Scalar.muli v15 c1_i32_738
  let v1027 : BitVec 32 := Scalar.addi v1025 v1026
  v1027.toNat
def k0_dev5 (d0 : Dev nD) : Nat :=
  let c0_i32_746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_745 : BitVec 32 := 4#32
  let v1034 : BitVec 32 := Scalar.muli v2 c4_i32_745
  let v1035 : BitVec 32 := Scalar.addi c0_i32_746 v1034
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_747 : BitVec 32 := 2#32
  let v1036 : BitVec 32 := Scalar.muli v5 c2_i32_747
  let v1037 : BitVec 32 := Scalar.addi v1035 v1036
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c1_i32_748 : BitVec 32 := 1#32
  let v1038 : BitVec 32 := Scalar.muli v15 c1_i32_748
  let v1039 : BitVec 32 := Scalar.addi v1037 v1038
  v1039.toNat
def k0_dev6 (d0 : Dev nD) : Nat :=
  let c0_i32_826 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_825 : BitVec 32 := 4#32
  let v1115 : BitVec 32 := Scalar.muli v2 c4_i32_825
  let v1116 : BitVec 32 := Scalar.addi c0_i32_826 v1115
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_4 v5
  let c2_i32_827 : BitVec 32 := 2#32
  let v1117 : BitVec 32 := Scalar.muli v14 c2_i32_827
  let v1118 : BitVec 32 := Scalar.addi v1116 v1117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_828 : BitVec 32 := 1#32
  let v1119 : BitVec 32 := Scalar.muli v8 c1_i32_828
  let v1120 : BitVec 32 := Scalar.addi v1118 v1119
  v1120.toNat
def k0_dev7 (d0 : Dev nD) : Nat :=
  let c0_i32_836 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_835 : BitVec 32 := 4#32
  let v1127 : BitVec 32 := Scalar.muli v2 c4_i32_835
  let v1128 : BitVec 32 := Scalar.addi c0_i32_836 v1127
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_4 v5
  let c2_i32_837 : BitVec 32 := 2#32
  let v1129 : BitVec 32 := Scalar.muli v14 c2_i32_837
  let v1130 : BitVec 32 := Scalar.addi v1128 v1129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_838 : BitVec 32 := 1#32
  let v1131 : BitVec 32 := Scalar.muli v8 c1_i32_838
  let v1132 : BitVec 32 := Scalar.addi v1130 v1131
  v1132.toNat
def k0_dev8 (d0 : Dev nD) : Nat :=
  let c0_i32_916 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_6 v2
  let c4_i32_915 : BitVec 32 := 4#32
  let v1208 : BitVec 32 := Scalar.muli v16 c4_i32_915
  let v1209 : BitVec 32 := Scalar.addi c0_i32_916 v1208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_917 : BitVec 32 := 2#32
  let v1210 : BitVec 32 := Scalar.muli v5 c2_i32_917
  let v1211 : BitVec 32 := Scalar.addi v1209 v1210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_918 : BitVec 32 := 1#32
  let v1212 : BitVec 32 := Scalar.muli v8 c1_i32_918
  let v1213 : BitVec 32 := Scalar.addi v1211 v1212
  v1213.toNat
def k0_dev9 (d0 : Dev nD) : Nat :=
  let c0_i32_926 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_6 v2
  let c4_i32_925 : BitVec 32 := 4#32
  let v1220 : BitVec 32 := Scalar.muli v16 c4_i32_925
  let v1221 : BitVec 32 := Scalar.addi c0_i32_926 v1220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_927 : BitVec 32 := 2#32
  let v1222 : BitVec 32 := Scalar.muli v5 c2_i32_927
  let v1223 : BitVec 32 := Scalar.addi v1221 v1222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_928 : BitVec 32 := 1#32
  let v1224 : BitVec 32 := Scalar.muli v8 c1_i32_928
  let v1225 : BitVec 32 := Scalar.addi v1223 v1224
  v1225.toNat
abbrev stage0_0 : Fin 1 → Memref sig .tc .vmem S32x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x128 : Shape := ⟨3, ![32, 16, 128]⟩
abbrev S32x16x8192 : Shape := ⟨3, ![32, 16, 8192]⟩
abbrev S32x1 : Shape := ⟨2, ![32, 1]⟩
abbrev S32x256x32 : Shape := ⟨3, ![32, 256, 32]⟩
abbrev S32x1x8192 : Shape := ⟨3, ![32, 1, 8192]⟩
abbrev S32x16 : Shape := ⟨2, ![32, 16]⟩
abbrev S32x16x1 : Shape := ⟨3, ![32, 16, 1]⟩

abbrev nBuf : Space → Nat
  | .hbm => 55
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S32x8192x16x128, .f32⟩
  | .hbm, ⟨15, _⟩ => ⟨S_, .i32⟩
  | .hbm, ⟨16, _⟩ => ⟨S32x256, .i32⟩
  | .hbm, ⟨17, _⟩ => ⟨S32x256, .i1⟩
  | .hbm, ⟨18, _⟩ => ⟨S_, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S32x256x1, .i32⟩
  | .hbm, ⟨23, _⟩ => ⟨S32x256x32x16x128, .f32⟩
  | .hbm, ⟨24, _⟩ => ⟨S32x8192x16x128, .f32⟩
  | .hbm, ⟨25, _⟩ => ⟨S32x16x128, .f32⟩
  | .hbm, ⟨26, _⟩ => ⟨S32x16x8192, .f32⟩
  | .hbm, ⟨27, _⟩ => ⟨S_, .f32⟩
  | .hbm, ⟨28, _⟩ => ⟨S32x16x8192, .f32⟩
  | .hbm, ⟨29, _⟩ => ⟨S32x16x8192, .f32⟩
  | .hbm, ⟨30, _⟩ => ⟨S32x256, .i32⟩
  | .hbm, ⟨31, _⟩ => ⟨S32x1, .i32⟩
  | .hbm, ⟨32, _⟩ => ⟨S32x256, .i32⟩
  | .hbm, ⟨33, _⟩ => ⟨S32x256, .i1⟩
  | .hbm, ⟨34, _⟩ => ⟨S32x256x1, .i1⟩
  | .hbm, ⟨35, _⟩ => ⟨S32x256x32, .i1⟩
  | .hbm, ⟨36, _⟩ => ⟨S32x1x8192, .i1⟩
  | .hbm, ⟨37, _⟩ => ⟨S_, .f32⟩
  | .hbm, ⟨38, _⟩ => ⟨S_, .f32⟩
  | .hbm, ⟨39, _⟩ => ⟨S32x16x8192, .i1⟩
  | .hbm, ⟨40, _⟩ => ⟨S32x16x8192, .f32⟩
  | .hbm, ⟨41, _⟩ => ⟨S32x16x8192, .f32⟩
  | .hbm, ⟨42, _⟩ => ⟨S_, .f32⟩
  | .hbm, ⟨43, _⟩ => ⟨S32x16, .f32⟩
  | .hbm, ⟨44, _⟩ => ⟨S32x16x1, .f32⟩
  | .hbm, ⟨45, _⟩ => ⟨S32x16x8192, .f32⟩
  | .hbm, ⟨46, _⟩ => ⟨S32x16x8192, .f32⟩
  | .hbm, ⟨47, _⟩ => ⟨S32x16x8192, .f32⟩
  | .hbm, ⟨48, _⟩ => ⟨S_, .f32⟩
  | .hbm, ⟨49, _⟩ => ⟨S32x16, .f32⟩
  | .hbm, ⟨50, _⟩ => ⟨S32x16x1, .f32⟩
  | .hbm, ⟨51, _⟩ => ⟨S32x16x8192, .f32⟩
  | .hbm, ⟨52, _⟩ => ⟨S32x16x8192, .f32⟩
  | .hbm, ⟨53, _⟩ => ⟨S32x16x128, .f32⟩
  | .hbm, ⟨54, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Prog.lean ====
/-
The kernel's body, written once with its repeated pieces as functions of their indices.

The printed body unrolls everything: thirty-two copies of each of the two windows, thirty-two rows of
page counts, sixteen heads in a loop, three exchange stages. Here each such piece is ONE program of its
index (`startCopy`, `readRow`, `waitCopy`, `head`, `stage`), a sequence of them runs over a list of indices, and
`body_eq`/`trip_eq` state that the printed body is this program, by unfolding both.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Paged

open Cert.KernelIdeal Cert.KernelIdeal.Gen
open Idealize.ShloMosaic Idealize.SL.Sem

variable {F : FTy → Type} [FloatOps F]

/-! ## The buffers -/

abbrev qM : Memref sig .tc .vmem S32x1x16x128 .f32 := Memref.whole cc0_stg0_0
abbrev kM : Memref sig .tc .hbm S256x32x16x128 .f32 := Memref.whole main_arg1
abbrev vM : Memref sig .tc .hbm S256x32x16x128 .f32 := Memref.whole main_arg2
abbrev btM : Memref sig .tc .vmem S32x256 .i32 := Memref.whole cc0_stg1_0
abbrev lenM : Memref sig .tc .smem S32 .i32 := Memref.whole cc0_stg2_0
abbrev outM : Memref sig .tc .vmem S32x1x16x128 .f32 := Memref.whole cc0_stg3_0
abbrev oaM : Memref sig .tc .vmem S32x16x128 .f32 := Memref.whole cc0_scratch0
abbrev stM : Memref sig .tc .vmem S2x32x16 .f32 := Memref.whole cc0_scratch1
abbrev sbM : Memref sig .tc .vmem S32x16x128 .bf16 := Memref.whole cc0_scratch2
abbrev orM : Memref sig .tc .vmem S3x32x16x128 .bf16 := Memref.whole cc0_scratch3
abbrev srM : Memref sig .tc .vmem S3x2x32x16 .f32 := Memref.whole cc0_scratch4
abbrev kbM : Memref sig .tc .vmem S2x16x32x32x128 .f32 := Memref.whole cc0_scratch5
abbrev vbM : Memref sig .tc .vmem S2x16x32x32x128 .f32 := Memref.whole cc0_scratch6
abbrev mM : Memref sig .tc .vmem S16x32x1 .f32 := Memref.whole cc0_scratch7
abbrev lM : Memref sig .tc .vmem S16x32x1 .f32 := Memref.whole cc0_scratch8
abbrev oM : Memref sig .tc .vmem S16x32x128 .f32 := Memref.whole cc0_scratch9
abbrev mkM : Memref sig .tc .vmem S2x32x1024 .f32 := Memref.whole cc0_scratch10
abbrev kcS : DmaSems sig S3 := cc0_scratch11
abbrev vcS : DmaSems sig S3 := cc0_scratch12
abbrev sendS : DmaSems sig S6 := cc0_scratch13
abbrev recvS : DmaSems sig S6 := cc0_scratch14
abbrev barS : Sems sig S_ := SemArray.scalar (sig.barrier 0 rfl)

/-- Run one program per index of a list, in order. -/
def seqL {ι : Type} : List ι → (ι → Prog (TpuEff nD τ sig (Elt F) Λ₀ .tc) PUnit) → Prog (TpuEff nD τ sig (Elt F) Λ₀ .tc) PUnit → Prog (TpuEff nD τ sig (Elt F) Λ₀ .tc) PUnit
  | [], _, k => k
  | i :: is, f, k => (f i) >>= fun _ => seqL is f k

/-- The sixteen heads in order. -/
abbrev heads : List (Fin 16) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩]

/-- The thirty-two requests in order. -/
abbrev reqs : List (Fin 32) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩]

/-- A buffer half with a head. -/
abbrev SH : Type := Fin 2 × Fin 16
/-- The two halves' heads in order. -/
abbrev slotHeads : List SH := [(⟨0, by decide⟩, ⟨0, by decide⟩), (⟨0, by decide⟩, ⟨1, by decide⟩), (⟨0, by decide⟩, ⟨2, by decide⟩), (⟨0, by decide⟩, ⟨3, by decide⟩), (⟨0, by decide⟩, ⟨4, by decide⟩), (⟨0, by decide⟩, ⟨5, by decide⟩), (⟨0, by decide⟩, ⟨6, by decide⟩), (⟨0, by decide⟩, ⟨7, by decide⟩), (⟨0, by decide⟩, ⟨8, by decide⟩), (⟨0, by decide⟩, ⟨9, by decide⟩), (⟨0, by decide⟩, ⟨10, by decide⟩), (⟨0, by decide⟩, ⟨11, by decide⟩), (⟨0, by decide⟩, ⟨12, by decide⟩), (⟨0, by decide⟩, ⟨13, by decide⟩), (⟨0, by decide⟩, ⟨14, by decide⟩), (⟨0, by decide⟩, ⟨15, by decide⟩), (⟨1, by decide⟩, ⟨0, by decide⟩), (⟨1, by decide⟩, ⟨1, by decide⟩), (⟨1, by decide⟩, ⟨2, by decide⟩), (⟨1, by decide⟩, ⟨3, by decide⟩), (⟨1, by decide⟩, ⟨4, by decide⟩), (⟨1, by decide⟩, ⟨5, by decide⟩), (⟨1, by decide⟩, ⟨6, by decide⟩), (⟨1, by decide⟩, ⟨7, by decide⟩), (⟨1, by decide⟩, ⟨8, by decide⟩), (⟨1, by decide⟩, ⟨9, by decide⟩), (⟨1, by decide⟩, ⟨10, by decide⟩), (⟨1, by decide⟩, ⟨11, by decide⟩), (⟨1, by decide⟩, ⟨12, by decide⟩), (⟨1, by decide⟩, ⟨13, by decide⟩), (⟨1, by decide⟩, ⟨14, by decide⟩), (⟨1, by decide⟩, ⟨15, by decide⟩)]

/-! ## The window copies -/

/-- The printed word a buffer half is counted by: half 0 starts 0 pages in, half 1 starts 32 pages in. -/
def halfWord (s : Fin 2) : BitVec 32 :=
  match s with
  | ⟨0, _⟩ => 0#32
  | ⟨1, _⟩ => 32#32

/-- Where the window of a half and a head starts in a device's block, as printed. -/
def srcOff (c : Dev nD) (s : Fin 2) (h : Fin 16) : Fin 4 → ℕ :=
  match h.val with
  | 0 => k0_off1 c (halfWord s)
  | 1 => k0_off2 c (halfWord s)
  | 2 => k0_off3 c (halfWord s)
  | 3 => k0_off4 c (halfWord s)
  | 4 => k0_off5 c (halfWord s)
  | 5 => k0_off6 c (halfWord s)
  | 6 => k0_off7 c (halfWord s)
  | 7 => k0_off8 c (halfWord s)
  | 8 => k0_off9 c (halfWord s)
  | 9 => k0_off10 c (halfWord s)
  | 10 => k0_off11 c (halfWord s)
  | 11 => k0_off12 c (halfWord s)
  | 12 => k0_off13 c (halfWord s)
  | 13 => k0_off14 c (halfWord s)
  | 14 => k0_off15 c (halfWord s)
  | _ => k0_off16 c (halfWord s)

/-- The start of a window in closed form: the device's page window, thirty-two pages per half; the head. -/
theorem srcOff_eq : ∀ (c : Dev nD) (s : Fin 2) (h : Fin 16), srcOff c s h = ![128 * (c.val / 4) + 64 * (c.val % 2) + 32 * s.val, 0, h.val, 0] := by decide +kernel

theorem srcOff_inb : ∀ (c : Dev nD) (s : Fin 2) (h : Fin 16), ∀ a, srcOff c s h a + S32x32x1x128.size a ≤ S256x32x16x128.size a := by decide +kernel

theorem bufOff_inb : ∀ (s : Fin 2) (h : Fin 16), ∀ a, (![s.val, h.val, 0, 0, 0] : Fin 5 → ℕ) a + S1x1x32x32x128.size a ≤ S2x16x32x32x128.size a := by decide +kernel

theorem semOff_inb : ∀ (s : Fin 2), ∀ a, (![s.val] : Fin 1 → ℕ) a + S1.size a ≤ S3.size a := by decide +kernel

/-- The window of a cache's block that half `s` of head `h` holds. -/
abbrev srcW (M : Memref sig .tc .hbm S256x32x16x128 .f32) (c : Dev nD) (s : Fin 2) (h : Fin 16) : Memref sig .tc .hbm S32x32x128 .f32 :=
  (M.slice (Rect.unit (s := S256x32x16x128) (srcOff c s h) S32x32x1x128.size (srcOff_inb c s h)) (fun _ => rfl)).squeeze S32x32x128 squeezes_S32x32x1x128_S32x32x128
/-- The part of a copy buffer that half `s` of head `h` occupies. -/
abbrev dstW (M : Memref sig .tc .vmem S2x16x32x32x128 .f32) (s : Fin 2) (h : Fin 16) : Memref sig .tc .vmem S32x32x128 .f32 :=
  (M.slice (Rect.unit (s := S2x16x32x32x128) ![s.val, h.val, 0, 0, 0] S1x1x32x32x128.size (bufOff_inb s h)) (fun _ => rfl)).squeeze S32x32x128 squeezes_S1x1x32x32x128_S32x32x128
/-- The semaphore of half `s`. -/
abbrev halfS (S : DmaSems sig S3) (s : Fin 2) : DmaSems sig S_ :=
  (S.slice (Rect.unit (s := S3) ![s.val] S1.size (semOff_inb s))).squeeze S_ squeezes_S1_S_

/-- Start the copies of one half and head: keys, then values. -/
def startCopy (c : Dev nD) (sh : SH) : Prog (TpuEff nD τ sig (Elt F) Λ₀ .tc) PUnit := do
  Prog.lift (.enqueueDma (srcW kM c sh.1 sh.2) (.here (dstW kbM sh.1 sh.2)) (.dma (halfS kcS sh.1).sem) ((View.wordExact_bits rfl).reshape _ _) ((View.wordExact_bits rfl).reshape _ _) ⟨Or.inl rfl, trivial⟩)
  Prog.lift (.enqueueDma (srcW vM c sh.1 sh.2) (.here (dstW vbM sh.1 sh.2)) (.dma (halfS vcS sh.1).sem) ((View.wordExact_bits rfl).reshape _ _) ((View.wordExact_bits rfl).reshape _ _) ⟨Or.inl rfl, trivial⟩)

/-! ## The page counts -/

theorem rowOff_inb : ∀ (b : Fin 32), ∀ a, (![b.val, 0] : Fin 2 → ℕ) a + S1x256.size a ≤ S32x256.size a := by decide +kernel
theorem lenOff_inb : ∀ (b : Fin 32), ∀ a, (![b.val] : Fin 1 → ℕ) a + S1.size a ≤ S32.size a := by decide +kernel

/-- A request's row of the page table and its length. -/
abbrev Row (F : FTy → Type) : Type := (Vec F S1x256 .i32) × Elt F .i32

/-- Read the rows of a list of requests, handing them on in order. -/
def readRows {α : Type} : List (Fin 32) → (List (Row F) → Prog (TpuEff nD τ sig (Elt F) Λ₀ .tc) α) → Prog (TpuEff nD τ sig (Elt F) Λ₀ .tc) α
  | [], k => k []
  | b :: bs, k =>
    (Prog.lift (.load btM (Rect.unit (s := S32x256) ![b.val, 0] S1x256.size (rowOff_inb b)).toLoadRect (View.loadsAt_vmem h_S1x256))) >>= fun r =>
    (smemLoad lenM (Rect.unit (s := S32) ![b.val] S1.size (lenOff_inb b)) numel1_S1 rfl) >>= fun n =>
    readRows bs fun rs => k ((r, n) :: rs)

/-- One request's counts: how often each of the sixty-four pages from `v13` on stands among the first
    `n` entries of its row. -/
def rowCount (v13 : BitVec 32) (p : Row F) : FVec F S1x64 .f32 := k0_pay158 v13 p.1 p.2

/-- The counts of all thirty-two requests. -/
def counts (v13 : BitVec 32) (f : Fin 32 → Row F) : FVec F S32x64 .f32 :=
  concatenate S32x64 0 [⟨S1x64, rowCount v13 (f ⟨0, by decide⟩)⟩, ⟨S1x64, rowCount v13 (f ⟨1, by decide⟩)⟩, ⟨S1x64, rowCount v13 (f ⟨2, by decide⟩)⟩, ⟨S1x64, rowCount v13 (f ⟨3, by decide⟩)⟩, ⟨S1x64, rowCount v13 (f ⟨4, by decide⟩)⟩, ⟨S1x64, rowCount v13 (f ⟨5, by decide⟩)⟩, ⟨S1x64, rowCount v13 (f ⟨6, by decide⟩)⟩, ⟨S1x64, rowCount v13 (f ⟨7, by decide⟩)⟩, ⟨S1x64, rowCount v13 (f ⟨8, by decide⟩)⟩, ⟨S1x64, rowCount v13 (f ⟨9, by decide⟩)⟩, ⟨S1x64, rowCount v13 (f ⟨10, by decide⟩)⟩, ⟨S1x64, rowCount v13 (f ⟨11, by decide⟩)⟩, ⟨S1x64, rowCount v13 (f ⟨12, by decide⟩)⟩, ⟨S1x64, rowCount v13 (f ⟨13, by decide⟩)⟩, ⟨S1x64, rowCount v13 (f ⟨14, by decide⟩)⟩, ⟨S1x64, rowCount v13 (f ⟨15, by decide⟩)⟩, ⟨S1x64, rowCount v13 (f ⟨16, by decide⟩)⟩, ⟨S1x64, rowCount v13 (f ⟨17, by decide⟩)⟩, ⟨S1x64, rowCount v13 (f ⟨18, by decide⟩)⟩, ⟨S1x64, rowCount v13 (f ⟨19, by decide⟩)⟩, ⟨S1x64, rowCount v13 (f ⟨20, by decide⟩)⟩, ⟨S1x64, rowCount v13 (f ⟨21, by decide⟩)⟩, ⟨S1x64, rowCount v13 (f ⟨22, by decide⟩)⟩, ⟨S1x64, rowCount v13 (f ⟨23, by decide⟩)⟩, ⟨S1x64, rowCount v13 (f ⟨24, by decide⟩)⟩, ⟨S1x64, rowCount v13 (f ⟨25, by decide⟩)⟩, ⟨S1x64, rowCount v13 (f ⟨26, by decide⟩)⟩, ⟨S1x64, rowCount v13 (f ⟨27, by decide⟩)⟩, ⟨S1x64, rowCount v13 (f ⟨28, by decide⟩)⟩, ⟨S1x64, rowCount v13 (f ⟨29, by decide⟩)⟩, ⟨S1x64, rowCount v13 (f ⟨30, by decide⟩)⟩, ⟨S1x64, rowCount v13 (f ⟨31, by decide⟩)⟩] concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S32x64_d0

/-- The counts of a half's thirty-two pages, one per token. -/
def maskPay0 (v13 : BitVec 32) (f : Fin 32 → Row F) : FVec F S1x32x1024 .f32 :=
  shapeCast S1x32x1024 (shapeCast S32x1024 (broadcastTo S32x32x32 (shapeCast S32x32x1 (shapeCast S32x32x1 (extractStridedSlice S32x32 ![0, 0] (counts v13 f) slices_S32x64_o0_0_S32x32) shapeCasts_S32x32_S32x32x1) shapeCasts_S32x32x1_S32x32x1) broadcasts_S32x32x1_S32x32x32) shapeCasts_S32x32x32_S32x1024) shapeCasts_S32x1024_S1x32x1024
/-- The counts of the second half. -/
def maskPay1 (v13 : BitVec 32) (f : Fin 32 → Row F) : FVec F S1x32x1024 .f32 :=
  shapeCast S1x32x1024 (shapeCast S32x1024 (broadcastTo S32x32x32 (shapeCast S32x32x1 (shapeCast S32x32x1 (extractStridedSlice S32x32 ![0, 32] (counts v13 f) slices_S32x64_o0_32_S32x32) shapeCasts_S32x32_S32x32x1) shapeCasts_S32x32x1_S32x32x1) broadcasts_S32x32x1_S32x32x32) shapeCasts_S32x32x32_S32x1024) shapeCasts_S32x1024_S1x32x1024

/-- The rows read, by request. -/
def rowAt (rs : List (Row F)) (b : Fin 32) : Row F := rs.getD b.val (fun _ => 0#32, 0#32)

/-- Write the counts of the two halves. -/
def storeMask (v13 : BitVec 32) (rs : List (Row F)) : Prog (TpuEff nD τ sig (Elt F) Λ₀ .tc) PUnit := do
  let _v ← Prog.lift (.load mkM (Rect.unit (s := S2x32x1024) ![0, 0, 0] S1x32x1024.size inb_S2x32x1024_S1x32x1024_0_0_0).toLoadRect (View.loadsAt_vmem h_S1x32x1024))
  Prog.lift (.store mkM (Rect.unit (s := S2x32x1024) ![0, 0, 0] S1x32x1024.size inb_S2x32x1024_S1x32x1024_0_0_0) (maskPay0 v13 (rowAt rs)) Finset.univ (View.stores_vmem_bits_univ h_S1x32x1024 rfl) (.inl rfl))
  let _v ← Prog.lift (.load mkM (Rect.unit (s := S2x32x1024) ![1, 0, 0] S1x32x1024.size inb_S2x32x1024_S1x32x1024_1_0_0).toLoadRect (View.loadsAt_vmem h_S1x32x1024))
  Prog.lift (.store mkM (Rect.unit (s := S2x32x1024) ![1, 0, 0] S1x32x1024.size inb_S2x32x1024_S1x32x1024_1_0_0) (maskPay1 v13 (rowAt rs)) Finset.univ (View.stores_vmem_bits_univ h_S1x32x1024 rfl) (.inl rfl))

/-! ## One head of one trip -/

/-- Where a trip's head is waited for, as printed. -/
def waitOff (k : Fin k0_t1_loop.trips) (h : Fin 16) : Fin 5 → ℕ :=
  match h.val with
  | 0 => k0_off18 k
  | 1 => k0_off19 k
  | 2 => k0_off20 k
  | 3 => k0_off21 k
  | 4 => k0_off22 k
  | 5 => k0_off23 k
  | 6 => k0_off24 k
  | 7 => k0_off25 k
  | 8 => k0_off26 k
  | 9 => k0_off27 k
  | 10 => k0_off28 k
  | 11 => k0_off29 k
  | 12 => k0_off30 k
  | 13 => k0_off31 k
  | 14 => k0_off32 k
  | _ => k0_off33 k

/-- Where a trip's head is read, as printed. -/
def bufOff (k : Fin k0_t1_loop.trips) (h : Fin 16) : Fin 5 → ℕ :=
  match h.val with
  | 0 => k0_off68 k
  | 1 => k0_off69 k
  | 2 => k0_off70 k
  | 3 => k0_off71 k
  | 4 => k0_off72 k
  | 5 => k0_off73 k
  | 6 => k0_off74 k
  | 7 => k0_off75 k
  | 8 => k0_off76 k
  | 9 => k0_off77 k
  | 10 => k0_off78 k
  | 11 => k0_off79 k
  | 12 => k0_off80 k
  | 13 => k0_off81 k
  | 14 => k0_off82 k
  | _ => k0_off83 k

theorem waitOff_eq : ∀ (k : Fin k0_t1_loop.trips) (h : Fin 16), waitOff k h = ![k.val, h.val, 0, 0, 0] := by decide +kernel
theorem readOff_eq : ∀ (k : Fin k0_t1_loop.trips) (h : Fin 16), bufOff k h = ![k.val, h.val, 0, 0, 0] := by decide +kernel
theorem waitOff_inb : ∀ (k : Fin k0_t1_loop.trips) (h : Fin 16), ∀ a, waitOff k h a + S1x1x32x32x128.size a ≤ S2x16x32x32x128.size a := by decide +kernel
theorem readOff_inb : ∀ (k : Fin k0_t1_loop.trips) (h : Fin 16), ∀ a, bufOff k h a + S1x1x32x32x128.size a ≤ S2x16x32x32x128.size a := by decide +kernel
theorem waitSrc_inb : ∀ (h : Fin 16), ∀ a, (![0, 0, h.val, 0] : Fin 4 → ℕ) a + S32x32x1x128.size a ≤ S256x32x16x128.size a := by decide +kernel
theorem statOff_inb : ∀ (h : Fin 16), ∀ a, (![h.val, 0, 0] : Fin 3 → ℕ) a + S1x32x1.size a ≤ S16x32x1.size a := by decide +kernel
theorem accOff_inb : ∀ (h : Fin 16), ∀ a, (![h.val, 0, 0] : Fin 3 → ℕ) a + S1x32x128.size a ≤ S16x32x128.size a := by decide +kernel
theorem qSlice : ∀ (h : Fin 16), S32x16x128.Slices (![0, h.val, 0] : Fin 3 → ℕ) S32x1x128 := by decide +kernel

/-- The semaphore a trip waits on. -/
abbrev tripS (S : DmaSems sig S3) (k : Fin k0_t1_loop.trips) : DmaSems sig S_ :=
  (S.slice (Rect.unit (s := S3) (k0_off17 k) S1.size (k0_off17_inb k))).squeeze S_ squeezes_S1_S_
/-- The buffer part a wait names. -/
abbrev waitW (M : Memref sig .tc .vmem S2x16x32x32x128 .f32) (k : Fin k0_t1_loop.trips) (h : Fin 16) : Memref sig .tc .vmem S32x32x128 .f32 :=
  (M.slice (Rect.unit (s := S2x16x32x32x128) (waitOff k h) S1x1x32x32x128.size (waitOff_inb k h)) (fun _ => rfl)).squeeze S32x32x128 squeezes_S1x1x32x32x128_S32x32x128
/-- The block part a wait names. -/
abbrev waitSrcW (M : Memref sig .tc .hbm S256x32x16x128 .f32) (h : Fin 16) : Memref sig .tc .hbm S32x32x128 .f32 :=
  (M.slice (Rect.unit (s := S256x32x16x128) ![0, 0, h.val, 0] S32x32x1x128.size (waitSrc_inb h)) (fun _ => rfl)).squeeze S32x32x128 squeezes_S32x32x1x128_S32x32x128

/-- Wait for one head's copies of a trip: keys, then values. -/
def waitCopy (k : Fin k0_t1_loop.trips) (h : Fin 16) : Prog (TpuEff nD τ sig (Elt F) Λ₀ .tc) PUnit := do
  Prog.lift (.waitDma2 (tripS kcS k).sem (waitSrcW kM h) (waitW kbM k h) ((View.wordExact_bits rfl).reshape _ _) ((View.wordExact_bits rfl).reshape _ _))
  Prog.lift (.waitDma2 (tripS vcS k).sem (waitSrcW vM h) (waitW vbM k h) ((View.wordExact_bits rfl).reshape _ _) ((View.wordExact_bits rfl).reshape _ _))

/-- Scores of one head: scaled products, and the shift that takes absent pages out of the maximum. -/
def scores (h : Fin 16) (q : FVec F S32x16x128 .f32) (mk : Vec F S1x32x1024 .f32) (kk : Vec F S1x1x32x32x128 .f32) : FVec F S32x1024 .f32 :=
  addf (mulf (matmul dot_S32x128_S1024x128_S32x1024_1_1_0_0_n_n none
      (shapeCast S32x128 (extractStridedSlice S32x1x128 ![0, h.val, 0] q (qSlice h)) shapeCasts_S32x1x128_S32x128)
      (k0_pay4 kk) (constant S32x1024 .f32 0x00000000#32))
    (broadcast S32x1024 (Scalar.ofBits .f32 0x3DB504F3#32))) (k0_pay3 mk)
/-- The head's new maximum. -/
def mNew (s : FVec F S32x1024 .f32) (m : Vec F S1x32x1 .f32) : FVec F S32x1 .f32 :=
  maximumf (k0_pay6 m) (shapeCast S32x1 (multiReduction .maximumf [1] S32 s 0xFF800000#32 reduces_S32x1024_S32 (.inl rfl) rfl) shapeCasts_S32_S32x1)
/-- The factor the old sums are carried over by. -/
def alpha (s : FVec F S32x1024 .f32) (m : Vec F S1x32x1 .f32) : FVec F S32x1 .f32 := exp (subf (k0_pay6 m) (mNew s m))
/-- The weights: each token's exponential times its page's count. -/
def weights (s : FVec F S32x1024 .f32) (mk : Vec F S1x32x1024 .f32) (m : Vec F S1x32x1 .f32) : FVec F S32x1024 .f32 := k0_pay9 (k0_pay2 mk) s (mNew s m)
/-- The head's maximum, stored. -/
def mOut (s : FVec F S32x1024 .f32) (m : Vec F S1x32x1 .f32) : FVec F S1x32x1 .f32 := k0_pay11 (mNew s m)
/-- The head's sum of weights, stored. -/
def lOut (s : FVec F S32x1024 .f32) (mk : Vec F S1x32x1024 .f32) (m l : Vec F S1x32x1 .f32) : FVec F S1x32x1 .f32 :=
  k0_pay10 (k0_pay2 mk) s (mNew s m) (alpha s m) l
/-- The head's weighted sum of values, stored. -/
def oOut (s : FVec F S32x1024 .f32) (mk : Vec F S1x32x1024 .f32) (vv : Vec F S1x1x32x32x128 .f32) (m : Vec F S1x32x1 .f32) (o : Vec F S1x32x128 .f32) : FVec F S1x32x128 .f32 :=
  k0_pay12 (k0_pay2 mk) (k0_pay4 vv) s (mNew s m) (alpha s m) o

/-- One head of a trip: read its keys, values and running maximum, sum and product, and update the three. -/
def head (q : FVec F S32x16x128 .f32) (mk : Vec F S1x32x1024 .f32) (k : Fin k0_t1_loop.trips) (h : Fin 16) : Prog (TpuEff nD τ sig (Elt F) Λ₀ .tc) PUnit := do
  let kk ← Prog.lift (.load kbM (Rect.unit (s := S2x16x32x32x128) (bufOff k h) S1x1x32x32x128.size (readOff_inb k h)).toLoadRect (View.loadsAt_vmem h_S1x1x32x32x128))
  let vv ← Prog.lift (.load vbM (Rect.unit (s := S2x16x32x32x128) (bufOff k h) S1x1x32x32x128.size (readOff_inb k h)).toLoadRect (View.loadsAt_vmem h_S1x1x32x32x128))
  let m ← Prog.lift (.load mM (Rect.unit (s := S16x32x1) ![h.val, 0, 0] S1x32x1.size (statOff_inb h)).toLoadRect (View.loadsAt_vmem h_S1x32x1))
  let l ← Prog.lift (.load lM (Rect.unit (s := S16x32x1) ![h.val, 0, 0] S1x32x1.size (statOff_inb h)).toLoadRect (View.loadsAt_vmem h_S1x32x1))
  let _l ← Prog.lift (.load lM (Rect.unit (s := S16x32x1) ![h.val, 0, 0] S1x32x1.size (statOff_inb h)).toLoadRect (View.loadsAt_vmem h_S1x32x1))
  Prog.lift (.store lM (Rect.unit (s := S16x32x1) ![h.val, 0, 0] S1x32x1.size (statOff_inb h)) (lOut (scores h q mk kk) mk m l) Finset.univ (View.stores_vmem_bits_univ h_S1x32x1 rfl) (.inl rfl))
  let _m ← Prog.lift (.load mM (Rect.unit (s := S16x32x1) ![h.val, 0, 0] S1x32x1.size (statOff_inb h)).toLoadRect (View.loadsAt_vmem h_S1x32x1))
  Prog.lift (.store mM (Rect.unit (s := S16x32x1) ![h.val, 0, 0] S1x32x1.size (statOff_inb h)) (mOut (scores h q mk kk) m) Finset.univ (View.stores_vmem_bits_univ h_S1x32x1 rfl) (.inl rfl))
  let o ← Prog.lift (.load oM (Rect.unit (s := S16x32x128) ![h.val, 0, 0] S1x32x128.size (accOff_inb h)).toLoadRect (View.loadsAt_vmem h_S1x32x128))
  let _o ← Prog.lift (.load oM (Rect.unit (s := S16x32x128) ![h.val, 0, 0] S1x32x128.size (accOff_inb h)).toLoadRect (View.loadsAt_vmem h_S1x32x128))
  Prog.lift (.store oM (Rect.unit (s := S16x32x128) ![h.val, 0, 0] S1x32x128.size (accOff_inb h)) (oOut (scores h q mk kk) mk vv m o) Finset.univ (View.stores_vmem_bits_univ h_S1x32x128 rfl) (.inl rfl))

/-- One trip: wait for its copies, read its counts, and go through the heads. (The printed trip also has a
    branch that would start a next copy; no trip takes it.) -/
def trip (q : FVec F S32x16x128 .f32) (k : Fin k0_t1_loop.trips) : Prog (TpuEff nD τ sig (Elt F) Λ₀ .tc) PUnit :=
  seqL heads (waitCopy k) <|
  (Prog.lift (.load mkM (Rect.unit (s := S2x32x1024) (k0_off67 k) S1x32x1024.size (k0_off67_inb k)).toLoadRect (View.loadsAt_vmem h_S1x32x1024))) >>= fun mk =>
  seqL heads (head q mk k) (pure ⟨⟩)

/-! ## One exchange stage -/

/-- The neighbour a stage's products go to, as printed. -/
def devO (c : Dev nD) (s : Fin 3) : Dev nD :=
  match s.val with
  | 0 => ⟨k0_dev4 c, k0_dev4_lt c⟩
  | 1 => ⟨k0_dev6 c, k0_dev6_lt c⟩
  | _ => ⟨k0_dev8 c, k0_dev8_lt c⟩

/-- The neighbour a stage's statistics go to, as printed. -/
def devT (c : Dev nD) (s : Fin 3) : Dev nD :=
  match s.val with
  | 0 => ⟨k0_dev5 c, k0_dev5_lt c⟩
  | 1 => ⟨k0_dev7 c, k0_dev7_lt c⟩
  | _ => ⟨k0_dev9 c, k0_dev9_lt c⟩

/-- One transfer of the exchange: its stage, and whether it carries the statistics (or the products). -/
abbrev SB : Type := Fin 3 × Bool

/-- A transfer's place in an array of six semaphores. -/
def six (d : SB) : ℕ := 2 * d.1.val + d.2.toNat

theorem six_inb : ∀ (d : SB), ∀ a, (![six d] : Fin 1 → ℕ) a + S1.size a ≤ S6.size a := by decide +kernel
theorem orOff_inb : ∀ (s : Fin 3), ∀ a, (![s.val, 0, 0, 0] : Fin 4 → ℕ) a + S1x32x16x128.size a ≤ S3x32x16x128.size a := by decide +kernel
theorem srOff_inb : ∀ (s : Fin 3), ∀ a, (![s.val, 0, 0, 0] : Fin 4 → ℕ) a + S1x2x32x16.size a ≤ S3x2x32x16.size a := by decide +kernel
theorem sr0_inb : ∀ (s : Fin 3), ∀ a, (![s.val, 0, 0, 0] : Fin 4 → ℕ) a + S1x1x32x16.size a ≤ S3x2x32x16.size a := by decide +kernel
theorem sr1_inb : ∀ (s : Fin 3), ∀ a, (![s.val, 1, 0, 0] : Fin 4 → ℕ) a + S1x1x32x16.size a ≤ S3x2x32x16.size a := by decide +kernel
theorem orWords (s : Fin 3) : (Rect.unit (s := S3x32x16x128) ![s.val, 0, 0, 0] S1x32x16x128.size (orOff_inb s)).WholeWords (EltTy.packing .bf16) :=
  match s with
  | ⟨0, _⟩ => wordsbf16_S3x32x16x128_S1x32x16x128_0_0_0_0
  | ⟨1, _⟩ => wordsbf16_S3x32x16x128_S1x32x16x128_1_0_0_0
  | ⟨2, _⟩ => wordsbf16_S3x32x16x128_S1x32x16x128_2_0_0_0

/-- A transfer's semaphore of an array of six. -/
abbrev stS (S : DmaSems sig S6) (d : SB) : DmaSems sig S_ := (S.slice (Rect.unit (s := S6) ![six d] S1.size (six_inb d))).squeeze S_ squeezes_S1_S_
/-- Where a stage's products land, and its statistics. -/
abbrev orW (s : Fin 3) : Memref sig .tc .vmem S32x16x128 .bf16 :=
  (orM.slice (Rect.unit (s := S3x32x16x128) ![s.val, 0, 0, 0] S1x32x16x128.size (orOff_inb s)) (fun _ => rfl)).squeeze S32x16x128 squeezes_S1x32x16x128_S32x16x128
abbrev srW (s : Fin 3) : Memref sig .tc .vmem S2x32x16 .f32 :=
  (srM.slice (Rect.unit (s := S3x2x32x16) ![s.val, 0, 0, 0] S1x2x32x16.size (srOff_inb s)) (fun _ => rfl)).squeeze S2x32x16 squeezes_S1x2x32x16_S2x32x16

theorem sbWhole : (sbM : Memref sig .tc .vmem S32x16x128 .bf16).IsWhole := Memref.isWhole_whole _
theorem orWhole : (orM : Memref sig .tc .vmem S3x32x16x128 .bf16).IsWhole := Memref.isWhole_whole _
theorem stWhole : (stM : Memref sig .tc .vmem S2x32x16 .f32).IsWhole := Memref.isWhole_whole _

/-- Round the products for sending. -/
def pack : Prog (TpuEff nD τ sig (Elt F) Λ₀ .tc) PUnit := do
  let o ← Prog.lift (.load oaM (Rect.unit (s := S32x16x128) ![0, 0, 0] S32x16x128.size inb_S32x16x128_S32x16x128_0_0_0).toLoadRect (View.loadsAt_vmem h_S32x16x128))
  let _o ← Prog.lift (.load sbM (Rect.unit (s := S32x16x128) ![0, 0, 0] S32x16x128.size inb_S32x16x128_S32x16x128_0_0_0).toLoadRect (View.loadsAt_vmem h_S32x16x128))
  Prog.lift (.store sbM (Rect.unit (s := S32x16x128) ![0, 0, 0] S32x16x128.size inb_S32x16x128_S32x16x128_0_0_0) (k0_pay213 o) Finset.univ (View.stores_vmem h_S32x16x128 (sbWhole.storeExact_slice rfl _ packedbf16_S32x16x128_S32x16x128_0_0_0) (fun _ => rfl)) (.inl rfl))

/-- The exchange of a stage: both transfers to the neighbour, and the four waits. -/
def exchange (c : Dev nD) (s : Fin 3) : Prog (TpuEff nD τ sig (Elt F) Λ₀ .tc) PUnit := do
  Prog.lift (.enqueueDma sbM (.remote (Dev.tc (devO c s)) (orW s) (.dma (stS sendS (s, false)).sem)) (.dma (stS recvS (s, false)).sem) sbWhole.wordExact ((orWhole.wordExact_slice rfl _ (orWords s)).reshape _ _) ⟨⟨rfl, Or.inl rfl⟩, trivial⟩)
  Prog.lift (.enqueueDma stM (.remote (Dev.tc (devT c s)) (srW s) (.dma (stS sendS (s, true)).sem)) (.dma (stS recvS (s, true)).sem) stWhole.wordExact ((View.wordExact_bits rfl).reshape _ _) ⟨⟨rfl, Or.inl rfl⟩, trivial⟩)
  Prog.lift (.waitDma2 (stS sendS (s, false)).sem (orW s) sbM ((orWhole.wordExact_slice rfl _ (orWords s)).reshape _ _) sbWhole.wordExact)
  Prog.lift (.waitDma2 (stS recvS (s, false)).sem sbM (orW s) sbWhole.wordExact ((orWhole.wordExact_slice rfl _ (orWords s)).reshape _ _))
  Prog.lift (.waitDma2 (stS sendS (s, true)).sem (srW s) stM ((View.wordExact_bits rfl).reshape _ _) stWhole.wordExact)
  Prog.lift (.waitDma2 (stS recvS (s, true)).sem stM (srW s) stWhole.wordExact ((View.wordExact_bits rfl).reshape _ _))

/-- The merge of a stage: own and received maximum, sum and products become one. -/
def merge (s : Fin 3) : Prog (TpuEff nD τ sig (Elt F) Λ₀ .tc) PUnit := do
  let m ← Prog.lift (.load stM (Rect.unit (s := S2x32x16) ![0, 0, 0] S1x32x16.size inb_S2x32x16_S1x32x16_0_0_0).toLoadRect (View.loadsAt_vmem h_S1x32x16))
  let l ← Prog.lift (.load stM (Rect.unit (s := S2x32x16) ![1, 0, 0] S1x32x16.size inb_S2x32x16_S1x32x16_1_0_0).toLoadRect (View.loadsAt_vmem h_S1x32x16))
  let m' ← Prog.lift (.load srM (Rect.unit (s := S3x2x32x16) ![s.val, 0, 0, 0] S1x1x32x16.size (sr0_inb s)).toLoadRect (View.loadsAt_vmem h_S1x1x32x16))
  let l' ← Prog.lift (.load srM (Rect.unit (s := S3x2x32x16) ![s.val, 1, 0, 0] S1x1x32x16.size (sr1_inb s)).toLoadRect (View.loadsAt_vmem h_S1x1x32x16))
  let _m ← Prog.lift (.load stM (Rect.unit (s := S2x32x16) ![0, 0, 0] S1x32x16.size inb_S2x32x16_S1x32x16_0_0_0).toLoadRect (View.loadsAt_vmem h_S1x32x16))
  Prog.lift (.store stM (Rect.unit (s := S2x32x16) ![0, 0, 0] S1x32x16.size inb_S2x32x16_S1x32x16_0_0_0) (k0_pay219 m m') Finset.univ (View.stores_vmem_bits_univ h_S1x32x16 rfl) (.inl rfl))
  let _l ← Prog.lift (.load stM (Rect.unit (s := S2x32x16) ![1, 0, 0] S1x32x16.size inb_S2x32x16_S1x32x16_1_0_0).toLoadRect (View.loadsAt_vmem h_S1x32x16))
  Prog.lift (.store stM (Rect.unit (s := S2x32x16) ![1, 0, 0] S1x32x16.size inb_S2x32x16_S1x32x16_1_0_0) (k0_pay221 (k0_pay220 m l m' l')) Finset.univ (View.stores_vmem_bits_univ h_S1x32x16 rfl) (.inl rfl))
  let o ← Prog.lift (.load oaM (Rect.unit (s := S32x16x128) ![0, 0, 0] S32x16x128.size inb_S32x16x128_S32x16x128_0_0_0).toLoadRect (View.loadsAt_vmem h_S32x16x128))
  let o' ← Prog.lift (.load orM (Rect.unit (s := S3x32x16x128) ![s.val, 0, 0, 0] S1x32x16x128.size (orOff_inb s)).toLoadRect (View.loadsAt_vmem h_S1x32x16x128))
  let _o ← Prog.lift (.load oaM (Rect.unit (s := S32x16x128) ![0, 0, 0] S32x16x128.size inb_S32x16x128_S32x16x128_0_0_0).toLoadRect (View.loadsAt_vmem h_S32x16x128))
  Prog.lift (.store oaM (Rect.unit (s := S32x16x128) ![0, 0, 0] S32x16x128.size inb_S32x16x128_S32x16x128_0_0_0) (k0_pay222 (k0_pay217 m m') (k0_pay218 m m') o o') Finset.univ (View.stores_vmem_bits_univ h_S32x16x128 rfl) (.inl rfl))

/-- One stage. -/
def stage (c : Dev nD) (s : Fin 3) : Prog (TpuEff nD τ sig (Elt F) Λ₀ .tc) PUnit := do
  pack
  exchange c s
  merge s

/-! ## The rest of the body -/

/-- Signal the three neighbours and wait for theirs. -/
def barrier (c : Dev nD) : Prog (TpuEff nD τ sig (Elt F) Λ₀ .tc) PUnit := do
  semSignalWord (⟨k0_dev1 c, k0_dev1_lt c⟩ : Dev nD) barS.sem 1#32
  semSignalWord (⟨k0_dev2 c, k0_dev2_lt c⟩ : Dev nD) barS.sem 1#32
  semSignalWord (⟨k0_dev3 c, k0_dev3_lt c⟩ : Dev nD) barS.sem 1#32
  semWaitWord barS.sem 3#32

/-- The first page of the device's window in the whole cache, as printed. -/
def pageWord (c : Dev nD) : BitVec 32 :=
  Scalar.addi (Scalar.muli (Scalar.remsi (Scalar.divsi (Dev.word c) 2#32) 2#32) 256#32)
    (Scalar.muli (Scalar.addi (Scalar.muli (Scalar.remsi (Scalar.divsi (Dev.word c) 4#32) 2#32) 2#32) (Scalar.remsi (Scalar.divsi (Dev.word c) 1#32) 2#32)) 64#32)

/-- Clear the running maximum, sum and products. -/
def init : Prog (TpuEff nD τ sig (Elt F) Λ₀ .tc) PUnit := do
  let _v ← Prog.lift (.load mM (Rect.unit (s := S16x32x1) ![0, 0, 0] S16x32x1.size inb_S16x32x1_S16x32x1_0_0_0).toLoadRect (View.loadsAt_vmem h_S16x32x1))
  Prog.lift (.store mM (Rect.unit (s := S16x32x1) ![0, 0, 0] S16x32x1.size inb_S16x32x1_S16x32x1_0_0_0) (k0_pay204 (k0_pay203 (F := F))) Finset.univ (View.stores_vmem_bits_univ h_S16x32x1 rfl) (.inl rfl))
  let _v ← Prog.lift (.load lM (Rect.unit (s := S16x32x1) ![0, 0, 0] S16x32x1.size inb_S16x32x1_S16x32x1_0_0_0).toLoadRect (View.loadsAt_vmem h_S16x32x1))
  Prog.lift (.store lM (Rect.unit (s := S16x32x1) ![0, 0, 0] S16x32x1.size inb_S16x32x1_S16x32x1_0_0_0) (k0_pay205 (F := F)) Finset.univ (View.stores_vmem_bits_univ h_S16x32x1 rfl) (.inl rfl))
  let _v ← Prog.lift (.load oM (Rect.unit (s := S16x32x128) ![0, 0, 0] S16x32x128.size inb_S16x32x128_S16x32x128_0_0_0).toLoadRect (View.loadsAt_vmem h_S16x32x128))
  Prog.lift (.store oM (Rect.unit (s := S16x32x128) ![0, 0, 0] S16x32x128.size inb_S16x32x128_S16x32x128_0_0_0) (k0_pay206 (F := F)) Finset.univ (View.stores_vmem_bits_univ h_S16x32x128 rfl) (.inl rfl))

/-- Lay the loop's results out for the exchange. -/
def layOut : Prog (TpuEff nD τ sig (Elt F) Λ₀ .tc) PUnit := do
  let m ← Prog.lift (.load mM (Rect.unit (s := S16x32x1) ![0, 0, 0] S16x32x1.size inb_S16x32x1_S16x32x1_0_0_0).toLoadRect (View.loadsAt_vmem h_S16x32x1))
  let _v ← Prog.lift (.load stM (Rect.unit (s := S2x32x16) ![0, 0, 0] S1x32x16.size inb_S2x32x16_S1x32x16_0_0_0).toLoadRect (View.loadsAt_vmem h_S1x32x16))
  Prog.lift (.store stM (Rect.unit (s := S2x32x16) ![0, 0, 0] S1x32x16.size inb_S2x32x16_S1x32x16_0_0_0) (k0_pay209 m) Finset.univ (View.stores_vmem_bits_univ h_S1x32x16 rfl) (.inl rfl))
  let l ← Prog.lift (.load lM (Rect.unit (s := S16x32x1) ![0, 0, 0] S16x32x1.size inb_S16x32x1_S16x32x1_0_0_0).toLoadRect (View.loadsAt_vmem h_S16x32x1))
  let _v ← Prog.lift (.load stM (Rect.unit (s := S2x32x16) ![1, 0, 0] S1x32x16.size inb_S2x32x16_S1x32x16_1_0_0).toLoadRect (View.loadsAt_vmem h_S1x32x16))
  Prog.lift (.store stM (Rect.unit (s := S2x32x16) ![1, 0, 0] S1x32x16.size inb_S2x32x16_S1x32x16_1_0_0) (k0_pay211 (k0_pay210 l)) Finset.univ (View.stores_vmem_bits_univ h_S1x32x16 rfl) (.inl rfl))
  let o ← Prog.lift (.load oM (Rect.unit (s := S16x32x128) ![0, 0, 0] S16x32x128.size inb_S16x32x128_S16x32x128_0_0_0).toLoadRect (View.loadsAt_vmem h_S16x32x128))
  let _v ← Prog.lift (.load oaM (Rect.unit (s := S32x16x128) ![0, 0, 0] S32x16x128.size inb_S32x16x128_S32x16x128_0_0_0).toLoadRect (View.loadsAt_vmem h_S32x16x128))
  Prog.lift (.store oaM (Rect.unit (s := S32x16x128) ![0, 0, 0] S32x16x128.size inb_S32x16x128_S32x16x128_0_0_0) (k0_pay212 o) Finset.univ (View.stores_vmem_bits_univ h_S32x16x128 rfl) (.inl rfl))

/-- Divide the merged products by the merged sums. -/
def finish : Prog (TpuEff nD τ sig (Elt F) Λ₀ .tc) PUnit := do
  let o ← Prog.lift (.load oaM (Rect.unit (s := S32x16x128) ![0, 0, 0] S32x16x128.size inb_S32x16x128_S32x16x128_0_0_0).toLoadRect (View.loadsAt_vmem h_S32x16x128))
  let l ← Prog.lift (.load stM (Rect.unit (s := S2x32x16) ![1, 0, 0] S1x32x16.size inb_S2x32x16_S1x32x16_1_0_0).toLoadRect (View.loadsAt_vmem h_S1x32x16))
  let _v ← Prog.lift (.load outM (Rect.unit (s := S32x1x16x128) ![0, 0, 0, 0] S32x1x16x128.size inb_S32x1x16x128_S32x1x16x128_0_0_0_0).toLoadRect (View.loadsAt_vmem h_S32x1x16x128))
  Prog.lift (.store outM (Rect.unit (s := S32x1x16x128) ![0, 0, 0, 0] S32x1x16x128.size inb_S32x1x16x128_S32x1x16x128_0_0_0_0) (k0_pay1 o l) Finset.univ (View.stores_vmem_bits_univ h_S32x1x16x128 rfl) (.inl rfl))

/-- The loop, over any body. -/
abbrev loopOf (f : Fin k0_t1_loop.trips → Unit → Prog (TpuEff nD τ sig (Elt F) Λ₀ .tc) Unit) : Prog (TpuEff nD τ sig (Elt F) Λ₀ .tc) Unit :=
  Scf.Loop.for k0_t1_loop k0_t1_ok ⟨⟩ f

/-- What follows the copies' start, over the loop body. -/
def afterLoop (c : Dev nD) : Prog (TpuEff nD τ sig (Elt F) Λ₀ .tc) PUnit := do
  layOut
  stage c ⟨0, by decide⟩
  stage c ⟨1, by decide⟩
  stage c ⟨2, by decide⟩
  finish

/-- The whole body on device `c`, over the loop's body. -/
def bodyOf (c : Dev nD) (f : Vec F S32x1x16x128 .f32 → Fin k0_t1_loop.trips → Unit → Prog (TpuEff nD τ sig (Elt F) Λ₀ .tc) Unit) : Prog (TpuEff nD τ sig (Elt F) Λ₀ .tc) PUnit :=
  (barrier c) >>= fun _ =>
  seqL slotHeads (startCopy c) <|
  readRows reqs fun rs =>
  (storeMask (pageWord c) rs) >>= fun _ =>
  init >>= fun _ =>
  (Prog.lift (.load qM (Rect.unit (s := S32x1x16x128) ![0, 0, 0, 0] S32x1x16x128.size inb_S32x1x16x128_S32x1x16x128_0_0_0_0).toLoadRect (View.loadsAt_vmem h_S32x1x16x128))) >>= fun q =>
  (loopOf (f q)) >>= fun _ =>
  afterLoop c

/-- The loop's printed body, on the launch's buffers. -/
abbrev printedTrip (c : Dev nD) (v11 : BitVec 32) (v985 : FVec F S16x32x1 .f32) (q : Vec F S32x1x16x128 .f32) : Fin k0_t1_loop.trips → Unit → Prog (TpuEff nD τ sig (Elt F) Λ₀ .tc) Unit :=
  k0_t1_body qM (Memref.isWhole_whole _) kM (Memref.isWhole_whole _) vM (Memref.isWhole_whole _) btM (Memref.isWhole_whole _) lenM (Memref.isWhole_whole _) outM (Memref.isWhole_whole _) oaM (Memref.isWhole_whole _) stM (Memref.isWhole_whole _) sbM (Memref.isWhole_whole _) orM (Memref.isWhole_whole _) srM (Memref.isWhole_whole _) kbM (Memref.isWhole_whole _) vbM (Memref.isWhole_whole _) mM (Memref.isWhole_whole _) lM (Memref.isWhole_whole _) oM (Memref.isWhole_whole _) mkM (Memref.isWhole_whole _) kcS vcS sendS recvS c v11 v985 q

end Cert.Paged
-- ==== Proof.Protocol.lean ====
/-
The protocol of the exchange: which cell is waited on for what, what each landing hands over, and the order of the
waits. It is stated over what the devices send (`P` the rounded products, `T` the statistics, by stage and device).
-/
module

public import proofs.«01_k».proof.Proof.Prog
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Batch
public import Idealize.ShloMosaic.Lib.Tactic

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local copies' counters -/

abbrev UB : Type := URounds (GSem nD τ sig) SB
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb (U := UU)

/-! ## Neighbours -/

/-- The neighbour of a device at a stage: along z, then y, then x. -/
def nb (s : Fin 3) (c : Dev nD) : Dev nD :=
  match s, c with
  | ⟨s, _⟩, ⟨c, h⟩ => ⟨(c ^^^ (2 ^ s)) % 8, Nat.mod_lt _ (by decide)⟩

theorem nb_nb : ∀ (s : Fin 3) (c : Dev nD), nb s (nb s c) = c := by decide
theorem devO_eq : ∀ (s : Fin 3) (c : Dev nD), devO c s = nb s c := by decide +kernel
theorem devT_eq : ∀ (s : Fin 3) (c : Dev nD), devT c s = nb s c := by decide +kernel
theorem dev1_eq : ∀ c : Dev nD, (⟨k0_dev1 c, k0_dev1_lt c⟩ : Dev nD) = nb 1 c := by decide +kernel
theorem dev2_eq : ∀ c : Dev nD, (⟨k0_dev2 c, k0_dev2_lt c⟩ : Dev nD) = nb 0 c := by decide +kernel
theorem dev3_eq : ∀ c : Dev nD, (⟨k0_dev3 c, k0_dev3_lt c⟩ : Dev nD) = nb 2 c := by decide +kernel

/-! ## The cells -/

abbrev barSem : Sem sig := (barS : Sems sig S_).sem
abbrev barCell (c : Dev nD) : GSem nD τ sig := ((c : Thread nD τ), .reg barSem)
abbrev sendCell (c : Dev nD) (d : SB) : GSem nD τ sig := ((c : Thread nD τ), .dma (stS sendS d).sem)
abbrev recvCell (c : Dev nD) (d : SB) : GSem nD τ sig := ((c : Thread nD τ), .dma (stS recvS d).sem)

/-- The cells of the protocol on one device: the barrier's, and each transfer's two (`true` its receiver's). -/
abbrev CK : Type := Option (SB × Bool)
abbrev csem : CK → SemLoc sig
  | none => .reg barSem
  | some (d, false) => .dma (stS sendS d).sem
  | some (d, true) => .dma (stS recvS d).sem
abbrev kcell (ck : Dev nD × CK) : GSem nD τ sig := ((ck.1 : Thread nD τ), csem ck.2)

theorem csem_inj : ∀ k k' : CK, csem k = csem k' → k = k' := by decide +kernel
theorem send_inj {d d' : SB} (h : (SemLoc.dma (stS sendS d).sem : SemLoc sig) = .dma (stS sendS d').sem) : d = d' := by
  have := csem_inj (some (d, false)) (some (d', false)) h; simpa using this
theorem recv_inj {d d' : SB} (h : (SemLoc.dma (stS recvS d).sem : SemLoc sig) = .dma (stS recvS d').sem) : d = d' := by
  have := csem_inj (some (d, true)) (some (d', true)) h; simpa using this
theorem send_ne_recv {d d' : SB} : (SemLoc.dma (stS sendS d).sem : SemLoc sig) ≠ .dma (stS recvS d').sem := fun h => by
  have := csem_inj (some (d, false)) (some (d', true)) h; simp at this
theorem send_ne_bar {d : SB} : (SemLoc.dma (stS sendS d).sem : SemLoc sig) ≠ .reg barSem := fun h => by cases h
theorem recv_ne_bar {d : SB} : (SemLoc.dma (stS recvS d).sem : SemLoc sig) ≠ .reg barSem := fun h => by cases h

/-- The units one transfer credits. -/
def cr (d : SB) : ℕ := if d.2 then (srW d.1).view.dmaCredit else (orW d.1).view.dmaCredit
theorem cr_false (s : Fin 3) : cr (s, false) = (orW s).view.dmaCredit := rfl
theorem cr_true (s : Fin 3) : cr (s, true) = (srW s).view.dmaCredit := rfl
theorem cr_pos (d : SB) : 0 < cr d := by
  unfold cr; split <;> exact View.dmaCredit_pos _ (by decide)

/-! ## The schedule -/

variable (P : Fin 3 → Dev nD → Vec F S32x16x128 .bf16) (T : Fin 3 → Dev nD → Vec F S2x32x16 .f32)

/-- The elements of a memref on a device, at any contents. -/
def anyAt {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)

instance anyAt_storable {sp : Space} {s : Shape} {e : EltTy} (c : Dev nD) (M : Memref sig .tc sp s e) :
    BI.Storable (upEmb : UEmb _ 𝕄) (anyAt (F := F) c M) := by unfold anyAt; infer_instance

/-- A device's landing windows of a stage, at any contents. -/
def landing (c : Dev nD) (s : Fin 3) : sProp 𝕄 := iprop(anyAt c (orW s) ∗ anyAt c (srW s))

/-- What a landing hands its receiver: the window holding what the neighbour sent. -/
def recvPay (c : Dev nD) (d : SB) : sProp 𝕄 :=
  if d.2 then owns (c : Thread nD τ) (srW d.1) fullShare (T d.1 (nb d.1 c)) else owns (c : Thread nD τ) (orW d.1) fullShare (P d.1 (nb d.1 c))
/-- What a finished send hands back: its source. -/
def sendPay (c : Dev nD) (d : SB) : sProp 𝕄 :=
  if d.2 then owns (c : Thread nD τ) stM fullShare (T d.1 c) else owns (c : Thread nD τ) sbM fullShare (P d.1 c)

instance landing_storable (c : Dev nD) (s : Fin 3) : BI.Storable (upEmb : UEmb _ 𝕄) (landing (F := F) c s) := by unfold landing; infer_instance
instance recvPay_storable (c : Dev nD) (d : SB) : BI.Storable (upEmb : UEmb _ 𝕄) (recvPay (F := F) P T c d) := by
  unfold recvPay; split <;> infer_instance
instance sendPay_storable (c : Dev nD) (d : SB) : BI.Storable (upEmb : UEmb _ 𝕄) (sendPay (F := F) P T c d) := by
  unfold sendPay; split <;> infer_instance

/-- One round: a barrier cell has one duty of one unit for each neighbour, who hands its landing windows; a transfer's
    two cells have one duty of the transfer's credit each. -/
def rd : Rounds.Schedule (GSem nD τ sig) SB 𝕄 where
  duties g r :=
    if r = 0 ∧ g.1.2 = .tc then
      (if g.2 = .reg barSem then Finset.univ.filter (fun d : SB => d.2 = false)
       else Finset.univ.filter fun d : SB => g.2 = .dma (stS sendS d).sem ∨ g.2 = .dma (stS recvS d).sem)
    else ∅
  unitless _ := False
  amount g _ d := if g.2 = .reg barSem then 1 else cr d
  payload g _ d :=
    if g.2 = .reg barSem then landing (nb d.1 g.1.1) d.1
    else if g.2 = .dma (stS recvS d).sem then recvPay P T g.1.1 d
    else if g.2 = .dma (stS sendS d).sem then sendPay P T g.1.1 d
    else iprop(emp)
  amount_pos g _ d _ := by
    by_cases h : g.2 = .reg barSem
    · rw [if_pos h]; exact Nat.one_pos
    · rw [if_neg h]; exact cr_pos d

instance rd_payload_storable (g : GSem nD τ sig) (r : ℕ) (d : SB) :
    BI.Storable (upEmb : UEmb _ 𝕄) ((rd (F := F) P T).payload g r d) := by
  show BI.Storable upEmb (if g.2 = .reg barSem then landing (nb d.1 g.1.1) d.1
    else if g.2 = .dma (stS recvS d).sem then recvPay P T g.1.1 d
    else if g.2 = .dma (stS sendS d).sem then sendPay P T g.1.1 d else iprop(emp))
  (repeat' split) <;> infer_instance

section Sched
variable (c : Dev nD) (d : SB)

theorem duties_bar : (rd (F := F) P T).duties (barCell c) 0 = {((0 : Fin 3), false), ((1 : Fin 3), false), ((2 : Fin 3), false)} := by
  dsimp only [rd]; rw [if_pos ⟨rfl, rfl⟩, if_pos rfl]; decide
theorem duties_send : (rd (F := F) P T).duties (sendCell c d) 0 = {d} := by
  dsimp only [rd]; rw [if_pos ⟨rfl, rfl⟩, if_neg send_ne_bar]
  ext d'; simp only [Finset.mem_filter, Finset.mem_univ, true_and, Finset.mem_singleton]
  exact ⟨fun h => h.elim (fun h => (send_inj h).symm) (fun h => absurd h send_ne_recv), fun h => .inl (by rw [h])⟩
theorem duties_recv : (rd (F := F) P T).duties (recvCell c d) 0 = {d} := by
  dsimp only [rd]; rw [if_pos ⟨rfl, rfl⟩, if_neg recv_ne_bar]
  ext d'; simp only [Finset.mem_filter, Finset.mem_univ, true_and, Finset.mem_singleton]
  exact ⟨fun h => h.elim (fun h => absurd h.symm send_ne_recv) (fun h => (recv_inj h).symm), fun h => .inr (by rw [h])⟩
theorem duties_later (g : GSem nD τ sig) : ∀ r, 1 ≤ r → (rd (F := F) P T).duties g r = ∅ :=
  fun r hr => by dsimp only [rd]; exact if_neg fun h => by omega

theorem amount_bar : (rd (F := F) P T).amount (barCell c) 0 d = 1 := by dsimp only [rd]; exact if_pos rfl
theorem amount_send : (rd (F := F) P T).amount (sendCell c d) 0 d = cr d := by dsimp only [rd]; exact if_neg send_ne_bar
theorem amount_recv : (rd (F := F) P T).amount (recvCell c d) 0 d = cr d := by dsimp only [rd]; exact if_neg recv_ne_bar

theorem expect_bar : (rd (F := F) P T).expect (barCell c) 0 = 3 := by
  unfold Schedule.expect Schedule.amountOf
  rw [duties_bar, Finset.sum_congr rfl fun d _ => amount_bar P T c d]; rfl
theorem expect_send : (rd (F := F) P T).expect (sendCell c d) 0 = cr d := by
  unfold Schedule.expect Schedule.amountOf; rw [duties_send, Finset.sum_singleton, amount_send]
theorem expect_recv : (rd (F := F) P T).expect (recvCell c d) 0 = cr d := by
  unfold Schedule.expect Schedule.amountOf; rw [duties_recv, Finset.sum_singleton, amount_recv]

theorem payload_bar : (rd (F := F) P T).payload (barCell c) 0 d = landing (nb d.1 c) d.1 := by dsimp only [rd]; exact if_pos rfl
theorem payload_recv : (rd (F := F) P T).payload (recvCell c d) 0 d = recvPay P T c d := by
  dsimp only [rd]; rw [if_neg recv_ne_bar, if_pos rfl]
theorem payload_send : (rd (F := F) P T).payload (sendCell c d) 0 d = sendPay P T c d := by
  dsimp only [rd]; rw [if_neg send_ne_bar, if_neg send_ne_recv, if_pos rfl]

/-- All of a barrier cell's round: the three neighbours' landing windows. -/
theorem rest_bar : bigSep ((rd (F := F) P T).duties (barCell c) 0 \ ∅) (fun d => (rd (F := F) P T).payload (barCell c) 0 d)
    = iprop(landing (nb 0 c) 0 ∗ landing (nb 1 c) 1 ∗ landing (nb 2 c) 2) := by
  rw [Finset.sdiff_empty, duties_bar, bigSep_insert (by decide), bigSep_insert (by decide), bigSep_singleton, payload_bar, payload_bar, payload_bar]
  rfl
theorem rest_send : bigSep ((rd (F := F) P T).duties (sendCell c d) 0 \ ∅) (fun d' => (rd (F := F) P T).payload (sendCell c d) 0 d') = sendPay P T c d := by
  rw [Finset.sdiff_empty, duties_send, bigSep_singleton, payload_send]
theorem rest_recv : bigSep ((rd (F := F) P T).duties (recvCell c d) 0 \ ∅) (fun d' => (rd (F := F) P T).payload (recvCell c d) 0 d') = recvPay P T c d := by
  rw [Finset.sdiff_empty, duties_recv, bigSep_singleton, payload_recv]

end Sched

/-! ## What each device owes; the levels -/

/-- What a device still owes its neighbours' receive cells from a stage on. -/
def owedFrom (n : ℕ) (c : Dev nD) : CellTallies nD τ sig Unit :=
  ∑ d ∈ Finset.univ.filter (fun d : SB => n ≤ d.1.val), tallyAt (recvCell (nb d.1 c) d) () (cr d)

/-- A stage's two transfers peel off. -/
theorem owedFrom_stage (s : Fin 3) (c : Dev nD) :
    owedFrom s.val c = owedFrom (s.val + 1) c + tallyAt (recvCell (nb s c) (s, true)) () (cr (s, true)) + tallyAt (recvCell (nb s c) (s, false)) () (cr (s, false)) := by
  unfold owedFrom
  have h : (Finset.univ.filter fun d : SB => s.val ≤ d.1.val) = insert (s, false) (insert (s, true) (Finset.univ.filter fun d : SB => s.val + 1 ≤ d.1.val)) := by
    revert s; decide
  rw [h, Finset.sum_insert (by revert s; decide), Finset.sum_insert (by revert s; decide)]
  ac_rfl
theorem owedFrom_end (c : Dev nD) : owedFrom 3 c = 0 := by
  unfold owedFrom
  rw [show (Finset.univ.filter fun d : SB => 3 ≤ d.1.val) = ∅ from by decide, Finset.sum_empty]

/-- What a device owes at launch: its transfers, and one unit to each neighbour's barrier cell. -/
def O₀ (c : Dev nD) : CellTallies nD τ sig Unit :=
  owedFrom 0 c + tallyAt (barCell (nb 2 c)) () 1 + tallyAt (barCell (nb 0 c)) () 1 + tallyAt (barCell (nb 1 c)) () 1

def L (g : GSem nD τ sig) : Finset Unit := if g.1.2 = .tc then {()} else ∅
/-- Barrier cells at 1, the receive cells of stage `s` at `2 + s`, everything else at 0. -/
def lvS (sm : SemLoc sig) : ℕ :=
  if sm = .reg barSem then 1 else Finset.univ.sup fun d : SB => if sm = .dma (stS recvS d).sem then 2 + d.1.val else 0
def lv (g : GSem nD τ sig) (_ : Unit) : ℕ := lvS g.2

theorem lvS_bar : lvS (.reg barSem) = 1 := if_pos rfl
theorem lvS_recv : ∀ d : SB, lvS (.dma (stS recvS d).sem) = 2 + d.1.val := by decide +kernel
theorem lvS_send : ∀ d : SB, lvS (.dma (stS sendS d).sem) = 0 := by decide +kernel

theorem L_of_ne (g : GSem nD τ sig) (h : g.1.2 ≠ .tc) : L g = ∅ := if_neg h
theorem L_tc (c : Dev nD) (sm : SemLoc sig) : L ((c : Thread nD τ), sm) = {()} := if_pos rfl

theorem owedFrom_pos {n : ℕ} {c : Dev nD} {g : GSem nD τ sig} {u : Unit} (h : 0 < owedFrom n c g u) :
    ∃ d : SB, n ≤ d.1.val ∧ g = recvCell (nb d.1 c) d := by
  unfold owedFrom at h
  rw [Finset.sum_apply, Finsupp.finsetSum_apply] at h
  obtain ⟨d, hd, h⟩ := Finset.exists_ne_zero_of_sum_ne_zero (Nat.pos_iff_ne_zero.mp h)
  refine ⟨d, (Finset.mem_filter.mp hd).2, ?_⟩
  rw [tallyAt_apply] at h
  by_contra hn
  exact h (if_neg fun h' => hn h'.1)

theorem O₀_pos {c : Dev nD} {g : GSem nD τ sig} {u : Unit} (h : 0 < O₀ c g u) :
    (∃ d : SB, g = recvCell (nb d.1 c) d) ∨ ∃ s, g = barCell (nb s c) := by
  unfold O₀ at h
  simp only [Pi.add_apply, Finsupp.add_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨d, -, hd⟩ := owedFrom_pos (show 0 < owedFrom 0 c g u from h)
  exact hn.1 ⟨d, hd⟩

/-- A wait is allowed below everything owed. -/
theorem mayWait_below (c : Dev nD) (sm : SemLoc sig) (O : CellTallies nD τ sig Unit) (n : ℕ) (hs : lvS sm ≤ n)
    (hO : ∀ g u, 0 < O g u → ∃ (c' : Dev nD) (sm' : SemLoc sig), g = ((c' : Thread nD τ), sm') ∧ n < lvS sm') :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', sm', rfl, -⟩ := hO g u hg; exact Finset.mem_singleton_self _)
    (fun p hp => by rw [Finset.mem_singleton.mp hp]; exact hs)
    (fun g u hg => by obtain ⟨c', sm', rfl, h⟩ := hO g u hg; exact h)

/-- A wait of level below `2 + n` while the transfers from stage `n` on are owed. -/
theorem mayWait_owedFrom (c : Dev nD) (sm : SemLoc sig) (n : ℕ) (hs : lvS sm < 2 + n) :
    (levAts L lv : sProp 𝕄) ⊢ MayWait (c : Thread nD τ) sm () (owedFrom n c) :=
  mayWait_below c sm _ (1 + n) (by omega) fun g u hg => by
    obtain ⟨d, hd, rfl⟩ := owedFrom_pos hg
    exact ⟨_, _, rfl, by rw [lvS_recv]; omega⟩

/-- A wait at level 0 before the first signal. -/
theorem mayWait_start (c : Dev nD) (sm : SemLoc sig) (hs : lvS sm = 0) :
    (levAts L lv : sProp 𝕄) ⊢ MayWait (c : Thread nD τ) sm () (O₀ c) :=
  mayWait_below c sm _ 0 (by omega) fun g u hg => by
    rcases O₀_pos hg with ⟨d, rfl⟩ | ⟨s, rfl⟩
    · exact ⟨_, _, rfl, by rw [lvS_recv]; omega⟩
    · exact ⟨_, _, rfl, by rw [lvS_bar]; omega⟩

end Cert.Paged
-- ==== Proof.Exchange.lean ====
/-
One stage of the exchange, run: both transfers to the neighbour, the four waits, what they hand over.
-/
module

public import proofs.«01_k».proof.Proof.Protocol

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Fin 3 → Dev nD → Vec F S32x16x128 .bf16) (T : Fin 3 → Dev nD → Vec F S2x32x16 .f32)
variable (K : Dev nD × CK → ℕ)

/-- Every cell's invariant, and that it has reached its round. -/
def recs : sProp 𝕄 :=
  bigSep Finset.univ fun ck : Dev nD × CK => iprop(cellInv ER (rd P T) (K ck) (kcell ck) ∗ reached ER (kcell ck) 0)

instance recs_persistent : BI.Persistent (recs (F := F) P T K) := by unfold recs; infer_instance

theorem rec_at (ck : Dev nD × CK) : recs P T K ⊢ iprop(cellInv ER (rd P T) (K ck) (kcell ck) ∗ reached ER (kcell ck) 0) := by
  unfold recs; rw [BI.bigSep_erase (Finset.mem_univ ck)]
  refine (show iprop((cellInv ER (rd P T) (K ck) (kcell ck) ∗ reached ER (kcell ck) 0) ∗ _) ⊢ _ from ?_)
  iintro ⟨H, -⟩; iexact H

/-- What a stage's exchange starts from: the positions of its four cells, the duties it pays, the credits it waits with. -/
def stageRes (c : Dev nD) (s : Fin 3) : sProp 𝕄 :=
  iprop(atPos ER (sendCell c (s, false)) 0 ∅ 0 ∗ atPos ER (sendCell c (s, true)) 0 ∅ 0 ∗ atPos ER (recvCell c (s, false)) 0 ∅ 0 ∗ atPos ER (recvCell c (s, true)) 0 ∅ 0
    ∗ dutyTok ER (sendCell c (s, false)) 0 (s, false) ∗ dutyTok ER (sendCell c (s, true)) 0 (s, true)
    ∗ dutyTok ER (recvCell (nb s c) (s, false)) 0 (s, false) ∗ dutyTok ER (recvCell (nb s c) (s, true)) 0 (s, true)
    ∗ cred (tallyAt (recvCell c (s, false)) () (cr (s, false))) ∗ cred (tallyAt (recvCell c (s, true)) () (cr (s, true))))
/-- What it leaves: its four cells at zero. -/
def stageEnd (c : Dev nD) (s : Fin 3) : sProp 𝕄 :=
  iprop(semVal (sendCell c (s, false)) 0 ∗ semVal (sendCell c (s, true)) 0 ∗ semVal (recvCell c (s, false)) 0 ∗ semVal (recvCell c (s, true)) 0)

/-- One transfer of a stage. -/
theorem wp_send_one {sp sp' : Space} {sh : Shape} {e : EltTy} (c n : Dev nD) (d : SB) (hn : n = nb d.1 c)
    (src : Memref sig .tc sp sh e) (dst : Memref sig .tc sp' sh e) (v : Vec F sh e)
    (hcr : dst.view.amount (.dma (stS recvS d).sem) = cr d)
    (hp₁ : owns (c : Thread nD τ) src fullShare v ⊢ sendPay P T c d)
    (hp₂ : owns (nb d.1 c : Thread nD τ) dst fullShare v ⊢ recvPay P T (nb d.1 c) d)
    {hsc : (dst : Memref sig (Dev.tc n : Thread nD τ).2.kind sp' sh e).view.ref.isScScratch = false}
    {hsrc : src.view.WordExact} {hdst : dst.view.WordExact}
    {hsem : DmaTarget.Typed sp (.dma (stS recvS d).sem) (.remote (Dev.tc n : Thread nD τ) (dst : Memref sig (Dev.tc n : Thread nD τ).2.kind sp' sh e) (.dma (stS sendS d).sem) hsc)}
    {α : Type} {Q : α → sProp 𝕄} {k : PUnit → Prog (TpuEff nD τ sig (Elt F) Λ₀ .tc) α} (O O' : CellTallies nD τ sig Unit)
    (hO : O' = O + tallyAt (recvCell (nb d.1 c) d) () (cr d)) (W : Waits sig Unit) :
    iprop(recs P T K ∗ owns (c : Thread nD τ) src fullShare v ∗ anyAt (nb d.1 c) dst ∗ owes (c : Thread nD τ) O' W
        ∗ dutyTok ER (sendCell c d) 0 d ∗ dutyTok ER (recvCell (nb d.1 c) d) 0 d)
      ⊢ iprop(((cred (tallyAt (sendCell c d) () (cr d)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (stS sendS d).sem) hsc) (.dma (stS recvS d).sem) hsrc hdst hsem) k) Q) := by
  subst hn
  unfold owns anyAt
  iintro ⟨#Hrec, ⟨%fs, %hfs, Hs⟩, ⟨%fd, Hd⟩, HO, Ht1, Ht2⟩
  ihave H1 := (rec_at P T K (c, some (d, false))) $$ Hrec
  icases H1 with ⟨#Hi1, #Hr1⟩
  ihave H2 := (rec_at P T K (nb d.1 c, some (d, true))) $$ Hrec
  icases H2 with ⟨#Hi2, #Hr2⟩
  iapply (Rounds.wp_send_pointsTo 𝒱₀ ER (rd P T) (c : Thread nD τ) none (κ₁ := K (c, some (d, false))) (κ₂ := K (nb d.1 c, some (d, true)))
    (r₁ := 0) (r₂ := 0) (d₁ := d) (d₂ := d) (fs := fs) (fd := fd)
    (by rw [duties_send]; exact Finset.mem_singleton_self _) (by rw [duties_recv]; exact Finset.mem_singleton_self _)
    () () (cr d) hcr (amount_send P T c d) (amount_recv P T (nb d.1 c) d) O hO (W := W)
    (by
      rw [payload_send]; refine BIBase.Entails.trans ?_ hp₁; unfold owns
      iintro H; iexists fs; isplitr; · (ipureintro; exact hfs)
      iexact H)
    (by
      rw [payload_recv]; refine BIBase.Entails.trans ?_ hp₂; unfold owns
      iintro H; iexists _; isplitr [H]; rotate_left; · iexact H
      ipureintro; rw [View.read_write_univ]; exact hfs))
  isplitr; · iexact Hi1
  isplitr; · iexact Hi2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- A wait on one of a stage's cells: its payload, and its counter at zero for good. -/
theorem wp_wait_one {sp sp' : Space} {sh sh' : Shape} {e e' : EltTy} (c : Dev nD) (k' : SB × Bool) (q : DmaSem sig) (hq : csem (some k') = .dma q)
    (src : Memref sig .tc sp sh e) (dst : Memref sig .tc sp' sh' e') (pay : sProp 𝕄)
    {h₁ : src.view.WordExact} {h₂ : dst.view.WordExact}
    (hN : dst.view.dmaCredit = (rd P T).expect ((c : Thread nD τ), .dma q) 0)
    (hrest : bigSep ((rd (F := F) P T).duties ((c : Thread nD τ), .dma q) 0 \ ∅) (fun d' => (rd (F := F) P T).payload ((c : Thread nD τ), .dma q) 0 d') = pay)
    {α : Type} {Q : α → sProp 𝕄} {k : PUnit → Prog (TpuEff nD τ sig (Elt F) Λ₀ .tc) α} (n : ℕ) (hlv : lvS (.dma q) < 2 + n) (W : Waits sig Unit) :
    iprop(recs P T K ∗ levAts L lv ∗ cred (tallyAt ((c : Thread nD τ), .dma q) () dst.view.dmaCredit) ∗ owes (c : Thread nD τ) (owedFrom n c) W
        ∗ atPos ER ((c : Thread nD τ), .dma q) 0 ∅ 0)
      ⊢ iprop(((pay ∗ semVal ((c : Thread nD τ), .dma q) 0 ∗ owes (c : Thread nD τ) (owedFrom n c) (insert (SemLoc.dma q, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  have hk : kcell (c, some k') = ((c : Thread nD τ), .dma q) := by show ((c : Thread nD τ), csem (some k')) = _; rw [hq]
  iintro ⟨#Hrec, #Hlev, Hc, HO, Hat⟩ Hk
  ihave H1 := (rec_at P T K (c, some k')) $$ Hrec
  rw [hk]
  icases H1 with ⟨#Hi1, -⟩
  iapply (Rounds.wp_wait_rest_token 𝒱₀ ER (rd P T) (c : Thread nD τ) none (κ := K (c, some k'))
      (wpE_waitDma2_eq 𝒱₀ (c : Thread nD τ) none Set.univ) (Set.mem_univ _) () (O := owedFrom n c) (W := W) (R := 0) (m := 0) (T := ∅)
      (by rw [Nat.zero_add]; exact hN)) $$ [Hc HO Hat]
  · isplitr; · iexact Hi1
    isplitl [Hc]; · iexact Hc
    isplitl [HO]; · iexact HO
    isplitr; · iapply (mayWait_owedFrom c _ n hlv); iexact Hlev
    iexact Hat
  iintro ⟨HO, Hat, -, Hpay⟩
  ihave Hpay := (Entails.of_eq hrest) $$ Hpay
  imod (Rounds.cell_close ER (rd P T) (Set.mem_univ (K (c, some k'))) (fun h => h) (R := 0 + 1) (duties_later P T _)) $$ [Hat] with Hz
  · isplitr; · iexact Hi1
    iexact Hat
  iapply Hk
  isplitl [Hpay]; · iexact Hpay
  isplitl [Hz]; · iexact Hz
  iexact HO

set_option maxHeartbeats 800000 in
/-- A stage's exchange, run. -/
theorem wp_exchange (c : Dev nD) (s : Fin 3) {α : Type} {Q : α → sProp 𝕄} (k : PUnit → Prog (TpuEff nD τ sig (Elt F) Λ₀ .tc) α) (W : Waits sig Unit) :
    iprop(recs P T K ∗ levAts L lv ∗ stageRes c s ∗ landing (nb s c) s ∗ owns (c : Thread nD τ) sbM fullShare (P s c) ∗ owns (c : Thread nD τ) stM fullShare (T s c)
        ∗ owes (c : Thread nD τ) (owedFrom s.val c) W
        ∗ (∀ W', (stageEnd c s ∗ owns (c : Thread nD τ) sbM fullShare (P s c) ∗ owns (c : Thread nD τ) stM fullShare (T s c)
            ∗ owns (c : Thread nD τ) (orW s) fullShare (P s (nb s c)) ∗ owns (c : Thread nD τ) (srW s) fullShare (T s (nb s c))
            ∗ owes (c : Thread nD τ) (owedFrom (s.val + 1) c) W')
          -∗ wp frame (wpE (defs₀ (F := F)) 𝒱₀ (c : Thread nD τ) none) Set.univ (k ⟨⟩) Q))
      ⊢ wp frame (wpE (defs₀ (F := F)) 𝒱₀ (c : Thread nD τ) none) Set.univ (exchange c s >>= k) Q := by
  unfold exchange stageRes landing
  simp only [Prog.lift, Prog.bind_op, Prog.bind_ret, Prog.pure_eq_ret, bind_assoc, pure_bind]
  iintro ⟨#Hrec, #Hlev, ⟨Ha1, Ha2, Ha3, Ha4, Ht1, Ht2, Ht3, Ht4, Hc1, Hc2⟩, ⟨Hl1, Hl2⟩, Hsb, Hst, HO, Hk⟩
  iapply (wp_send_one P T K c _ (s, false) (devO_eq s c) sbM (orW s) (P s c) rfl (by unfold sendPay; exact Entails.refl _) (by unfold recvPay; rw [if_neg Bool.false_ne_true]; simp only [nb_nb]; exact Entails.refl _)
    (owedFrom (s.val + 1) c + tallyAt (recvCell (nb s c) (s, true)) () (cr (s, true))) _ (owedFrom_stage s c) W) $$ [Hsb Hl1 HO Ht1 Ht3]
  · isplitr; · iexact Hrec
    isplitl [Hsb]; · iexact Hsb
    isplitl [Hl1]; · iexact Hl1
    isplitl [HO]; · iexact HO
    isplitl [Ht1]; · iexact Ht1
    iexact Ht3
  iintro ⟨Hd1, HO⟩
  iapply (wp_send_one P T K c _ (s, true) (devT_eq s c) stM (srW s) (T s c) rfl (by unfold sendPay; exact Entails.refl _) (by unfold recvPay; rw [if_pos rfl]; simp only [nb_nb]; exact Entails.refl _)
    (owedFrom (s.val + 1) c) _ rfl W) $$ [Hst Hl2 HO Ht2 Ht4]
  · isplitr; · iexact Hrec
    isplitl [Hst]; · iexact Hst
    isplitl [Hl2]; · iexact Hl2
    isplitl [HO]; · iexact HO
    isplitl [Ht2]; · iexact Ht2
    iexact Ht4
  iintro ⟨Hd2, HO⟩
  iapply (wp_wait_one P T K c ((s, false), false) _ rfl (orW s) sbM (owns (c : Thread nD τ) sbM fullShare (P s c)) (by rw [expect_send]; rfl) ((rest_send P T c (s, false)).trans rfl)
    (s.val + 1) (by rw [lvS_send]; omega) _) $$ [Hd1 HO Ha1]
  · isplitr; · iexact Hrec
    isplitr; · iexact Hlev
    isplitl [Hd1]; · iexact Hd1
    isplitl [HO]; · iexact HO
    iexact Ha1
  iintro ⟨Hsb, Hz1, HO⟩
  iapply (wp_wait_one P T K c ((s, false), true) _ rfl sbM (orW s) (owns (c : Thread nD τ) (orW s) fullShare (P s (nb s c))) (by rw [expect_recv]; rfl) ((rest_recv P T c (s, false)).trans rfl)
    (s.val + 1) (by rw [lvS_recv]; show 2 + s.val < _; omega) _) $$ [Hc1 HO Ha3]
  · isplitr; · iexact Hrec
    isplitr; · iexact Hlev
    isplitl [Hc1]; · iexact Hc1
    isplitl [HO]; · iexact HO
    iexact Ha3
  iintro ⟨Hor, Hz3, HO⟩
  iapply (wp_wait_one P T K c ((s, true), false) _ rfl (srW s) stM (owns (c : Thread nD τ) stM fullShare (T s c)) (by rw [expect_send]; rfl) ((rest_send P T c (s, true)).trans rfl)
    (s.val + 1) (by rw [lvS_send]; omega) _) $$ [Hd2 HO Ha2]
  · isplitr; · iexact Hrec
    isplitr; · iexact Hlev
    isplitl [Hd2]; · iexact Hd2
    isplitl [HO]; · iexact HO
    iexact Ha2
  iintro ⟨Hst, Hz2, HO⟩
  iapply (wp_wait_one P T K c ((s, true), true) _ rfl stM (srW s) (owns (c : Thread nD τ) (srW s) fullShare (T s (nb s c))) (by rw [expect_recv]; rfl) ((rest_recv P T c (s, true)).trans rfl)
    (s.val + 1) (by rw [lvS_recv]; show 2 + s.val < _; omega) _) $$ [Hc2 HO Ha4]
  · isplitr; · iexact Hrec
    isplitr; · iexact Hlev
    isplitl [Hc2]; · iexact Hc2
    isplitl [HO]; · iexact HO
    iexact Ha4
  iintro ⟨Hsr, Hz4, HO⟩
  iapply Hk $$ %_
  unfold stageEnd
  isplitl [Hz1 Hz2 Hz3 Hz4]
  · isplitl [Hz1]; · iexact Hz1
    isplitl [Hz2]; · iexact Hz2
    isplitl [Hz3]; · iexact Hz3
    iexact Hz4
  isplitl [Hsb]; · iexact Hsb
  isplitl [Hst]; · iexact Hst
  isplitl [Hor]; · iexact Hor
  isplitl [Hsr]; · iexact Hsr
  iexact HO

end Cert.Paged
-- ==== Proof.Windows.lean ====
/-
The windows of the copy and landing buffers and of the caches' blocks: disjoint, and (of the buffers) everything. A
buffer held whole is held window by window, and the other way round.
-/
module

public import proofs.«01_k».proof.Proof.Exchange
public import Idealize.ShloMosaic.Lib.Ring
public import Idealize.ShloMosaic.Lib.Pipeline.Value

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The rectangles -/

abbrev dstR (sh : SH) : Rect S2x16x32x32x128 := Rect.unit (s := S2x16x32x32x128) ![sh.1.val, sh.2.val, 0, 0, 0] S1x1x32x32x128.size (bufOff_inb sh.1 sh.2)
abbrev srcR (c : Dev nD) (sh : SH) : Rect S256x32x16x128 := Rect.unit (s := S256x32x16x128) (srcOff c sh.1 sh.2) S32x32x1x128.size (srcOff_inb c sh.1 sh.2)
abbrev orR (s : Fin 3) : Rect S3x32x16x128 := Rect.unit (s := S3x32x16x128) ![s.val, 0, 0, 0] S1x32x16x128.size (orOff_inb s)
abbrev srR (s : Fin 3) : Rect S3x2x32x16 := Rect.unit (s := S3x2x32x16) ![s.val, 0, 0, 0] S1x2x32x16.size (srOff_inb s)

theorem dstR_disjoint (b b' : SH) (h : b ≠ b') : Disjoint (dstR b).set (dstR b').set := by
  have h' : b.1.val ≠ b'.1.val ∨ b.2.val ≠ b'.2.val := by
    by_contra hn; rw [not_or, not_ne_iff, not_ne_iff] at hn; exact h (Prod.ext (Fin.ext hn.1) (Fin.ext hn.2))
  rcases h' with h' | h'
  · refine Rect.unit_disjoint 0 ?_
    show b.1.val + 1 ≤ b'.1.val ∨ b'.1.val + 1 ≤ b.1.val; omega
  · refine Rect.unit_disjoint 1 ?_
    show b.2.val + 1 ≤ b'.2.val ∨ b'.2.val + 1 ≤ b.2.val; omega

theorem srcR_disjoint (c : Dev nD) (b b' : SH) (h : b ≠ b') : Disjoint (srcR c b).set (srcR c b').set := by
  have h' : b.1.val ≠ b'.1.val ∨ b.2.val ≠ b'.2.val := by
    by_contra hn; rw [not_or, not_ne_iff, not_ne_iff] at hn; exact h (Prod.ext (Fin.ext hn.1) (Fin.ext hn.2))
  rcases h' with h' | h'
  · refine Rect.unit_disjoint 0 ?_
    rw [srcOff_eq, srcOff_eq]
    show (128 * (c.val / 4) + 64 * (c.val % 2) + 32 * b.1.val) + 32 ≤ (128 * (c.val / 4) + 64 * (c.val % 2) + 32 * b'.1.val)
      ∨ (128 * (c.val / 4) + 64 * (c.val % 2) + 32 * b'.1.val) + 32 ≤ (128 * (c.val / 4) + 64 * (c.val % 2) + 32 * b.1.val); omega
  · refine Rect.unit_disjoint 2 ?_
    rw [srcOff_eq, srcOff_eq]
    show b.2.val + 1 ≤ b'.2.val ∨ b'.2.val + 1 ≤ b.2.val; omega

theorem orR_disjoint (b b' : Fin 3) (h : b ≠ b') : Disjoint (orR b).set (orR b').set :=
  Rect.unit_disjoint 0 (show b.val + 1 ≤ b'.val ∨ b'.val + 1 ≤ b.val by have := Fin.val_ne_of_ne h; omega)
theorem srR_disjoint (b b' : Fin 3) (h : b ≠ b') : Disjoint (srR b).set (srR b').set :=
  Rect.unit_disjoint 0 (show b.val + 1 ≤ b'.val ∨ b'.val + 1 ≤ b.val by have := Fin.val_ne_of_ne h; omega)

theorem lt_zero_add {a b : ℕ} (h : a < b) : a < 0 + b := by omega

theorem dstR_cover : (Finset.univ.biUnion fun b : SH => (dstR b).set) = Finset.univ := by
  ext i
  simp only [Finset.mem_biUnion, Finset.mem_univ, true_and, iff_true]
  refine ⟨(i 0, i 1), Rect.mem_set_unit.mpr fun a => ?_⟩
  fin_cases a
  · exact ⟨le_refl _, Nat.lt_succ_self _⟩
  · exact ⟨le_refl _, Nat.lt_succ_self _⟩
  · exact ⟨Nat.zero_le _, lt_zero_add (i 2).isLt⟩
  · exact ⟨Nat.zero_le _, lt_zero_add (i 3).isLt⟩
  · exact ⟨Nat.zero_le _, lt_zero_add (i 4).isLt⟩
theorem orR_cover : (Finset.univ.biUnion fun b : Fin 3 => (orR b).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, lt_zero_add (i 1).isLt⟩
  · exact ⟨Nat.zero_le _, lt_zero_add (i 2).isLt⟩
  · exact ⟨Nat.zero_le _, lt_zero_add (i 3).isLt⟩
theorem srR_cover : (Finset.univ.biUnion fun b : Fin 3 => (srR b).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, lt_zero_add (i 1).isLt⟩
  · exact ⟨Nat.zero_le _, lt_zero_add (i 2).isLt⟩
  · exact ⟨Nat.zero_le _, lt_zero_add (i 3).isLt⟩

/-! ## The windows' elements -/

theorem kb_set (sh : SH) : (dstW kbM sh.1 sh.2).view.set = (dstR sh).set := (Memref.set_view_squeeze _ _).trans (View.set_slice_whole _ _)
theorem vb_set (sh : SH) : (dstW vbM sh.1 sh.2).view.set = (dstR sh).set := (Memref.set_view_squeeze _ _).trans (View.set_slice_whole _ _)
theorem k_set (c : Dev nD) (sh : SH) : (srcW kM c sh.1 sh.2).view.set = (srcR c sh).set := (Memref.set_view_squeeze _ _).trans (View.set_slice_whole _ _)
theorem v_set (c : Dev nD) (sh : SH) : (srcW vM c sh.1 sh.2).view.set = (srcR c sh).set := (Memref.set_view_squeeze _ _).trans (View.set_slice_whole _ _)
theorem or_set (s : Fin 3) : (orW s).view.set = (orR s).set := (Memref.set_view_squeeze _ _).trans (View.set_slice_whole _ _)
theorem sr_set (s : Fin 3) : (srW s).view.set = (srR s).set := (Memref.set_view_squeeze _ _).trans (View.set_slice_whole _ _)

/-- A buffer held whole, window by window. -/
theorem split_any {B : Type} [Fintype B] [DecidableEq B] (c : Dev nD) (b : Ref sig .tc) (I : B → Finset b.ty.shape.Idx)
    (hd : ∀ x y, x ≠ y → Disjoint (I x) (I y)) (hc : Finset.univ.biUnion I = Finset.univ) (f : Buf (Elt F) ((c : Thread nD τ).loc b)) :
    (((c : Thread nD τ).loc b) ↦{fullShare} f : sProp 𝕄) ⊢ bigSep Finset.univ fun x => iprop(∃ g : Buf (Elt F) ((c : Thread nD τ).loc b), ((c : Thread nD τ).loc b) ↦[I x]{fullShare} g) := by
  rw [Ring.pointsTo_blocks (ℓ := (c : Thread nD τ).loc b) I hd hc f]
  refine bigSep_mono fun x _ => ?_
  show (((c : Thread nD τ).loc b) ↦[I x]{fullShare} f : sProp 𝕄) ⊢ iprop(∃ g : Buf (Elt F) ((c : Thread nD τ).loc b), ((c : Thread nD τ).loc b) ↦[I x]{fullShare} g)
  iintro H; iexists f; iexact H
theorem join_any {B : Type} [Fintype B] [DecidableEq B] (c : Dev nD) (b : Ref sig .tc) (I : B → Finset b.ty.shape.Idx)
    (hd : ∀ x y, x ≠ y → Disjoint (I x) (I y)) (hc : Finset.univ.biUnion I = Finset.univ) (f : Buf (Elt F) ((c : Thread nD τ).loc b)) :
    (bigSep Finset.univ fun x => iprop(∃ g : Buf (Elt F) ((c : Thread nD τ).loc b), ((c : Thread nD τ).loc b) ↦[I x]{fullShare} g))
      ⊢ (iprop(∃ f : Buf (Elt F) ((c : Thread nD τ).loc b), ((c : Thread nD τ).loc b) ↦{fullShare} f) : sProp 𝕄) :=
  Ring.pointsTo_blocks_join_exists (ℓ := (c : Thread nD τ).loc b) I hd hc f

theorem kb_any (c : Dev nD) (sh : SH) : (anyAt c (dstW kbM sh.1 sh.2) : sProp 𝕄) = iprop(∃ g : Buf (Elt F) ((c : Thread nD τ).loc cc0_scratch5), ((c : Thread nD τ).loc cc0_scratch5) ↦[(dstR sh).set]{fullShare} g) := by
  unfold anyAt; rw [kb_set]
theorem vb_any (c : Dev nD) (sh : SH) : (anyAt c (dstW vbM sh.1 sh.2) : sProp 𝕄) = iprop(∃ g : Buf (Elt F) ((c : Thread nD τ).loc cc0_scratch6), ((c : Thread nD τ).loc cc0_scratch6) ↦[(dstR sh).set]{fullShare} g) := by
  unfold anyAt; rw [vb_set]
theorem or_any (c : Dev nD) (s : Fin 3) : (anyAt c (orW s) : sProp 𝕄) = iprop(∃ g : Buf (Elt F) ((c : Thread nD τ).loc cc0_scratch3), ((c : Thread nD τ).loc cc0_scratch3) ↦[(orR s).set]{fullShare} g) := by
  unfold anyAt; rw [or_set]
theorem sr_any (c : Dev nD) (s : Fin 3) : (anyAt c (srW s) : sProp 𝕄) = iprop(∃ g : Buf (Elt F) ((c : Thread nD τ).loc cc0_scratch4), ((c : Thread nD τ).loc cc0_scratch4) ↦[(srR s).set]{fullShare} g) := by
  unfold anyAt; rw [sr_set]

theorem kb_split (c : Dev nD) (f : Buf (Elt F) ((c : Thread nD τ).loc cc0_scratch5)) :
    (((c : Thread nD τ).loc cc0_scratch5) ↦{fullShare} f : sProp 𝕄) ⊢ bigSep Finset.univ fun sh : SH => anyAt c (dstW kbM sh.1 sh.2) := by
  simp only [kb_any]; exact split_any c cc0_scratch5 (fun sh => (dstR sh).set) dstR_disjoint dstR_cover f
theorem vb_split (c : Dev nD) (f : Buf (Elt F) ((c : Thread nD τ).loc cc0_scratch6)) :
    (((c : Thread nD τ).loc cc0_scratch6) ↦{fullShare} f : sProp 𝕄) ⊢ bigSep Finset.univ fun sh : SH => anyAt c (dstW vbM sh.1 sh.2) := by
  simp only [vb_any]; exact split_any c cc0_scratch6 (fun sh => (dstR sh).set) dstR_disjoint dstR_cover f
theorem or_split (c : Dev nD) (f : Buf (Elt F) ((c : Thread nD τ).loc cc0_scratch3)) :
    (((c : Thread nD τ).loc cc0_scratch3) ↦{fullShare} f : sProp 𝕄) ⊢ bigSep Finset.univ fun s : Fin 3 => anyAt c (orW s) := by
  simp only [or_any]; exact split_any c cc0_scratch3 (fun s => (orR s).set) orR_disjoint orR_cover f
theorem sr_split (c : Dev nD) (f : Buf (Elt F) ((c : Thread nD τ).loc cc0_scratch4)) :
    (((c : Thread nD τ).loc cc0_scratch4) ↦{fullShare} f : sProp 𝕄) ⊢ bigSep Finset.univ fun s : Fin 3 => anyAt c (srW s) := by
  simp only [sr_any]; exact split_any c cc0_scratch4 (fun s => (srR s).set) srR_disjoint srR_cover f

theorem kb_join (c : Dev nD) (f : Buf (Elt F) ((c : Thread nD τ).loc cc0_scratch5)) :
    (bigSep Finset.univ fun sh : SH => anyAt c (dstW kbM sh.1 sh.2)) ⊢ (iprop(∃ f : Buf (Elt F) ((c : Thread nD τ).loc cc0_scratch5), ((c : Thread nD τ).loc cc0_scratch5) ↦{fullShare} f) : sProp 𝕄) := by
  simp only [kb_any]; exact join_any c cc0_scratch5 (fun sh => (dstR sh).set) dstR_disjoint dstR_cover f
theorem vb_join (c : Dev nD) (f : Buf (Elt F) ((c : Thread nD τ).loc cc0_scratch6)) :
    (bigSep Finset.univ fun sh : SH => anyAt c (dstW vbM sh.1 sh.2)) ⊢ (iprop(∃ f : Buf (Elt F) ((c : Thread nD τ).loc cc0_scratch6), ((c : Thread nD τ).loc cc0_scratch6) ↦{fullShare} f) : sProp 𝕄) := by
  simp only [vb_any]; exact join_any c cc0_scratch6 (fun sh => (dstR sh).set) dstR_disjoint dstR_cover f
theorem or_join (c : Dev nD) (f : Buf (Elt F) ((c : Thread nD τ).loc cc0_scratch3)) :
    (bigSep Finset.univ fun s : Fin 3 => anyAt c (orW s)) ⊢ (iprop(∃ f : Buf (Elt F) ((c : Thread nD τ).loc cc0_scratch3), ((c : Thread nD τ).loc cc0_scratch3) ↦{fullShare} f) : sProp 𝕄) := by
  simp only [or_any]; exact join_any c cc0_scratch3 (fun s => (orR s).set) orR_disjoint orR_cover f
theorem sr_join (c : Dev nD) (f : Buf (Elt F) ((c : Thread nD τ).loc cc0_scratch4)) :
    (bigSep Finset.univ fun s : Fin 3 => anyAt c (srW s)) ⊢ (iprop(∃ f : Buf (Elt F) ((c : Thread nD τ).loc cc0_scratch4), ((c : Thread nD τ).loc cc0_scratch4) ↦{fullShare} f) : sProp 𝕄) := by
  simp only [sr_any]; exact join_any c cc0_scratch4 (fun s => (srR s).set) srR_disjoint srR_cover f

/-! ## The caches' blocks -/

/-- The elements of a buffer outside a family of windows. -/
def restAt (c : Dev nD) (b : Ref sig .tc) (I : SH → Finset b.ty.shape.Idx) (X : Buf (Elt F) ((c : Thread nD τ).loc b)) : sProp 𝕄 :=
  ((c : Thread nD τ).loc b) ↦[Finset.univ \ Finset.univ.biUnion I]{fullShare} X

/-- A block held whole: its windows, and the rest. -/
theorem block_split (c : Dev nD) (b : Ref sig .tc) (I : SH → Finset b.ty.shape.Idx) (hd : ∀ x y, x ≠ y → Disjoint (I x) (I y)) (X : Buf (Elt F) ((c : Thread nD τ).loc b))
    (w : SH → sProp 𝕄) (hw : ∀ x, w x = (((c : Thread nD τ).loc b) ↦[I x]{fullShare} X : sProp 𝕄)) :
    (((c : Thread nD τ).loc b) ↦{fullShare} X : sProp 𝕄) = iprop((bigSep Finset.univ w) ∗ restAt c b I X) := by
  rw [funext hw, ← pointsTo_biUnion (ℓ := (c : Thread nD τ).loc b) Finset.univ I (fun x _ y _ h => hd x y h)]
  have h := pointsTo_split_subset (Val := Elt F) (Ix := Unit) (Name := ℕ) (U := UU) (Lvl := ℕ) (ℓ := (c : Thread nD τ).loc b) (I := Finset.univ.biUnion I) (S := Finset.univ) (q := fullShare) (f := X) (Finset.subset_univ _)
  exact BI.equiv_iff.mp ⟨h.1, h.2⟩

/-- One window of a cache's block, at the block's contents. -/
def kWin (c : Dev nD) (X : Buf (Elt F) ((c : Thread nD τ).loc main_arg1)) (sh : SH) : sProp 𝕄 :=
  (srcW kM c sh.1 sh.2).view.loc (c : Thread nD τ) ↦[(srcW kM c sh.1 sh.2).view.set]{fullShare} X
def vWin (c : Dev nD) (X : Buf (Elt F) ((c : Thread nD τ).loc main_arg2)) (sh : SH) : sProp 𝕄 :=
  (srcW vM c sh.1 sh.2).view.loc (c : Thread nD τ) ↦[(srcW vM c sh.1 sh.2).view.set]{fullShare} X
def kRest (c : Dev nD) (X : Buf (Elt F) ((c : Thread nD τ).loc main_arg1)) : sProp 𝕄 := restAt c main_arg1 (fun sh => (srcR c sh).set) X
def vRest (c : Dev nD) (X : Buf (Elt F) ((c : Thread nD τ).loc main_arg2)) : sProp 𝕄 := restAt c main_arg2 (fun sh => (srcR c sh).set) X

theorem kWin_eq (c : Dev nD) (X : Buf (Elt F) ((c : Thread nD τ).loc main_arg1)) (sh : SH) :
    kWin c X sh = (((c : Thread nD τ).loc main_arg1) ↦[(srcR c sh).set]{fullShare} X : sProp 𝕄) := by unfold kWin; rw [k_set]
theorem vWin_eq (c : Dev nD) (X : Buf (Elt F) ((c : Thread nD τ).loc main_arg2)) (sh : SH) :
    vWin c X sh = (((c : Thread nD τ).loc main_arg2) ↦[(srcR c sh).set]{fullShare} X : sProp 𝕄) := by unfold vWin; rw [v_set]

theorem k_split (c : Dev nD) (X : Buf (Elt F) ((c : Thread nD τ).loc main_arg1)) :
    (((c : Thread nD τ).loc main_arg1) ↦{fullShare} X : sProp 𝕄) = iprop((bigSep Finset.univ (kWin c X)) ∗ kRest c X) :=
  block_split c main_arg1 (fun sh => (srcR c sh).set) (srcR_disjoint c) X (kWin c X) (kWin_eq c X)
theorem v_split (c : Dev nD) (X : Buf (Elt F) ((c : Thread nD τ).loc main_arg2)) :
    (((c : Thread nD τ).loc main_arg2) ↦{fullShare} X : sProp 𝕄) = iprop((bigSep Finset.univ (vWin c X)) ∗ vRest c X) :=
  block_split c main_arg2 (fun sh => (srcR c sh).set) (srcR_disjoint c) X (vWin c X) (vWin_eq c X)

end Cert.Paged
-- ==== Proof.Copies.lean ====
/-
The copies of the page windows: sixteen heads' keys and values per half, started together and awaited together.
-/
module

public import proofs.«01_k».proof.Proof.Windows

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

/-- Running a list of programs in order, by an invariant of the position. -/
theorem wp_seqL {ι : Type} (c : Dev nD) (f : ι → Prog (TpuEff nD τ sig (Elt F) Λ₀ .tc) PUnit) (rest : Prog (TpuEff nD τ sig (Elt F) Λ₀ .tc) PUnit)
    (Q : PUnit → sProp 𝕄) (l : List ι) : ∀ (I : ℕ → sProp 𝕄)
    (hstep : ∀ (j : ℕ) (hj : j < l.length) (k : PUnit → Prog (TpuEff nD τ sig (Elt F) Λ₀ .tc) PUnit),
      iprop(I j ∗ (I (j + 1) -∗ wp frame (wpE (defs₀ (F := F)) 𝒱₀ (c : Thread nD τ) none) Set.univ (k ⟨⟩) Q))
        ⊢ wp frame (wpE (defs₀ (F := F)) 𝒱₀ (c : Thread nD τ) none) Set.univ (f l[j] >>= k) Q),
    iprop(I 0 ∗ (I l.length -∗ wp frame (wpE (defs₀ (F := F)) 𝒱₀ (c : Thread nD τ) none) Set.univ rest Q))
      ⊢ wp frame (wpE (defs₀ (F := F)) 𝒱₀ (c : Thread nD τ) none) Set.univ (seqL l f rest) Q := by
  induction l with
  | nil => intro I _; iintro ⟨H, Hk⟩; iapply Hk; iexact H
  | cons a l ih =>
    intro I hstep
    show _ ⊢ wp frame (wpE (defs₀ (F := F)) 𝒱₀ (c : Thread nD τ) none) Set.univ (f a >>= fun _ => seqL l f rest) Q
    iintro ⟨H, Hk⟩
    iapply (hstep 0 (Nat.zero_lt_succ _) fun _ => seqL l f rest)
    isplitl [H]; · iexact H
    iintro H
    iapply (ih (fun j => I (j + 1)) fun j hj k => hstep (j + 1) (Nat.succ_lt_succ hj) k)
    isplitl [H]; · iexact H
    iexact Hk

/-! ## What the copies deliver -/

/-- The window of the keys' block, and of the values'. -/
def winK (c : Dev nD) (X : Buf (Elt F) ((c : Thread nD τ).loc main_arg1)) (s : Fin 2) (h : Fin 16) : Vec F S32x32x128 .f32 :=
  (srcW kM c s h).view.read (Elt F) X
def winV (c : Dev nD) (Y : Buf (Elt F) ((c : Thread nD τ).loc main_arg2)) (s : Fin 2) (h : Fin 16) : Vec F S32x32x128 .f32 :=
  (srcW vM c s h).view.read (Elt F) Y

variable (c : Dev nD) (X : Buf (Elt F) ((c : Thread nD τ).loc main_arg1)) (Y : Buf (Elt F) ((c : Thread nD τ).loc main_arg2))

/-- A finished copy: the buffer's part holding the window, and the window back. -/
def delK (s : Fin 2) (h : Fin 16) : sProp 𝕄 :=
  iprop(owns (c : Thread nD τ) (dstW kbM s h) fullShare (winK c X s h) ∗ kWin c X (s, h))
def delV (s : Fin 2) (h : Fin 16) : sProp 𝕄 :=
  iprop(owns (c : Thread nD τ) (dstW vbM s h) fullShare (winV c Y s h) ∗ vWin c Y (s, h))

instance kWin_storable (sh : SH) : BI.Storable (upEmb : UEmb _ 𝕄) (kWin (F := F) c X sh) := by unfold kWin; infer_instance
instance vWin_storable (sh : SH) : BI.Storable (upEmb : UEmb _ 𝕄) (vWin (F := F) c Y sh) := by unfold vWin; infer_instance
instance delK_storable (s : Fin 2) (h : Fin 16) : BI.Storable (upEmb : UEmb _ 𝕄) (delK (F := F) c X s h) := by unfold delK; infer_instance
instance delV_storable (s : Fin 2) (h : Fin 16) : BI.Storable (upEmb : UEmb _ 𝕄) (delV (F := F) c Y s h) := by unfold delV; infer_instance

/-- The units one copy credits. -/
def crW : ℕ := (dstW kbM 0 0).view.dmaCredit
theorem crW_pos : 0 < crW := View.dmaCredit_pos _ (by decide)

/-- The copies of one half: `j` started of each cache, `u` units taken. -/
def batK (s : Fin 2) (j u : ℕ) : sProp 𝕄 := Batch EC (c : Thread nD τ) (.dma (halfS kcS s).sem) () crW (delK c X s) j u
def batV (s : Fin 2) (j u : ℕ) : sProp 𝕄 := Batch EC (c : Thread nD τ) (.dma (halfS vcS s).sem) () crW (delV c Y s) j u

/-- One copy into a batch. -/
theorem wp_copy_one {sp sp' : Space} {sh : Shape} {e : EltTy} (src : Memref sig .tc sp sh e) (dst : Memref sig .tc sp' sh e) (q : DmaSem sig)
    (Z : Buf (Elt F) (src.view.loc (c : Thread nD τ))) (D : Fin 16 → sProp 𝕄) (j : ℕ) (hj : j < 16)
    (hN : dst.view.amount (.dma q) = crW) {hsrc : src.view.WordExact} {hdst : dst.view.WordExact} {hsem : DmaTarget.Typed sp (.dma q) (.here (nD := nD) (τ := τ) (p := .tc) dst)}
    (hD : iprop(owns (c : Thread nD τ) dst fullShare (src.view.read (Elt F) Z) ∗ (src.view.loc (c : Thread nD τ) ↦[src.view.set]{fullShare} Z)) ⊢ D ⟨j, hj⟩)
    {α : Type} {Q : α → sProp 𝕄} (k : PUnit → Prog (TpuEff nD τ sig (Elt F) Λ₀ .tc) α) :
    iprop((src.view.loc (c : Thread nD τ) ↦[src.view.set]{fullShare} Z) ∗ anyAt c dst ∗ Batch EC (c : Thread nD τ) (.dma q) () crW D j 0)
      ⊢ iprop((Batch EC (c : Thread nD τ) (.dma q) () crW D (j + 1) 0 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) := by
  unfold anyAt
  iintro ⟨Hs, ⟨%fd, Hd⟩, HB⟩
  iapply (wp_dmaBatch EC 𝒱₀ (c : Thread nD τ) none (src := src) (dst := dst) (via := .same) (q := fullShare) (fs := Z) (fd := fd) (D := D) (j := j) (u := 0)
    () crW hN (Finset.Subset.refl _) hj (Nat.zero_le _) (by
      refine BIBase.Entails.trans ?_ hD
      iintro ⟨H, Hs⟩
      isplitl [H]
      · unfold owns
        iexists _; isplitr [H]; rotate_left; · iexact H
        ipureintro; exact View.read_write_univ _ _
      iexact Hs))
  isplitl [Hs]; · iexact Hs
  isplitl [Hd]; · iexact Hd
  iexact HB

theorem heads_get : ∀ (j : ℕ) (hj : j < heads.length), heads[j] = ⟨j, hj⟩ := by decide +kernel

/-- Starting one half's copies. -/
theorem wp_startHalf (s : Fin 2) (rest : Prog (TpuEff nD τ sig (Elt F) Λ₀ .tc) PUnit) (Q : PUnit → sProp 𝕄) :
    iprop(semVal ((c : Thread nD τ), .dma (halfS kcS s).sem) 0 ∗ semVal ((c : Thread nD τ), .dma (halfS vcS s).sem) 0
        ∗ (bigSep Finset.univ fun h => iprop(anyAt c (dstW kbM s h) ∗ kWin c X (s, h) ∗ anyAt c (dstW vbM s h) ∗ vWin c Y (s, h)))
        ∗ (iprop(batK c X s 16 0 ∗ batV c Y s 16 0) -∗ wp frame (wpE (defs₀ (F := F)) 𝒱₀ (c : Thread nD τ) none) Set.univ rest Q))
      ⊢ wp frame (wpE (defs₀ (F := F)) 𝒱₀ (c : Thread nD τ) none) Set.univ (seqL heads (fun h => startCopy c (s, h)) rest) Q := by
  have hstep := fun (j : ℕ) (hj : j < heads.length) (k : PUnit → Prog (TpuEff nD τ sig (Elt F) Λ₀ .tc) PUnit) => show
      iprop((iprop(batK c X s j 0 ∗ batV c Y s j 0
      ∗ bigSep (pending j) fun h => iprop(anyAt c (dstW kbM s h) ∗ kWin c X (s, h) ∗ anyAt c (dstW vbM s h) ∗ vWin c Y (s, h)))) ∗ ((iprop(batK c X s (j + 1) 0 ∗ batV c Y s (j + 1) 0
      ∗ bigSep (pending (j + 1)) fun h => iprop(anyAt c (dstW kbM s h) ∗ kWin c X (s, h) ∗ anyAt c (dstW vbM s h) ∗ vWin c Y (s, h)))) -∗ wp frame (wpE (defs₀ (F := F)) 𝒱₀ (c : Thread nD τ) none) Set.univ (k ⟨⟩) Q))
        ⊢ wp frame (wpE (defs₀ (F := F)) 𝒱₀ (c : Thread nD τ) none) Set.univ ((fun h => startCopy c (s, h)) heads[j] >>= k) Q from by
    have hj' : j < 16 := hj
    rw [heads_get j hj]
    unfold startCopy
    simp only [Prog.lift, Prog.bind_op, Prog.bind_ret, Prog.pure_eq_ret, bind_assoc, pure_bind]
    rw [bigSep_pending_step _ j hj']
    unfold batK batV
    iintro ⟨⟨HK, HV, ⟨Hkd, Hks, Hvd, Hvs⟩, Hw⟩, Hk⟩
    iapply (wp_copy_one c (srcW kM c s ⟨j, hj'⟩) (dstW kbM s ⟨j, hj'⟩) (halfS kcS s).sem X (delK c X s) j hj' rfl (by unfold delK winK kWin; exact Entails.refl _)) $$ [HK Hkd Hks]
    · isplitl [Hks]; · unfold kWin; iexact Hks
      isplitl [Hkd]; · iexact Hkd
      iexact HK
    iintro HK
    iapply (wp_copy_one c (srcW vM c s ⟨j, hj'⟩) (dstW vbM s ⟨j, hj'⟩) (halfS vcS s).sem Y (delV c Y s) j hj' rfl (by unfold delV winV vWin; exact Entails.refl _)) $$ [HV Hvd Hvs]
    · isplitl [Hvs]; · unfold vWin; iexact Hvs
      isplitl [Hvd]; · iexact Hvd
      iexact HV
    iintro HV
    iapply Hk
    isplitl [HK]; · iexact HK
    isplitl [HV]; · iexact HV
    iexact Hw
  iintro ⟨Hk0, Hv0, Hw, Hk⟩
  imod (batch_alloc' EC (c : Thread nD τ) (sm := .dma (halfS kcS s).sem) () crW (delK c X s) (E := Set.univ)) $$ Hk0 with HK
  imod (batch_alloc' EC (c : Thread nD τ) (sm := .dma (halfS vcS s).sem) () crW (delV c Y s) (E := Set.univ)) $$ Hv0 with HV
  iapply (wp_seqL c (fun h => startCopy c (s, h)) rest Q heads (fun j => iprop(batK c X s j 0 ∗ batV c Y s j 0
      ∗ bigSep (pending j) fun h => iprop(anyAt c (dstW kbM s h) ∗ kWin c X (s, h) ∗ anyAt c (dstW vbM s h) ∗ vWin c Y (s, h)))) hstep)
  · isplitl [HK HV Hw]
    · isplitl [HK]; · unfold batK; iexact HK
      isplitl [HV]; · unfold batV; iexact HV
      rw [pending_zero]; iexact Hw
    · iintro ⟨HK, HV, -⟩
      iapply Hk
      isplitl [HK]; · iexact HK
      iexact HV

/-- The half a trip works on. -/
def half (k : Fin k0_t1_loop.trips) : Fin 2 := ⟨k.val, lt_of_lt_of_eq k.isLt (by decide +kernel)⟩

theorem tripK_sem : ∀ k : Fin k0_t1_loop.trips, (tripS kcS k).sem = (halfS kcS (half k)).sem := by decide +kernel
theorem tripV_sem : ∀ k : Fin k0_t1_loop.trips, (tripS vcS k).sem = (halfS vcS (half k)).sem := by decide +kernel
theorem lvS_k : ∀ s : Fin 2, lvS (.dma (halfS kcS s).sem) = 0 := by decide +kernel
theorem lvS_v : ∀ s : Fin 2, lvS (.dma (halfS vcS s).sem) = 0 := by decide +kernel

/-- What the waits of a half have left after `j` of them: the units of the others, or every delivery. -/
def waitedK (s : Fin 2) (j : ℕ) : sProp 𝕄 :=
  if j < 16 then batK c X s 16 (j * crW) else iprop((bigSep Finset.univ (delK c X s)) ∗ semVal ((c : Thread nD τ), .dma (halfS kcS s).sem) 0)
def waitedV (s : Fin 2) (j : ℕ) : sProp 𝕄 :=
  if j < 16 then batV c Y s 16 (j * crW) else iprop((bigSep Finset.univ (delV c Y s)) ∗ semVal ((c : Thread nD τ), .dma (halfS vcS s).sem) 0)

theorem waitedK_end (s : Fin 2) : waitedK c X s heads.length
    = iprop((bigSep Finset.univ (delK c X s)) ∗ semVal ((c : Thread nD τ), .dma (halfS kcS s).sem) 0) := if_neg (by decide)
theorem waitedV_end (s : Fin 2) : waitedV c Y s heads.length
    = iprop((bigSep Finset.univ (delV c Y s)) ∗ semVal ((c : Thread nD τ), .dma (halfS vcS s).sem) 0) := if_neg (by decide)

/-- One wait of a batch of sixteen. -/
theorem wp_wait_copy {sp sp' : Space} {sh sh' : Shape} {e e' : EltTy} (src : Memref sig .tc sp sh e) (dst : Memref sig .tc sp' sh' e') (q : DmaSem sig) (hq : lvS (.dma q) = 0)
    (D : Fin 16 → sProp 𝕄) (j : ℕ) (hj : j < 16) (hN : dst.view.dmaCredit = crW) {hsrc : src.view.WordExact} {hdst : dst.view.WordExact} (W : Waits sig Unit)
    {α : Type} {Q : α → sProp 𝕄} (k : PUnit → Prog (TpuEff nD τ sig (Elt F) Λ₀ .tc) α) :
    iprop(levAts L lv ∗ Batch EC (c : Thread nD τ) (.dma q) () crW D 16 (j * crW) ∗ owes (c : Thread nD τ) (owedFrom 0 c) W)
      ⊢ iprop((iprop((if j + 1 < 16 then Batch EC (c : Thread nD τ) (.dma q) () crW D 16 ((j + 1) * crW) else iprop((bigSep Finset.univ D) ∗ semVal ((c : Thread nD τ), .dma q) 0))
              ∗ owes (c : Thread nD τ) (owedFrom 0 c) (insert (SemLoc.dma q, ()) W)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hp := crW_pos
  iintro ⟨#Hlev, HB, HO⟩ Hk
  by_cases h : j + 1 < 16
  · rw [if_pos h]
    have hlt : j * crW + crW < crW * 16 := by
      have h' := Nat.mul_lt_mul_of_pos_left h hp
      rwa [Nat.mul_add, Nat.mul_one, Nat.mul_comm crW j] at h'
    iapply (wp_waitBatchO EC 𝒱₀ (c : Thread nD τ) none () hN (D := D) (u := j * crW) hlt (O := owedFrom 0 c) (W := W)) $$ [HB HO]
    · isplitl [HB]; · iexact HB
      isplitl [HO]; · iexact HO
      iapply (mayWait_owedFrom c _ 0 (by rw [hq]; omega)); iexact Hlev
    iintro ⟨HB, HO⟩
    iapply Hk
    isplitl [HB]; · rw [Nat.add_mul, Nat.one_mul]; iexact HB
    iexact HO
  · rw [if_neg h]
    have hj' : j = 15 := by omega
    subst hj'
    iapply (wp_waitBatchLastO EC 𝒱₀ (c : Thread nD τ) none () hN hp (D := D) (u := 15 * crW) (by omega) (O := owedFrom 0 c) (W := W)) $$ [HB HO]
    · isplitl [HB]; · iexact HB
      isplitl [HO]; · iexact HO
      iapply (mayWait_owedFrom c _ 0 (by rw [hq]; omega)); iexact Hlev
    iintro ⟨HB, Hz, HO⟩
    iapply Hk
    isplitl [HB Hz]
    · isplitl [HB]; · iexact HB
      iexact Hz
    iexact HO

/-- A trip's waits: everything its half copied. -/
theorem wp_waitHalf (k : Fin k0_t1_loop.trips) (rest : Prog (TpuEff nD τ sig (Elt F) Λ₀ .tc) PUnit) (Q : PUnit → sProp 𝕄) (W : Waits sig Unit) :
    iprop(levAts L lv ∗ batK c X (half k) 16 0 ∗ batV c Y (half k) 16 0 ∗ owes (c : Thread nD τ) (owedFrom 0 c) W
        ∗ (∀ W', iprop((bigSep Finset.univ (delK c X (half k))) ∗ semVal ((c : Thread nD τ), .dma (halfS kcS (half k)).sem) 0
            ∗ (bigSep Finset.univ (delV c Y (half k))) ∗ semVal ((c : Thread nD τ), .dma (halfS vcS (half k)).sem) 0
            ∗ owes (c : Thread nD τ) (owedFrom 0 c) W') -∗ wp frame (wpE (defs₀ (F := F)) 𝒱₀ (c : Thread nD τ) none) Set.univ rest Q))
      ⊢ wp frame (wpE (defs₀ (F := F)) 𝒱₀ (c : Thread nD τ) none) Set.univ (seqL heads (waitCopy k) rest) Q := by
  have hstep := fun (j : ℕ) (hj : j < heads.length) (k' : PUnit → Prog (TpuEff nD τ sig (Elt F) Λ₀ .tc) PUnit) => show
      iprop(iprop(levAts L lv ∗ waitedK c X (half k) j ∗ waitedV c Y (half k) j ∗ ∃ W', owes (c : Thread nD τ) (owedFrom 0 c) W') ∗ (iprop(levAts L lv ∗ waitedK c X (half k) (j + 1) ∗ waitedV c Y (half k) (j + 1) ∗ ∃ W', owes (c : Thread nD τ) (owedFrom 0 c) W') -∗ wp frame (wpE (defs₀ (F := F)) 𝒱₀ (c : Thread nD τ) none) Set.univ (k' ⟨⟩) Q))
        ⊢ wp frame (wpE (defs₀ (F := F)) 𝒱₀ (c : Thread nD τ) none) Set.univ (waitCopy k heads[j] >>= k') Q from by
    have hj' : j < 16 := hj
    rw [heads_get j hj]
    unfold waitCopy
    simp only [Prog.lift, Prog.bind_op, Prog.bind_ret, Prog.pure_eq_ret, bind_assoc, pure_bind, tripK_sem, tripV_sem]
    unfold waitedK waitedV
    rw [if_pos hj', if_pos hj']
    unfold batK batV
    iintro ⟨⟨#Hlev, HK, HV, ⟨%W', HO⟩⟩, Hk⟩
    iapply (wp_wait_copy c (waitSrcW kM ⟨j, hj'⟩) (waitW kbM k ⟨j, hj'⟩) _ (lvS_k (half k)) (delK c X (half k)) j hj' rfl (hsrc := (View.wordExact_bits rfl).reshape _ _) (hdst := (View.wordExact_bits rfl).reshape _ _) W') $$ [HK HO]
    · isplitr; · iexact Hlev
      isplitl [HK]; · iexact HK
      iexact HO
    iintro ⟨HK, HO⟩
    iapply (wp_wait_copy c (waitSrcW vM ⟨j, hj'⟩) (waitW vbM k ⟨j, hj'⟩) _ (lvS_v (half k)) (delV c Y (half k)) j hj' rfl (hsrc := (View.wordExact_bits rfl).reshape _ _) (hdst := (View.wordExact_bits rfl).reshape _ _) _) $$ [HV HO]
    · isplitr; · iexact Hlev
      isplitl [HV]; · iexact HV
      iexact HO
    iintro ⟨HV, HO⟩
    iapply Hk
    isplitr; · iexact Hlev
    isplitl [HK]; · iexact HK
    isplitl [HV]; · iexact HV
    iexists _; iexact HO
  iintro ⟨#Hlev, HK, HV, HO, Hk⟩
  iapply (wp_seqL c (waitCopy k) rest Q heads
    (fun j => iprop(levAts L lv ∗ waitedK c X (half k) j ∗ waitedV c Y (half k) j ∗ ∃ W', owes (c : Thread nD τ) (owedFrom 0 c) W')) hstep)
  · isplitl [HK HV HO]
    · isplitr; · iexact Hlev
      isplitl [HK]; · unfold waitedK; rw [if_pos (by decide), Nat.zero_mul]; iexact HK
      isplitl [HV]; · unfold waitedV; rw [if_pos (by decide), Nat.zero_mul]; iexact HV
      iexists W; iexact HO
    · rw [waitedK_end, waitedV_end]
      iintro ⟨-, ⟨HK, Hzk⟩, ⟨HV, Hzv⟩, ⟨%W', HO⟩⟩
      iapply Hk
      isplitl [HK]; · iexact HK
      isplitl [Hzk]; · iexact Hzk
      isplitl [HV]; · iexact HV
      isplitl [Hzv]; · iexact Hzv
      iexact HO

end Cert.Paged
-- ==== Proof.Mem.lean ====
/-
Loads and stores through a buffer owned by what it reads: the contents as a vector, a slab of it, a received part.
-/
module

public import proofs.«01_k».proof.Proof.Copies
public import Idealize.ShloMosaic.Lib.Pointwise

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) {α : Type}

/-- A load through any rectangle of an owned buffer. -/
theorem wp_load_owns {s : Shape} {e : EltTy} (M : Memref sig .tc .vmem s e) (r : LoadRect s) (q : PosShare TreeShare) (X : Vec F s e)
    {Q : α → sProp 𝕄} {hl : M.view.LoadsAt r} (k : (r.shape.Idx → Elt F e) → Prog (TpuEff nD τ sig (Elt F) Λ₀ .tc) α) :
    (owns (c : Thread nD τ) M q X : sProp 𝕄)
      ⊢ iprop((owns (c : Thread nD τ) M q X -∗ wp frame (wpE (defs₀ (F := F)) 𝒱₀ (c : Thread nD τ) none) Set.univ (k fun x => X (r.idx x)) Q)
          -∗ wp frame (wpE (defs₀ (F := F)) 𝒱₀ (c : Thread nD τ) none) Set.univ (.op (.load M r hl) k) Q) := by
  unfold owns
  iintro ⟨%f, %hf, H⟩ Hk
  iapply (wp_load 𝒱₀ (c : Thread nD τ) none Set.univ (m := M) (View.setOn_subset_set _ _)) $$ H
  iintro H
  have e : M.view.readAt (Elt F) r f = fun x => X (r.idx x) := by funext x; rw [View.readAt_apply, hf]
  rw [e]
  iapply Hk
  iexists f
  isplitr; · ipureintro; exact hf
  iexact H

/-- A store through any rectangle, over what the buffer then reads. -/
theorem wp_store_owns {s : Shape} {e : EltTy} (M : Memref sig .tc .vmem s e) (r : Rect s) (X X' : Vec F s e) (w : r.shape.Idx → Elt F e)
    (hin : ∀ x, X' (r.emb x) = w x) (hout : ∀ y, y ∉ r.set → X' y = X y)
    {Q : α → sProp 𝕄} {hx : (M.access r).Stores Finset.univ} {hm : (Finset.univ : Finset r.shape.Idx) = Finset.univ ∨ ∀ a, r.stride a = 1}
    (k : PUnit → Prog (TpuEff nD τ sig (Elt F) Λ₀ .tc) α) :
    (owns (c : Thread nD τ) M fullShare X : sProp 𝕄)
      ⊢ iprop((owns (c : Thread nD τ) M fullShare X' -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (by
    show (M.view.slice r).set ⊆ M.view.set
    rw [View.set_slice]; exact View.setOn_subset_set _ _)) $$ H
  iintro H
  iapply Hk
  iexists _
  isplitr [H]; rotate_left; · iexact H
  ipureintro
  funext y
  by_cases hy : y ∈ r.set
  · obtain ⟨x, -, rfl⟩ := Finset.mem_map.mp (by rw [Rect.map_emb_univ]; exact hy)
    rw [hin]
    exact congrFun (View.read_write_univ (v := M.view.slice r) f w) x
  · rw [hout y hy, ← hf]
    exact View.read_slice_write_of_not_mem r f w Finset.univ (by rw [Rect.map_emb_univ]; exact hy)

/-! ## Slabs: one place of the first axis -/

variable {n a b : ℕ}

theorem slab_inb (h : Fin n) : ∀ i, (![h.val, 0, 0] : Fin 3 → ℕ) i + (![1, a, b] : Fin 3 → ℕ) i ≤ (⟨3, ![n, a, b]⟩ : Shape).size i :=
  fun i => match i with
  | ⟨0, _⟩ => h.isLt
  | ⟨1, _⟩ => le_of_eq (Nat.zero_add a)
  | ⟨2, _⟩ => le_of_eq (Nat.zero_add b)

/-- Place `h` of the first axis, as a rectangle. -/
abbrev slab (h : Fin n) : Rect ⟨3, ![n, a, b]⟩ := Rect.unit (s := ⟨3, ![n, a, b]⟩) ![h.val, 0, 0] ![1, a, b] (slab_inb h)

/-- The slab of a vector, and a vector with one slab replaced. -/
def slabOf {e : EltTy} (X : Vec F ⟨3, ![n, a, b]⟩ e) (h : Fin n) : Vec F ⟨3, ![1, a, b]⟩ e := fun i => X (ix3 h (i 1) (i 2))
def putSlab {e : EltTy} (X : Vec F ⟨3, ![n, a, b]⟩ e) (h : Fin n) (w : Vec F ⟨3, ![1, a, b]⟩ e) : Vec F ⟨3, ![n, a, b]⟩ e :=
  fun i => if (i 0).val = h.val then w (ix3 0 (i 1) (i 2)) else X i

theorem slab_emb (h : Fin n) (x : (⟨3, ![1, a, b]⟩ : Shape).Idx) : (slab (n := n) (a := a) (b := b) h).emb x = ix3 h (x 1) (x 2) := by
  have h0 : (x 0).val = 0 := by have : (x 0).val < 1 := (x 0).isLt; omega
  funext i
  match i with
  | ⟨0, _⟩ => exact Fin.ext (by show h.val + 1 * (x 0).val = h.val; omega)
  | ⟨1, _⟩ => exact Fin.ext (by show 0 + 1 * (x 1).val = (x 1).val; omega)
  | ⟨2, _⟩ => exact Fin.ext (by show 0 + 1 * (x 2).val = (x 2).val; omega)

theorem mem_slab (h : Fin n) (y : (⟨3, ![n, a, b]⟩ : Shape).Idx) (hy : y 0 = h) : y ∈ (slab (n := n) (a := a) (b := b) h).set := by
  rw [← Rect.map_emb_univ]
  refine Finset.mem_map.mpr ⟨ix3 (n0 := 1) (n1 := a) (n2 := b) 0 (y 1) (y 2), Finset.mem_univ _, ?_⟩
  rw [slab_emb, ← hy]; exact (eq_ix3 y).symm

theorem wp_load_slab {e : EltTy} (M : Memref sig .tc .vmem ⟨3, ![n, a, b]⟩ e) (h : Fin n) {off : Fin 3 → ℕ} (ho : off = ![h.val, 0, 0])
    (inb : ∀ i, off i + (![1, a, b] : Fin 3 → ℕ) i ≤ (⟨3, ![n, a, b]⟩ : Shape).size i) (q : PosShare TreeShare) (X : Vec F ⟨3, ![n, a, b]⟩ e)
    {Q : α → sProp 𝕄} {hl : M.view.LoadsAt (Rect.unit (s := ⟨3, ![n, a, b]⟩) off ![1, a, b] inb).toLoadRect} (k : Vec F ⟨3, ![1, a, b]⟩ e → Prog (TpuEff nD τ sig (Elt F) Λ₀ .tc) α) :
    (owns (c : Thread nD τ) M q X : sProp 𝕄)
      ⊢ iprop((owns (c : Thread nD τ) M q X -∗ wp frame (wpE (defs₀ (F := F)) 𝒱₀ (c : Thread nD τ) none) Set.univ (k (slabOf X h)) Q)
          -∗ wp frame (wpE (defs₀ (F := F)) 𝒱₀ (c : Thread nD τ) none) Set.univ (.op (.load M (Rect.unit (s := ⟨3, ![n, a, b]⟩) off ![1, a, b] inb).toLoadRect hl) k) Q) := by
  subst ho
  have e : slabOf X h = fun x => X ((slab (n := n) (a := a) (b := b) h).toLoadRect.idx x) := funext fun x => congrArg X (slab_emb h x).symm
  rw [e]
  exact wp_load_owns c M (slab h).toLoadRect q X k

theorem wp_store_slab {e : EltTy} (M : Memref sig .tc .vmem ⟨3, ![n, a, b]⟩ e) (h : Fin n) (X : Vec F ⟨3, ![n, a, b]⟩ e) (w : Vec F ⟨3, ![1, a, b]⟩ e)
    {Q : α → sProp 𝕄} {hx : (M.access (slab h)).Stores Finset.univ} {hm : (Finset.univ : Finset (slab (n := n) (a := a) (b := b) h).shape.Idx) = Finset.univ ∨ ∀ i, (slab (n := n) (a := a) (b := b) h).stride i = 1}
    (k : PUnit → Prog (TpuEff nD τ sig (Elt F) Λ₀ .tc) α) :
    (owns (c : Thread nD τ) M fullShare X : sProp 𝕄)
      ⊢ iprop((owns (c : Thread nD τ) M fullShare (putSlab X h w) -∗ wp frame (wpE (defs₀ (F := F)) 𝒱₀ (c : Thread nD τ) none) Set.univ (k ⟨⟩) Q)
          -∗ wp frame (wpE (defs₀ (F := F)) 𝒱₀ (c : Thread nD τ) none) Set.univ (.op (.store M (slab h) w Finset.univ hx hm) k) Q) :=
  wp_store_owns c M (slab h) X (putSlab X h w) w
    (fun x => by
      rw [slab_emb]
      show (if h.val = h.val then w (ix3 0 (x 1) (x 2)) else _) = w x
      rw [if_pos rfl]
      have h0 : x 0 = (0 : Fin 1) := Fin.ext (by have : (x 0).val < 1 := (x 0).isLt; show (x 0).val = 0; omega)
      exact congrArg w ((congrArg (fun z => ix3 z (x 1) (x 2)) h0.symm).trans (eq_ix3 (n0 := 1) (n1 := a) (n2 := b) x).symm))
    (fun y hy => if_neg fun h0 => hy (mem_slab h y (Fin.ext h0))) k

/-! ## Whole buffers -/

theorem all_idx {s : Shape} {off : Fin s.rank → ℕ} (h0 : off = fun _ => 0) (inb : ∀ i, off i + s.size i ≤ s.size i) (x : s.Idx) :
    (Rect.unit off s.size inb).emb x = x := by
  subst h0; exact Rect.emb_whole_apply s x

theorem wp_load_all {s : Shape} {e : EltTy} (M : Memref sig .tc .vmem s e) {off : Fin s.rank → ℕ} (h0 : off = fun _ => 0) (inb : ∀ i, off i + s.size i ≤ s.size i)
    (q : PosShare TreeShare) (X : Vec F s e)
    {Q : α → sProp 𝕄} {hl : M.view.LoadsAt (Rect.unit off s.size inb).toLoadRect} (k : Vec F s e → Prog (TpuEff nD τ sig (Elt F) Λ₀ .tc) α) :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) := by
  have e : k X = k fun x => X ((Rect.unit off s.size inb).toLoadRect.idx x) := congrArg k (funext fun x => congrArg X (all_idx h0 inb x).symm)
  rw [e]
  exact wp_load_owns c M (Rect.unit off s.size inb).toLoadRect q X k

theorem wp_store_all {s : Shape} {e : EltTy} (M : Memref sig .tc .vmem s e) {off : Fin s.rank → ℕ} (h0 : off = fun _ => 0) (inb : ∀ i, off i + s.size i ≤ s.size i)
    (X w : Vec F s e)
    {Q : α → sProp 𝕄} {hx : (M.access (Rect.unit off s.size inb)).Stores Finset.univ} {hm : (Finset.univ : Finset (Rect.unit off s.size inb).shape.Idx) = Finset.univ ∨ ∀ i, (Rect.unit off s.size inb).stride i = 1}
    (k : PUnit → Prog (TpuEff nD τ sig (Elt F) Λ₀ .tc) α) :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) :=
  wp_store_owns c M (Rect.unit off s.size inb) X w w
    (fun x => congrArg w (all_idx h0 inb x))
    (fun y hy => absurd (by rw [← Rect.map_emb_univ]; exact Finset.mem_map.mpr ⟨y, Finset.mem_univ _, all_idx h0 inb y⟩) hy) k

/-! ## A part of a buffer, owned by what its squeezed window reads -/

/-- A load inside an owned window of a buffer: the element read at `x` is the window's at `j x`. -/
theorem wp_load_inside {s s' : Shape} {e : EltTy} (M : Memref sig .tc .vmem s e) (r : Rect s) (hr : ∀ i, r.stride i = 1) (hq : r.shape.Squeezes s')
    (X : Vec F s' e) (r' : LoadRect s) (j : r'.shape.Idx → s'.Idx) (z : r'.shape.Idx → r.shape.Idx)
    (hz : ∀ x, (r.shape.rowMajor (z x)).val = (s'.rowMajor (j x)).val) (hj : ∀ x, r.emb (z x) = r'.idx x)
    {Q : α → sProp 𝕄} {hl : M.view.LoadsAt r'} (k : (r'.shape.Idx → Elt F e) → Prog (TpuEff nD τ sig (Elt F) Λ₀ .tc) α) :
    (owns (c : Thread nD τ) ((M.slice r hr).squeeze s' hq) fullShare X : sProp 𝕄)
      ⊢ iprop((owns (c : Thread nD τ) ((M.slice r hr).squeeze s' hq) fullShare X -∗ wp frame (wpE (defs₀ (F := F)) 𝒱₀ (c : Thread nD τ) none) Set.univ (k fun x => X (j x)) Q)
          -∗ wp frame (wpE (defs₀ (F := F)) 𝒱₀ (c : Thread nD τ) none) Set.univ (.op (.load M r' hl) k) Q) := by
  unfold owns
  iintro ⟨%f, %hf, H⟩ Hk
  iapply (wp_load (m := M) (r := r') 𝒱₀ (c : Thread nD τ) none Set.univ (S := ((M.slice r hr).squeeze s' hq).view.set) (by
    rw [Memref.set_view_squeeze]
    show M.view.setOn r'.set ⊆ (M.view.slice r).set
    rw [View.set_slice]
    refine Finset.map_subset_map.mpr fun y hy => ?_
    obtain ⟨x, rfl⟩ := r'.exists_idx_of_mem hy
    rw [← hj, ← Rect.map_emb_univ]; exact Finset.mem_map_of_mem _ (Finset.mem_univ _))) $$ H
  iintro H
  have e : M.view.readAt (Elt F) r' f = fun x => X (j x) := by
    funext x
    rw [← hf, Memref.read_squeeze_slice M r hr hq hq.numel_eq f, shapeCast_apply _ _ (j x) (z x) (hz x), View.readAt_apply, View.readAt_apply, ← hj]
    rfl
  rw [e]
  iapply Hk
  iexists f
  isplitr; · ipureintro; exact hf
  iexact H

/-- A load of the whole window: the window's contents at the buffer's own rank. -/
theorem wp_load_part {s s' : Shape} {e : EltTy} (M : Memref sig .tc .vmem s e) {off off' size : Fin s.rank → ℕ} (ho : off' = off)
    (inb : ∀ i, off i + size i ≤ s.size i) (inb' : ∀ i, off' i + size i ≤ s.size i) (hr : ∀ i, (Rect.unit off size inb).stride i = 1)
    (hq : (Rect.unit off size inb).shape.Squeezes s') (hc : s'.ShapeCasts ⟨s.rank, size⟩) (X : Vec F s' e)
    {Q : α → sProp 𝕄} {hl : M.view.LoadsAt (Rect.unit off' size inb').toLoadRect} (k : Vec F ⟨s.rank, size⟩ e → Prog (TpuEff nD τ sig (Elt F) Λ₀ .tc) α) :
    (owns (c : Thread nD τ) ((M.slice (Rect.unit off size inb) hr).squeeze s' hq) fullShare X : sProp 𝕄)
      ⊢ iprop((owns (c : Thread nD τ) ((M.slice (Rect.unit off size inb) hr).squeeze s' hq) fullShare X
            -∗ wp frame (wpE (defs₀ (F := F)) 𝒱₀ (c : Thread nD τ) none) Set.univ (k (shapeCast ⟨s.rank, size⟩ X hc)) Q)
          -∗ wp frame (wpE (defs₀ (F := F)) 𝒱₀ (c : Thread nD τ) none) Set.univ (.op (.load M (Rect.unit off' size inb').toLoadRect hl) k) Q) := by
  subst ho
  exact wp_load_inside c M (Rect.unit off' size inb) hr hq X (Rect.unit off' size inb').toLoadRect (fun x => Shape.reshapeEquiv hc x) id
    (fun x => (Shape.rowMajor_reshapeEquiv hc x).symm) (fun x => rfl) k

end Cert.Paged
-- ==== Proof.Loop.lean ====
/-
The loop over the two halves: each trip waits for its half's copies and takes the sixteen heads through one update.
-/
module

public import proofs.«01_k».proof.Proof.Mem

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

/-- The running maximum, sum and products of all heads. -/
abbrev Acc (F : FTy → Type) : Type := Vec F S16x32x1 .f32 × Vec F S16x32x1 .f32 × Vec F S16x32x128 .f32

theorem casts_win : S32x32x128.ShapeCasts S1x1x32x32x128 := squeezes_S1x1x32x32x128_S32x32x128.numel_eq.symm

/-- A copied window at the buffer's rank. -/
def winCast (w : Vec F S32x32x128 .f32) : Vec F S1x1x32x32x128 .f32 := shapeCast S1x1x32x32x128 w casts_win

/-- One head's update. -/
def headUpd (q : FVec F S32x16x128 .f32) (mk : Vec F S1x32x1024 .f32) (kk vv : Fin 16 → Vec F S32x32x128 .f32) (h : Fin 16) (a : Acc F) : Acc F :=
  (putSlab a.1 h (mOut (scores h q mk (winCast (kk h))) (slabOf a.1 h)),
   putSlab a.2.1 h (lOut (scores h q mk (winCast (kk h))) mk (slabOf a.1 h) (slabOf a.2.1 h)),
   putSlab a.2.2 h (oOut (scores h q mk (winCast (kk h))) mk (winCast (vv h)) (slabOf a.1 h) (slabOf a.2.2 h)))

/-- The updates of the first `j` heads. -/
def headsUpd (q : FVec F S32x16x128 .f32) (mk : Vec F S1x32x1024 .f32) (kk vv : Fin 16 → Vec F S32x32x128 .f32) (a : Acc F) : ℕ → Acc F
  | 0 => a
  | j + 1 => if h : j < 16 then headUpd q mk kk vv ⟨j, h⟩ (headsUpd q mk kk vv a j) else headsUpd q mk kk vv a j

theorem headsUpd_succ (q : FVec F S32x16x128 .f32) (mk : Vec F S1x32x1024 .f32) (kk vv : Fin 16 → Vec F S32x32x128 .f32) (a : Acc F) (j : ℕ) (hj : j < 16) :
    headsUpd q mk kk vv a (j + 1) = headUpd q mk kk vv ⟨j, hj⟩ (headsUpd q mk kk vv a j) := dif_pos hj

variable (c : Dev nD) (X : Buf (Elt F) ((c : Thread nD τ).loc main_arg1)) (Y : Buf (Elt F) ((c : Thread nD τ).loc main_arg2))

/-- The three running buffers. -/
def accOwns (a : Acc F) : sProp 𝕄 :=
  iprop(owns (c : Thread nD τ) mM fullShare a.1 ∗ owns (c : Thread nD τ) lM fullShare a.2.1 ∗ owns (c : Thread nD τ) oM fullShare a.2.2)

/-- A head's part of a buffer, loaded at the buffer's rank. -/
theorem wp_load_buf (M : Memref sig .tc .vmem S2x16x32x32x128 .f32) (s : Fin 2) (h : Fin 16) {off : Fin 5 → ℕ} (ho : off = ![s.val, h.val, 0, 0, 0])
    (inb : ∀ i, off i + S1x1x32x32x128.size i ≤ S2x16x32x32x128.size i) (w : Vec F S32x32x128 .f32) {α : Type} {Q : α → sProp 𝕄}
    {hl : M.view.LoadsAt (Rect.unit (s := S2x16x32x32x128) off S1x1x32x32x128.size inb).toLoadRect} (k : Vec F S1x1x32x32x128 .f32 → Prog (TpuEff nD τ sig (Elt F) Λ₀ .tc) α) :
    (owns (c : Thread nD τ) (dstW M s h) fullShare w : sProp 𝕄)
      ⊢ iprop((owns (c : Thread nD τ) (dstW M s h) fullShare w -∗ wp frame (wpE (defs₀ (F := F)) 𝒱₀ (c : Thread nD τ) none) Set.univ (k (winCast w)) Q)
          -∗ wp frame (wpE (defs₀ (F := F)) 𝒱₀ (c : Thread nD τ) none) Set.univ (.op (.load M (Rect.unit (s := S2x16x32x32x128) off S1x1x32x32x128.size inb).toLoadRect hl) k) Q) :=
  wp_load_part c M ho (bufOff_inb s h) inb (fun _ => rfl) squeezes_S1x1x32x32x128_S32x32x128 casts_win w k

/-- One head of a trip, from the copies its half delivered. -/
theorem wp_head (q : FVec F S32x16x128 .f32) (mk : Vec F S1x32x1024 .f32) (k : Fin k0_t1_loop.trips) (h : Fin 16) (a : Acc F) {α : Type} (Q : α → sProp 𝕄)
    (rest : PUnit → Prog (TpuEff nD τ sig (Elt F) Λ₀ .tc) α) :
    iprop(delK c X (half k) h ∗ delV c Y (half k) h ∗ accOwns c a
        ∗ (iprop(delK c X (half k) h ∗ delV c Y (half k) h ∗ accOwns c (headUpd q mk (winK c X (half k)) (winV c Y (half k)) h a))
            -∗ wp frame (wpE (defs₀ (F := F)) 𝒱₀ (c : Thread nD τ) none) Set.univ (rest ⟨⟩) Q))
      ⊢ wp frame (wpE (defs₀ (F := F)) 𝒱₀ (c : Thread nD τ) none) Set.univ (head q mk k h >>= rest) Q := by
  unfold head
  simp only [Prog.lift, Prog.bind_op, Prog.bind_ret, Prog.pure_eq_ret, bind_assoc, pure_bind]
  unfold delK delV accOwns
  iintro ⟨⟨HK, HKw⟩, ⟨HV, HVw⟩, ⟨Hm, Hl, Ho⟩, Hk⟩
  iapply (wp_load_buf c kbM (half k) h (readOff_eq k h) (readOff_inb k h) (winK c X (half k) h)) $$ HK
  iintro HK
  iapply (wp_load_buf c vbM (half k) h (readOff_eq k h) (readOff_inb k h) (winV c Y (half k) h)) $$ HV
  iintro HV
  iapply (wp_load_slab (n := 16) (a := 32) (b := 1) c mM h rfl _ fullShare a.1) $$ Hm
  iintro Hm
  iapply (wp_load_slab (n := 16) (a := 32) (b := 1) c lM h rfl _ fullShare a.2.1) $$ Hl
  iintro Hl
  iapply (wp_load_slab (n := 16) (a := 32) (b := 1) c lM h rfl _ fullShare a.2.1) $$ Hl
  iintro Hl
  iapply (wp_store_slab (n := 16) (a := 32) (b := 1) c lM h a.2.1) $$ Hl
  iintro Hl
  iapply (wp_load_slab (n := 16) (a := 32) (b := 1) c mM h rfl _ fullShare a.1) $$ Hm
  iintro Hm
  iapply (wp_store_slab (n := 16) (a := 32) (b := 1) c mM h a.1) $$ Hm
  iintro Hm
  iapply (wp_load_slab (n := 16) (a := 32) (b := 128) c oM h rfl _ fullShare a.2.2) $$ Ho
  iintro Ho
  iapply (wp_load_slab (n := 16) (a := 32) (b := 128) c oM h rfl _ fullShare a.2.2) $$ Ho
  iintro Ho
  iapply (wp_store_slab (n := 16) (a := 32) (b := 128) c oM h a.2.2) $$ Ho
  iintro Ho
  iapply Hk
  isplitl [HK HKw]
  · isplitl [HK]; · iexact HK
    iexact HKw
  isplitl [HV HVw]
  · isplitl [HV]; · iexact HV
    iexact HVw
  unfold headUpd
  isplitl [Hm]; · iexact Hm
  isplitl [Hl]; · iexact Hl
  iexact Ho

/-- All that one half's copies delivered, its semaphores back at zero. -/
def doneHalf (s : Fin 2) : sProp 𝕄 :=
  iprop((bigSep Finset.univ (delK c X s)) ∗ semVal ((c : Thread nD τ), .dma (halfS kcS s).sem) 0
    ∗ (bigSep Finset.univ (delV c Y s)) ∗ semVal ((c : Thread nD τ), .dma (halfS vcS s).sem) 0)

theorem take_one (D : Fin 16 → sProp 𝕄) (h : Fin 16) : (bigSep Finset.univ D : sProp 𝕄) ⊢ iprop(D h ∗ (D h -∗ bigSep Finset.univ D)) := by
  rw [BI.bigSep_erase (Finset.mem_univ h)]
  show iprop(D h ∗ bigSep (Finset.univ.erase h) D) ⊢ iprop(D h ∗ (D h -∗ iprop(D h ∗ bigSep (Finset.univ.erase h) D)))
  iintro ⟨H, Hr⟩
  isplitl [H]; · iexact H
  iintro H
  isplitl [H]; · iexact H
  iexact Hr

/-- The sixteen heads of a trip. -/
theorem wp_heads (q : FVec F S32x16x128 .f32) (mk : Vec F S1x32x1024 .f32) (k : Fin k0_t1_loop.trips) (a : Acc F) (Q : PUnit → sProp 𝕄)
    (rest : Prog (TpuEff nD τ sig (Elt F) Λ₀ .tc) PUnit) :
    iprop(doneHalf c X Y (half k) ∗ accOwns c a
        ∗ (iprop(doneHalf c X Y (half k) ∗ accOwns c (headsUpd q mk (winK c X (half k)) (winV c Y (half k)) a 16))
            -∗ wp frame (wpE (defs₀ (F := F)) 𝒱₀ (c : Thread nD τ) none) Set.univ rest Q))
      ⊢ wp frame (wpE (defs₀ (F := F)) 𝒱₀ (c : Thread nD τ) none) Set.univ (seqL heads (head q mk k) rest) Q := by
  iintro ⟨HD, Ha, Hk⟩
  iapply (wp_seqL c (head q mk k) rest Q heads
    (fun j => iprop(doneHalf c X Y (half k) ∗ accOwns c (headsUpd q mk (winK c X (half k)) (winV c Y (half k)) a j))) (by
      intro j hj k'
      have hj' : j < 16 := hj
      rw [heads_get j hj, headsUpd_succ _ _ _ _ _ j hj']
      unfold doneHalf
      iintro ⟨⟨⟨HK, Hzk, HV, Hzv⟩, Ha⟩, Hk⟩
      ihave HK := (take_one (delK c X (half k)) ⟨j, hj'⟩) $$ HK
      icases HK with ⟨HK, HKr⟩
      ihave HV := (take_one (delV c Y (half k)) ⟨j, hj'⟩) $$ HV
      icases HV with ⟨HV, HVr⟩
      iapply (wp_head c X Y q mk k ⟨j, hj'⟩ _ Q k')
      isplitl [HK]; · iexact HK
      isplitl [HV]; · iexact HV
      isplitl [Ha]; · iexact Ha
      iintro ⟨HK, HV, Ha⟩
      iapply Hk
      isplitr [Ha]; rotate_left; · iexact Ha
      isplitl [HK HKr]; · iapply HKr; iexact HK
      isplitl [Hzk]; · iexact Hzk
      isplitl [HV HVr]; · iapply HVr; iexact HV
      iexact Hzv))
  isplitl [HD Ha]
  · isplitl [HD]; · iexact HD
    iexact Ha
  iexact Hk

theorem off67_eq : ∀ k : Fin k0_t1_loop.trips, k0_off67 k = ![(half k).val, 0, 0] := by decide +kernel

/-- What the loop has made of its start after `t` trips. -/
def loopAcc (q : FVec F S32x16x128 .f32) (MK : Vec F S2x32x1024 .f32) (kk vv : Fin 2 → Fin 16 → Vec F S32x32x128 .f32) (a : Acc F) : ℕ → Acc F
  | 0 => a
  | t + 1 => if h : t < 2 then headsUpd q (slabOf (n := 2) (a := 32) (b := 1024) MK ⟨t, h⟩) (kk ⟨t, h⟩) (vv ⟨t, h⟩) (loopAcc q MK kk vv a t) 16 else loopAcc q MK kk vv a t

theorem loopAcc_succ (q : FVec F S32x16x128 .f32) (MK : Vec F S2x32x1024 .f32) (kk vv : Fin 2 → Fin 16 → Vec F S32x32x128 .f32) (a : Acc F) (k : Fin k0_t1_loop.trips) :
    loopAcc q MK kk vv a (k.val + 1)
      = headsUpd q (slabOf (n := 2) (a := 32) (b := 1024) MK (half k)) (kk (half k)) (vv (half k)) (loopAcc q MK kk vv a k.val) 16 :=
  dif_pos (half k).isLt

/-- A half's copies: under way before its trip, delivered after. -/
def halfAt (t : ℕ) (s : Fin 2) : sProp 𝕄 := if s.val < t then doneHalf c X Y s else iprop(batK c X s 16 0 ∗ batV c Y s 16 0)

/-- What holds between two trips. -/
def loopI (q : FVec F S32x16x128 .f32) (MK : Vec F S2x32x1024 .f32) (a : Acc F) (t : ℕ) : sProp 𝕄 :=
  iprop(levAts L lv ∗ halfAt c X Y t 0 ∗ halfAt c X Y t 1 ∗ owns (c : Thread nD τ) mkM fullShare MK
    ∗ accOwns c (loopAcc q MK (winK c X) (winV c Y) a t) ∗ ∃ W, owes (c : Thread nD τ) (owedFrom 0 c) W)

theorem halfAt_split (k : Fin k0_t1_loop.trips) : (iprop(halfAt c X Y k.val 0 ∗ halfAt c X Y k.val 1) : sProp 𝕄)
    ⊢ iprop((batK c X (half k) 16 0 ∗ batV c Y (half k) 16 0) ∗ (doneHalf c X Y (half k) -∗ iprop(halfAt c X Y (k.val + 1) 0 ∗ halfAt c X Y (k.val + 1) 1))) := by
  have hk : k.val = 0 ∨ k.val = 1 := by have := (half k).isLt; have e : (half k).val = k.val := rfl; omega
  rcases hk with hk | hk
  · have e : half k = 0 := Fin.ext hk
    have a0 : halfAt c X Y k.val 0 = iprop(batK c X 0 16 0 ∗ batV c Y 0 16 0) := if_neg (by rw [hk]; decide)
    have a1 : halfAt c X Y k.val 1 = iprop(batK c X 1 16 0 ∗ batV c Y 1 16 0) := if_neg (by rw [hk]; decide)
    have b0 : halfAt c X Y (k.val + 1) 0 = doneHalf c X Y 0 := if_pos (by rw [hk]; decide)
    have b1 : halfAt c X Y (k.val + 1) 1 = iprop(batK c X 1 16 0 ∗ batV c Y 1 16 0) := if_neg (by rw [hk]; decide)
    rw [e, a0, a1, b0, b1]
    iintro ⟨H0, H1⟩
    isplitl [H0]; · iexact H0
    iintro H
    isplitl [H]; · iexact H
    iexact H1
  · have e : half k = 1 := Fin.ext hk
    have a0 : halfAt c X Y k.val 0 = doneHalf c X Y 0 := if_pos (by rw [hk]; decide)
    have a1 : halfAt c X Y k.val 1 = iprop(batK c X 1 16 0 ∗ batV c Y 1 16 0) := if_neg (by rw [hk]; decide)
    have b0 : halfAt c X Y (k.val + 1) 0 = doneHalf c X Y 0 := if_pos (by rw [hk]; decide)
    have b1 : halfAt c X Y (k.val + 1) 1 = doneHalf c X Y 1 := if_pos (by rw [hk]; decide)
    rw [e, a0, a1, b0, b1]
    iintro ⟨H0, H1⟩
    isplitl [H1]; · iexact H1
    iintro H
    isplitl [H0]; · iexact H0
    iexact H

/-- One trip. -/
theorem wp_trip (q : FVec F S32x16x128 .f32) (MK : Vec F S2x32x1024 .f32) (a : Acc F) (k : Fin k0_t1_loop.trips) :
    loopI c X Y q MK a k.val ⊢ wp frame (wpE (defs₀ (F := F)) 𝒱₀ (c : Thread nD τ) none) Set.univ (trip q k) (fun _ => loopI c X Y q MK a (k.val + 1)) := by
  unfold loopI
  rw [loopAcc_succ]
  iintro ⟨#Hlev, H0, H1, Hmk, Ha, ⟨%W, HO⟩⟩
  ihave H := (halfAt_split c X Y k) $$ [H0 H1]
  · isplitl [H0]; · iexact H0
    iexact H1
  icases H with ⟨⟨HK, HV⟩, Hback⟩
  unfold trip
  iapply (wp_waitHalf c X Y k _ _ W)
  isplitr; · iexact Hlev
  isplitl [HK]; · iexact HK
  isplitl [HV]; · iexact HV
  isplitl [HO]; · iexact HO
  iintro %W' ⟨HK, Hzk, HV, Hzv, HO⟩
  simp only [Prog.lift, Prog.bind_op, Prog.bind_ret, Prog.pure_eq_ret, bind_assoc, pure_bind]
  iapply (wp_load_slab (n := 2) (a := 32) (b := 1024) c mkM (half k) (off67_eq k) _ fullShare MK) $$ Hmk
  iintro Hmk
  iapply (wp_heads c X Y q _ k _ _ _)
  isplitl [HK Hzk HV Hzv]
  · unfold doneHalf
    isplitl [HK]; · iexact HK
    isplitl [Hzk]; · iexact Hzk
    isplitl [HV]; · iexact HV
    iexact Hzv
  isplitl [Ha]; · iexact Ha
  iintro ⟨HD, Ha⟩
  ihave H := Hback $$ HD
  icases H with ⟨H0, H1⟩
  rw [wp_ret]
  imodintro
  isplitr; · iexact Hlev
  isplitl [H0]; · iexact H0
  isplitl [H1]; · iexact H1
  isplitl [Hmk]; · iexact Hmk
  isplitl [Ha]; · iexact Ha
  iexists W'; iexact HO

end Cert.Paged
-- ==== Proof.Stages.lean ====
/-
The parts of the body around the loop: clearing, laying out, the three exchange stages with their merges, and the end.
-/
module

public import proofs.«01_k».proof.Proof.Loop

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

theorem zero3 : (![0, 0, 0] : Fin 3 → ℕ) = fun _ => 0 := by funext i; fin_cases i <;> rfl
theorem zero4 : (![0, 0, 0, 0] : Fin 4 → ℕ) = fun _ => 0 := by funext i; fin_cases i <;> rfl

/-- Two slabs as one vector. -/
def two {a b : ℕ} {e : EltTy} (A B : Vec F ⟨3, ![1, a, b]⟩ e) : Vec F ⟨3, ![2, a, b]⟩ e :=
  fun i => if (i 0).val = 0 then A (ix3 0 (i 1) (i 2)) else B (ix3 0 (i 1) (i 2))

/-- Both slabs written: what was there before doesn't show. -/
theorem put_put {a b : ℕ} {e : EltTy} (X : Vec F ⟨3, ![2, a, b]⟩ e) (A B : Vec F ⟨3, ![1, a, b]⟩ e) :
    putSlab (putSlab X (0 : Fin 2) A) (1 : Fin 2) B = two A B := by
  funext i
  have hi : (i 0).val < 2 := (i 0).isLt
  unfold putSlab two
  by_cases h : (i 0).val = 0
  · exact (if_neg (by show ¬ (i 0).val = 1; omega)).trans ((if_pos h).trans (if_pos h).symm)
  · exact (if_pos (by show (i 0).val = 1; omega)).trans (if_neg h).symm

theorem slabOf_two_zero {a b : ℕ} {e : EltTy} (A B : Vec F ⟨3, ![1, a, b]⟩ e) : slabOf (two A B) (0 : Fin 2) = A := by
  funext i
  have h0 : i 0 = (0 : Fin 1) := Fin.ext (by have : (i 0).val < 1 := (i 0).isLt; show (i 0).val = 0; omega)
  exact congrArg A ((congrArg (fun z => ix3 z (i 1) (i 2)) h0.symm).trans (eq_ix3 (n0 := 1) (n1 := a) (n2 := b) i).symm)
theorem slabOf_two_one {a b : ℕ} {e : EltTy} (A B : Vec F ⟨3, ![1, a, b]⟩ e) : slabOf (two A B) (1 : Fin 2) = B := by
  funext i
  have h0 : i 0 = (0 : Fin 1) := Fin.ext (by have : (i 0).val < 1 := (i 0).isLt; show (i 0).val = 0; omega)
  exact congrArg B ((congrArg (fun z => ix3 z (i 1) (i 2)) h0.symm).trans (eq_ix3 (n0 := 1) (n1 := a) (n2 := b) i).symm)

/-- A row of received statistics, at the receiving buffer's rank. -/
def rowR (T : Vec F S2x32x16 .f32) (r : Fin 2) : Vec F S1x1x32x16 .f32 := fun i => T (ix3 (n0 := 2) (n1 := 32) (n2 := 16) r (i 2) (i 3))

theorem casts_or : S32x16x128.ShapeCasts S1x32x16x128 := squeezes_S1x32x16x128_S32x16x128.numel_eq.symm

/-- A device's statistics (the row of maxima, the row of sums) and products. -/
abbrev XS (F : FTy → Type) : Type := Vec F S2x32x16 .f32 × Vec F S32x16x128 .f32

/-- The merge of a device's own statistics and products `a` with those received, `b`. -/
def mergeX (a b : XS F) : XS F :=
  (two (k0_pay219 (slabOf (n := 2) (a := 32) (b := 16) a.1 0) (rowR b.1 0))
      (k0_pay221 (k0_pay220 (slabOf (n := 2) (a := 32) (b := 16) a.1 0) (slabOf (n := 2) (a := 32) (b := 16) a.1 1) (rowR b.1 0) (rowR b.1 1))),
    k0_pay222 (k0_pay217 (slabOf (n := 2) (a := 32) (b := 16) a.1 0) (rowR b.1 0)) (k0_pay218 (slabOf (n := 2) (a := 32) (b := 16) a.1 0) (rowR b.1 0)) a.2
      (shapeCast S1x32x16x128 (k0_pay213 b.2) casts_or))

/-- Every device's statistics and products before stage `s`. -/
def xsAt (x0 : Dev nD → XS F) : ℕ → Dev nD → XS F
  | 0 => x0
  | s + 1 => fun c => if h : s < 3 then mergeX (xsAt x0 s c) (xsAt x0 s (nb ⟨s, h⟩ c)) else xsAt x0 s c

theorem xsAt_succ (x0 : Dev nD → XS F) (s : Fin 3) (c : Dev nD) :
    xsAt x0 (s.val + 1) c = mergeX (xsAt x0 s.val c) (xsAt x0 s.val (nb s c)) := dif_pos s.isLt

/-- What the stages send. -/
def sentP (x0 : Dev nD → XS F) (s : Fin 3) (c : Dev nD) : Vec F S32x16x128 .bf16 := k0_pay213 (xsAt x0 s.val c).2
def sentT (x0 : Dev nD → XS F) (s : Fin 3) (c : Dev nD) : Vec F S2x32x16 .f32 := (xsAt x0 s.val c).1

variable (x0 : Dev nD → XS F) (K : Dev nD × CK → ℕ) (c : Dev nD)

/-- A buffer held with whatever it reads. -/
def holds {s : Shape} {e : EltTy} (M : Memref sig .tc .vmem s e) : sProp 𝕄 := iprop(∃ Z : Vec F s e, owns (c : Thread nD τ) M fullShare Z)

theorem owns_any {sp : Space} {s : Shape} {e : EltTy} (M : Memref sig .tc sp s e) (Z : Vec F s e) :
    (owns (c : Thread nD τ) M fullShare Z : sProp 𝕄) ⊢ anyAt c M := by
  unfold owns anyAt
  iintro ⟨%f, -, H⟩
  iexists f; iexact H

theorem any_owns {s : Shape} {e : EltTy} (M : Memref sig .tc .vmem s e) : (anyAt (F := F) c M : sProp 𝕄) ⊢ holds c M := by
  unfold holds owns anyAt
  iintro ⟨%f, H⟩
  iexists _, f
  isplitr; · ipureintro; rfl
  iexact H

/-- A row of a stage's received statistics, loaded. -/
theorem wp_load_sr (s : Fin 3) (r : Fin 2) {off : Fin 4 → ℕ} (ho : off = ![s.val, r.val, 0, 0]) (inb : ∀ i, off i + S1x1x32x16.size i ≤ S3x2x32x16.size i)
    (T : Vec F S2x32x16 .f32) {α : Type} {Q : α → sProp 𝕄}
    {hl : (srM : Memref sig .tc .vmem S3x2x32x16 .f32).view.LoadsAt (Rect.unit (s := S3x2x32x16) off S1x1x32x16.size inb).toLoadRect}
    (k : Vec F S1x1x32x16 .f32 → Prog (TpuEff nD τ sig (Elt F) Λ₀ .tc) α) :
    (owns (c : Thread nD τ) (srW s) fullShare T : sProp 𝕄)
      ⊢ iprop((owns (c : Thread nD τ) (srW s) fullShare T -∗ wp frame (wpE (defs₀ (F := F)) 𝒱₀ (c : Thread nD τ) none) Set.univ (k (rowR T r)) Q)
          -∗ wp frame (wpE (defs₀ (F := F)) 𝒱₀ (c : Thread nD τ) none) Set.univ (.op (.load srM (Rect.unit (s := S3x2x32x16) off S1x1x32x16.size inb).toLoadRect hl) k) Q) := by
  subst ho
  refine wp_load_inside c srM (Rect.unit (s := S3x2x32x16) ![s.val, 0, 0, 0] S1x2x32x16.size (srOff_inb s)) (fun _ => rfl) squeezes_S1x2x32x16_S2x32x16 T
    (Rect.unit (s := S3x2x32x16) ![s.val, r.val, 0, 0] S1x1x32x16.size inb).toLoadRect
    (fun i => ix3 (n0 := 2) (n1 := 32) (n2 := 16) r (i 2) (i 3)) (fun i => ix4 (n0 := 1) (n1 := 2) (n2 := 32) (n3 := 16) 0 r (i 2) (i 3)) (fun x => ?_) (fun x => ?_) k
  · refine (Shape.rowMajor_val_four (d := ![1, 2, 32, 16]) _).trans (Eq.trans ?_ (Shape.rowMajor_val_three (d := ![2, 32, 16]) _).symm)
    show ((0 * 2 + r.val) * 32 + (x 2).val) * 16 + (x 3).val = (r.val * 32 + (x 2).val) * 16 + (x 3).val
    omega
  · have h0 : (x 0).val = 0 := by have : (x 0).val < 1 := (x 0).isLt; omega
    have h1 : (x 1).val = 0 := by have : (x 1).val < 1 := (x 1).isLt; omega
    funext i
    match i with
    | ⟨0, _⟩ => exact Fin.ext (by show s.val + 1 * 0 = s.val + 1 * (x 0).val; omega)
    | ⟨1, _⟩ => exact Fin.ext (by show 0 + 1 * r.val = r.val + 1 * (x 1).val; omega)
    | ⟨2, _⟩ => rfl
    | ⟨3, _⟩ => rfl

/-- A stage's received products, loaded. -/
theorem wp_load_or (s : Fin 3) (inb : ∀ i, (![s.val, 0, 0, 0] : Fin 4 → ℕ) i + S1x32x16x128.size i ≤ S3x32x16x128.size i)
    (w : Vec F S32x16x128 .bf16) {α : Type} {Q : α → sProp 𝕄}
    {hl : (orM : Memref sig .tc .vmem S3x32x16x128 .bf16).view.LoadsAt (Rect.unit (s := S3x32x16x128) ![s.val, 0, 0, 0] S1x32x16x128.size inb).toLoadRect}
    (k : Vec F S1x32x16x128 .bf16 → Prog (TpuEff nD τ sig (Elt F) Λ₀ .tc) α) :
    (owns (c : Thread nD τ) (orW s) fullShare w : sProp 𝕄)
      ⊢ iprop((owns (c : Thread nD τ) (orW s) fullShare w -∗ wp frame (wpE (defs₀ (F := F)) 𝒱₀ (c : Thread nD τ) none) Set.univ (k (shapeCast S1x32x16x128 w casts_or)) Q)
          -∗ wp frame (wpE (defs₀ (F := F)) 𝒱₀ (c : Thread nD τ) none) Set.univ (.op (.load orM (Rect.unit (s := S3x32x16x128) ![s.val, 0, 0, 0] S1x32x16x128.size inb).toLoadRect hl) k) Q) :=
  wp_load_part c orM rfl (orOff_inb s) inb (fun _ => rfl) squeezes_S1x32x16x128_S32x16x128 casts_or w k

/-- The merge of a stage. -/
theorem wp_merge (s : Fin 3) (a b : XS F) {α : Type} (Q : α → sProp 𝕄) (k : PUnit → Prog (TpuEff nD τ sig (Elt F) Λ₀ .tc) α) :
    iprop(owns (c : Thread nD τ) stM fullShare a.1 ∗ owns (c : Thread nD τ) oaM fullShare a.2
        ∗ owns (c : Thread nD τ) (orW s) fullShare (k0_pay213 b.2) ∗ owns (c : Thread nD τ) (srW s) fullShare b.1
        ∗ (iprop(owns (c : Thread nD τ) stM fullShare (mergeX a b).1 ∗ owns (c : Thread nD τ) oaM fullShare (mergeX a b).2 ∗ landing c s)
            -∗ wp frame (wpE (defs₀ (F := F)) 𝒱₀ (c : Thread nD τ) none) Set.univ (k ⟨⟩) Q))
      ⊢ wp frame (wpE (defs₀ (F := F)) 𝒱₀ (c : Thread nD τ) none) Set.univ (merge s >>= k) Q := by
  unfold merge
  simp only [Prog.lift, Prog.bind_op, Prog.bind_ret, Prog.pure_eq_ret, bind_assoc, pure_bind]
  iintro ⟨Hst, Hoa, Hor, Hsr, Hk⟩
  iapply (wp_load_slab (n := 2) (a := 32) (b := 16) c stM (0 : Fin 2) rfl _ fullShare a.1) $$ Hst
  iintro Hst
  iapply (wp_load_slab (n := 2) (a := 32) (b := 16) c stM (1 : Fin 2) rfl _ fullShare a.1) $$ Hst
  iintro Hst
  iapply (wp_load_sr c s (0 : Fin 2) rfl (sr0_inb s) b.1) $$ Hsr
  iintro Hsr
  iapply (wp_load_sr c s (1 : Fin 2) rfl (sr1_inb s) b.1) $$ Hsr
  iintro Hsr
  iapply (wp_load_slab (n := 2) (a := 32) (b := 16) c stM (0 : Fin 2) rfl _ fullShare a.1) $$ Hst
  iintro Hst
  iapply (wp_store_slab (n := 2) (a := 32) (b := 16) c stM (0 : Fin 2) a.1) $$ Hst
  iintro Hst
  iapply (wp_load_slab (n := 2) (a := 32) (b := 16) c stM (1 : Fin 2) rfl _ fullShare _) $$ Hst
  iintro Hst
  iapply (wp_store_slab (n := 2) (a := 32) (b := 16) c stM (1 : Fin 2) _) $$ Hst
  iintro Hst
  iapply (wp_load_all c oaM zero3 _ fullShare a.2) $$ Hoa
  iintro Hoa
  iapply (wp_load_or c s (orOff_inb s) (k0_pay213 b.2)) $$ Hor
  iintro Hor
  iapply (wp_load_all c oaM zero3 _ fullShare a.2) $$ Hoa
  iintro Hoa
  iapply (wp_store_all c oaM zero3 _ a.2) $$ Hoa
  iintro Hoa
  rw [put_put]
  iapply Hk
  isplitl [Hst]; · unfold mergeX; iexact Hst
  isplitl [Hoa]; · unfold mergeX; iexact Hoa
  unfold landing
  isplitl [Hor]
  · iapply (owns_any c (orW s) _); iexact Hor
  iapply (owns_any c (srW s) _); iexact Hsr

/-- One stage: send, receive, merge. -/
theorem wp_stage (s : Fin 3) {α : Type} (Q : α → sProp 𝕄) (k : PUnit → Prog (TpuEff nD τ sig (Elt F) Λ₀ .tc) α) (W : Waits sig Unit) :
    iprop(recs (sentP x0) (sentT x0) K ∗ levAts L lv ∗ stageRes c s ∗ landing (nb s c) s ∗ holds c sbM
        ∗ owns (c : Thread nD τ) stM fullShare (xsAt x0 s.val c).1 ∗ owns (c : Thread nD τ) oaM fullShare (xsAt x0 s.val c).2
        ∗ owes (c : Thread nD τ) (owedFrom s.val c) W
        ∗ (∀ W', (stageEnd c s ∗ landing c s ∗ holds c sbM
            ∗ owns (c : Thread nD τ) stM fullShare (xsAt x0 (s.val + 1) c).1 ∗ owns (c : Thread nD τ) oaM fullShare (xsAt x0 (s.val + 1) c).2
            ∗ owes (c : Thread nD τ) (owedFrom (s.val + 1) c) W')
          -∗ wp frame (wpE (defs₀ (F := F)) 𝒱₀ (c : Thread nD τ) none) Set.univ (k ⟨⟩) Q))
      ⊢ wp frame (wpE (defs₀ (F := F)) 𝒱₀ (c : Thread nD τ) none) Set.univ (stage c s >>= k) Q := by
  unfold stage pack holds
  simp only [Prog.lift, Prog.bind_op, Prog.bind_ret, Prog.pure_eq_ret, bind_assoc, pure_bind]
  iintro ⟨#Hrec, #Hlev, Hres, Hland, ⟨%Z, Hsb⟩, Hst, Hoa, HO, Hk⟩
  iapply (wp_load_all c oaM zero3 _ fullShare _) $$ Hoa
  iintro Hoa
  iapply (wp_load_all c sbM zero3 _ fullShare Z) $$ Hsb
  iintro Hsb
  iapply (wp_store_all c sbM zero3 _ Z) $$ Hsb
  iintro Hsb
  iapply (wp_exchange (sentP x0) (sentT x0) K c s _ W)
  isplitr; · iexact Hrec
  isplitr; · iexact Hlev
  isplitl [Hres]; · iexact Hres
  isplitl [Hland]; · iexact Hland
  isplitl [Hsb]; · unfold sentP; iexact Hsb
  isplitl [Hst]; · unfold sentT; iexact Hst
  isplitl [HO]; · iexact HO
  iintro %W' ⟨Hend, Hsb, Hst, Hor, Hsr, HO⟩
  iapply (wp_merge c s (xsAt x0 s.val c) (xsAt x0 s.val (nb s c)) Q k)
  isplitl [Hst]; · iexact Hst
  isplitl [Hoa]; · iexact Hoa
  isplitl [Hor]; · iexact Hor
  isplitl [Hsr]; · iexact Hsr
  rw [← xsAt_succ]
  iintro ⟨Hst, Hoa, Hland⟩
  iapply Hk
  isplitl [Hend]; · iexact Hend
  isplitl [Hland]; · iexact Hland
  isplitl [Hsb]; · iexists _; iexact Hsb
  isplitl [Hst]; · iexact Hst
  isplitl [Hoa]; · iexact Hoa
  iexact HO

/-- The cleared maximum, sum and products. -/
def acc0 : Acc F := (k0_pay204 (k0_pay203 (F := F)), k0_pay205, k0_pay206)

theorem wp_init {α : Type} (Q : α → sProp 𝕄) (k : PUnit → Prog (TpuEff nD τ sig (Elt F) Λ₀ .tc) α) :
    iprop(holds c mM ∗ holds c lM ∗ holds c oM
        ∗ (accOwns c acc0 -∗ wp frame (wpE (defs₀ (F := F)) 𝒱₀ (c : Thread nD τ) none) Set.univ (k ⟨⟩) Q))
      ⊢ wp frame (wpE (defs₀ (F := F)) 𝒱₀ (c : Thread nD τ) none) Set.univ (init >>= k) Q := by
  unfold init holds
  simp only [Prog.lift, Prog.bind_op, Prog.bind_ret, Prog.pure_eq_ret, bind_assoc, pure_bind]
  iintro ⟨⟨%A, Hm⟩, ⟨%B, Hl⟩, ⟨%C, Ho⟩, Hk⟩
  iapply (wp_load_all c mM zero3 _ fullShare A) $$ Hm
  iintro Hm
  iapply (wp_store_all c mM zero3 _ A) $$ Hm
  iintro Hm
  iapply (wp_load_all c lM zero3 _ fullShare B) $$ Hl
  iintro Hl
  iapply (wp_store_all c lM zero3 _ B) $$ Hl
  iintro Hl
  iapply (wp_load_all c oM zero3 _ fullShare C) $$ Ho
  iintro Ho
  iapply (wp_store_all c oM zero3 _ C) $$ Ho
  iintro Ho
  iapply Hk
  unfold accOwns acc0
  isplitl [Hm]; · iexact Hm
  isplitl [Hl]; · iexact Hl
  iexact Ho

/-- The loop's results laid out. -/
def layX (a : Acc F) : XS F := (two (k0_pay209 a.1) (k0_pay211 (k0_pay210 a.2.1)), k0_pay212 a.2.2)

theorem wp_layOut (a : Acc F) {α : Type} (Q : α → sProp 𝕄) (k : PUnit → Prog (TpuEff nD τ sig (Elt F) Λ₀ .tc) α) :
    iprop(accOwns c a ∗ holds c stM ∗ holds c oaM
        ∗ (iprop(accOwns c a ∗ owns (c : Thread nD τ) stM fullShare (layX a).1 ∗ owns (c : Thread nD τ) oaM fullShare (layX a).2)
            -∗ wp frame (wpE (defs₀ (F := F)) 𝒱₀ (c : Thread nD τ) none) Set.univ (k ⟨⟩) Q))
      ⊢ wp frame (wpE (defs₀ (F := F)) 𝒱₀ (c : Thread nD τ) none) Set.univ (layOut >>= k) Q := by
  unfold layOut holds accOwns
  simp only [Prog.lift, Prog.bind_op, Prog.bind_ret, Prog.pure_eq_ret, bind_assoc, pure_bind]
  iintro ⟨⟨Hm, Hl, Ho⟩, ⟨%A, Hst⟩, ⟨%B, Hoa⟩, Hk⟩
  iapply (wp_load_all c mM zero3 _ fullShare a.1) $$ Hm
  iintro Hm
  iapply (wp_load_slab (n := 2) (a := 32) (b := 16) c stM (0 : Fin 2) rfl _ fullShare A) $$ Hst
  iintro Hst
  iapply (wp_store_slab (n := 2) (a := 32) (b := 16) c stM (0 : Fin 2) A) $$ Hst
  iintro Hst
  iapply (wp_load_all c lM zero3 _ fullShare a.2.1) $$ Hl
  iintro Hl
  iapply (wp_load_slab (n := 2) (a := 32) (b := 16) c stM (1 : Fin 2) rfl _ fullShare _) $$ Hst
  iintro Hst
  iapply (wp_store_slab (n := 2) (a := 32) (b := 16) c stM (1 : Fin 2) _) $$ Hst
  iintro Hst
  iapply (wp_load_all c oM zero3 _ fullShare a.2.2) $$ Ho
  iintro Ho
  iapply (wp_load_all c oaM zero3 _ fullShare B) $$ Hoa
  iintro Hoa
  iapply (wp_store_all c oaM zero3 _ B) $$ Hoa
  iintro Hoa
  rw [put_put]
  iapply Hk
  isplitl [Hm Hl Ho]
  · isplitl [Hm]; · iexact Hm
    isplitl [Hl]; · iexact Hl
    iexact Ho
  unfold layX
  isplitl [Hst]; · iexact Hst
  iexact Hoa

/-- The result of merged statistics and products. -/
def outX (a : XS F) : Vec F S32x1x16x128 .f32 := k0_pay1 a.2 (slabOf (n := 2) (a := 32) (b := 16) a.1 1)

theorem wp_finish (a : XS F) (Q : PUnit → sProp 𝕄) :
    iprop(owns (c : Thread nD τ) stM fullShare a.1 ∗ owns (c : Thread nD τ) oaM fullShare a.2 ∗ holds c outM
        ∗ (iprop(owns (c : Thread nD τ) stM fullShare a.1 ∗ owns (c : Thread nD τ) oaM fullShare a.2 ∗ owns (c : Thread nD τ) outM fullShare (outX a)) -∗ Q ⟨⟩))
      ⊢ wp frame (wpE (defs₀ (F := F)) 𝒱₀ (c : Thread nD τ) none) Set.univ finish Q := by
  unfold finish holds
  simp only [Prog.lift, Prog.bind_op, Prog.bind_ret, Prog.pure_eq_ret, bind_assoc, pure_bind]
  iintro ⟨Hst, Hoa, ⟨%A, Hout⟩, Hk⟩
  iapply (wp_load_all c oaM zero3 _ fullShare a.2) $$ Hoa
  iintro Hoa
  iapply (wp_load_slab (n := 2) (a := 32) (b := 16) c stM (1 : Fin 2) rfl _ fullShare a.1) $$ Hst
  iintro Hst
  iapply (wp_load_all c outM zero4 _ fullShare A) $$ Hout
  iintro Hout
  iapply (wp_store_all c outM zero4 _ A) $$ Hout
  iintro Hout
  rw [wp_ret]
  imodintro
  iapply Hk
  isplitl [Hst]; · iexact Hst
  isplitl [Hoa]; · iexact Hoa
  unfold outX; iexact Hout

end Cert.Paged
-- ==== Proof.Body.lean ====
/-
The body around the copies: the barrier, the reading of the page table and lengths, and the counts' store.
-/
module

public import proofs.«01_k».proof.Proof.Stages

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Fin 3 → Dev nD → Vec F S32x16x128 .bf16) (T : Fin 3 → Dev nD → Vec F S2x32x16 .f32)
variable (K : Dev nD × CK → ℕ) (c : Dev nD)

/-- What the barrier starts from: the position of its cell, the duties it pays its neighbours, the credit it waits with. -/
def barRes : sProp 𝕄 :=
  iprop(atPos ER (barCell c) 0 ∅ 0
    ∗ dutyTok ER (barCell (nb 0 c)) 0 ((0 : Fin 3), false) ∗ dutyTok ER (barCell (nb 1 c)) 0 ((1 : Fin 3), false) ∗ dutyTok ER (barCell (nb 2 c)) 0 ((2 : Fin 3), false)
    ∗ cred (tallyAt (barCell c) () 3))

theorem mem_bar : ∀ s : Fin 3, ((s, false) : SB) ∈ ({((0 : Fin 3), false), ((1 : Fin 3), false), ((2 : Fin 3), false)} : Finset SB) := by decide

/-- One signal: a neighbour is handed this device's landing windows of a stage. -/
theorem wp_signal_one (n : Dev nD) (s : Fin 3) (hn : n = nb s c) (O O' : CellTallies nD τ sig Unit) (hO : O' = O + tallyAt (barCell (nb s c)) () 1) (W : Waits sig Unit)
    {α : Type} {Q : α → sProp 𝕄} {k : PUnit → Prog (TpuEff nD τ sig (Elt F) Λ₀ .tc) α} :
    iprop(recs P T K ∗ owes (c : Thread nD τ) O' W ∗ dutyTok ER (barCell (nb s c)) 0 (s, false) ∗ landing c s)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barSem (1#32).toNat) k) Q) := by
  subst hn
  iintro ⟨#Hrec, HO, Ht, Hl⟩
  ihave H1 := (rec_at P T K (nb s c, none)) $$ Hrec
  icases H1 with ⟨#Hi, #Hr⟩
  iapply (Rounds.wp_signal 𝒱₀ ER (rd P T) (c : Thread nD τ) none (dst := (nb s c : Thread nD τ)) (κ := K (nb s c, none))
    (d := (s, false)) (by rw [duties_bar]; exact mem_bar s) ((amount_bar P T (nb s c) (s, false)).trans (by decide)) () O hO (W := W))
  isplitr; · iexact Hi
  isplitl [HO]; · iexact HO
  isplitl [Ht]; · iexact Ht
  isplitl [Hl]
  · rw [payload_bar, nb_nb s c]; iexact Hl
  iexact Hr

/-- The barrier: this device's landing windows go out, the neighbours' come in. -/
theorem wp_barrier {α : Type} (Q : α → sProp 𝕄) (k : PUnit → Prog (TpuEff nD τ sig (Elt F) Λ₀ .tc) α) (W : Waits sig Unit) :
    iprop(recs P T K ∗ levAts L lv ∗ barRes c ∗ landing c 0 ∗ landing c 1 ∗ landing c 2 ∗ owes (c : Thread nD τ) (O₀ c) W
        ∗ (∀ W', (semVal (barCell c) 0 ∗ landing (nb 0 c) 0 ∗ landing (nb 1 c) 1 ∗ landing (nb 2 c) 2 ∗ owes (c : Thread nD τ) (owedFrom 0 c) W')
          -∗ wp frame (wpE (defs₀ (F := F)) 𝒱₀ (c : Thread nD τ) none) Set.univ (k ⟨⟩) Q))
      ⊢ wp frame (wpE (defs₀ (F := F)) 𝒱₀ (c : Thread nD τ) none) Set.univ (barrier c >>= k) Q := by
  unfold barrier barRes
  simp only [semSignalWord, semWaitWord, Prog.lift, Prog.bind_op, Prog.bind_ret, Prog.pure_eq_ret, bind_assoc, pure_bind]
  iintro ⟨#Hrec, #Hlev, ⟨Hat, Ht0, Ht1, Ht2, Hc⟩, Hl0, Hl1, Hl2, HO, Hk⟩
  iapply (wp_signal_one P T K c _ 1 (dev1_eq c) _ (O₀ c) rfl W) $$ [HO Ht1 Hl1]
  · isplitr; · iexact Hrec
    isplitl [HO]; · iexact HO
    isplitl [Ht1]; · iexact Ht1
    iexact Hl1
  iintro HO
  iapply (wp_signal_one P T K c _ 0 (dev2_eq c) _ _ rfl W) $$ [HO Ht0 Hl0]
  · isplitr; · iexact Hrec
    isplitl [HO]; · iexact HO
    isplitl [Ht0]; · iexact Ht0
    iexact Hl0
  iintro HO
  iapply (wp_signal_one P T K c _ 2 (dev3_eq c) _ _ rfl W) $$ [HO Ht2 Hl2]
  · isplitr; · iexact Hrec
    isplitl [HO]; · iexact HO
    isplitl [Ht2]; · iexact Ht2
    iexact Hl2
  iintro HO
  ihave H1 := (rec_at P T K (c, none)) $$ Hrec
  icases H1 with ⟨#Hi, #Hr⟩
  iapply (Rounds.wp_wait_rest_token 𝒱₀ ER (rd P T) (c : Thread nD τ) none (κ := K (c, none))
      (wpE_semWait_eq 𝒱₀ (c : Thread nD τ) none Set.univ) (Set.mem_univ _) () (O := owedFrom 0 c) (W := W) (R := 0) (m := 0) (T := ∅)
      (by rw [expect_bar]; decide)) $$ [Hc HO Hat]
  · isplitr; · iexact Hi
    isplitl [Hc]; · iexact Hc
    isplitl [HO]; · iexact HO
    isplitr; · iapply (mayWait_owedFrom c (.reg barSem) 0 (by rw [lvS_bar]; decide)); iexact Hlev
    iexact Hat
  iintro ⟨HO, Hat, -, Hpay⟩
  ihave Hp := (Entails.of_eq (rest_bar P T c)) $$ Hpay
  icases Hp with ⟨H0, H1, H2⟩
  imod (Rounds.cell_close ER (rd P T) (Set.mem_univ (K (c, none))) (fun h => h) (R := 0 + 1) (duties_later P T (barCell c))) $$ [Hat] with Hz
  · isplitr; · iexact Hi
    iexact Hat
  iapply Hk
  isplitl [Hz]; · iexact Hz
  isplitl [H0]; · iexact H0
  isplitl [H1]; · iexact H1
  isplitl [H2]; · iexact H2
  iexact HO

/-! ## The page table and the lengths -/

/-- A request's row and length, of a page table and lengths. -/
def rowOf (BT : Vec F S32x256 .i32) (LN : Vec F S32 .i32) (b : Fin 32) : Row F :=
  (fun x => BT (ix2 (n0 := 32) (n1 := 256) b (x 1)), LN (ix1 (n0 := 32) b))

theorem row_idx (b : Fin 32) (x : S1x256.Idx) :
    (Rect.unit (s := S32x256) ![b.val, 0] S1x256.size (rowOff_inb b)).toLoadRect.idx x = ix2 (n0 := 32) (n1 := 256) b (x 1) := by
  have h0 : (x 0).val = 0 := by have : (x 0).val < 1 := (x 0).isLt; omega
  funext i
  match i with
  | ⟨0, _⟩ => exact Fin.ext (by show b.val + 1 * (x 0).val = b.val; omega)
  | ⟨1, _⟩ => exact Fin.ext (by show 0 + 1 * (x 1).val = (x 1).val; omega)

theorem len_idx (b : Fin 32) (x : S1.Idx) :
    (Rect.unit (s := S32) ![b.val] S1.size (lenOff_inb b)).emb x = ix1 (n0 := 32) b := by
  have h0 : (x 0).val = 0 := by have : (x 0).val < 1 := (x 0).isLt; omega
  funext i
  match i with
  | ⟨0, _⟩ => exact Fin.ext (by show b.val + 1 * (x 0).val = b.val; omega)

/-- A length, read. -/
theorem wp_len (b : Fin 32) (q : PosShare TreeShare) (LN : Vec F S32 .i32) {α : Type} {Q : α → sProp 𝕄}
    (k : Elt F .i32 → Prog (TpuEff nD τ sig (Elt F) Λ₀ .tc) α) :
    (owns (c : Thread nD τ) lenM q LN : sProp 𝕄)
      ⊢ iprop((owns (c : Thread nD τ) lenM q LN -∗ wp frame (wpE (defs₀ (F := F)) 𝒱₀ (c : Thread nD τ) none) Set.univ (k (LN (ix1 (n0 := 32) b))) Q)
          -∗ wp frame (wpE (defs₀ (F := F)) 𝒱₀ (c : Thread nD τ) none) Set.univ
            (smemLoad lenM (Rect.unit (s := S32) ![b.val] S1.size (lenOff_inb b)) numel1_S1 rfl >>= k) Q) := by
  unfold owns smemLoad smemLoadElt
  simp only [Prog.bind_op, Prog.bind_ret]
  iintro ⟨%f, %hf, H⟩ Hk
  iapply (wp_load 𝒱₀ (c : Thread nD τ) none Set.univ (m := lenM) (View.setOn_subset_set _ _)) $$ H
  iintro H
  rw [View.readAt_apply, hf]
  rw [show LN ((Rect.unit (s := S32) ![b.val] S1.size (lenOff_inb b)).toLoadRect.idx (Shape.Idx.first (numel1_S1.symm ▸ Nat.one_pos))) = LN (ix1 (n0 := 32) b) from congrArg LN (len_idx b _)]
  iapply Hk
  iexists f
  isplitr; · ipureintro; exact hf
  iexact H

/-- The rows and lengths of a list of requests, read. -/
theorem wp_readRows (BT : Vec F S32x256 .i32) (LN : Vec F S32 .i32) {α : Type} (Q : α → sProp 𝕄) (l : List (Fin 32))
    (k : List (Row F) → Prog (TpuEff nD τ sig (Elt F) Λ₀ .tc) α) :
    iprop(owns (c : Thread nD τ) btM fullShare BT ∗ owns (c : Thread nD τ) lenM fullShare LN
        ∗ (iprop(owns (c : Thread nD τ) btM fullShare BT ∗ owns (c : Thread nD τ) lenM fullShare LN)
            -∗ wp frame (wpE (defs₀ (F := F)) 𝒱₀ (c : Thread nD τ) none) Set.univ (k (l.map (rowOf BT LN))) Q))
      ⊢ wp frame (wpE (defs₀ (F := F)) 𝒱₀ (c : Thread nD τ) none) Set.univ (readRows l k) Q := by
  induction l generalizing k with
  | nil =>
    unfold readRows
    iintro ⟨H1, H2, Hk⟩
    iapply Hk
    isplitl [H1]; · iexact H1
    iexact H2
  | cons b bs ih =>
    unfold readRows
    simp only [Prog.lift, Prog.bind_op, Prog.bind_ret]
    iintro ⟨H1, H2, Hk⟩
    iapply (wp_load_owns c btM _ fullShare BT) $$ H1
    iintro H1
    iapply (wp_len c b fullShare LN) $$ H2
    iintro H2
    iapply (ih _)
    isplitl [H1]; · iexact H1
    isplitl [H2]; · iexact H2
    rw [show (fun x => BT ((Rect.unit (s := S32x256) ![b.val, 0] S1x256.size (rowOff_inb b)).toLoadRect.idx x), LN (ix1 (n0 := 32) b)) = rowOf BT LN b from
      Prod.ext (funext fun x => congrArg BT (row_idx b x)) rfl]
    iexact Hk

/-- The counts of both halves of a device's window. -/
def maskX (BT : Vec F S32x256 .i32) (LN : Vec F S32 .i32) : Vec F S2x32x1024 .f32 :=
  two (maskPay0 (pageWord c) (rowOf BT LN)) (maskPay1 (pageWord c) (rowOf BT LN))

theorem rowAt_map (f : Fin 32 → Row F) : rowAt (reqs.map f) = f := by
  funext b; fin_cases b <;> rfl

theorem wp_storeMask (v13 : BitVec 32) (rs : List (Row F)) {α : Type} (Q : α → sProp 𝕄) (k : PUnit → Prog (TpuEff nD τ sig (Elt F) Λ₀ .tc) α) :
    iprop(holds c mkM ∗ (owns (c : Thread nD τ) mkM fullShare (two (maskPay0 v13 (rowAt rs)) (maskPay1 v13 (rowAt rs)))
            -∗ wp frame (wpE (defs₀ (F := F)) 𝒱₀ (c : Thread nD τ) none) Set.univ (k ⟨⟩) Q))
      ⊢ wp frame (wpE (defs₀ (F := F)) 𝒱₀ (c : Thread nD τ) none) Set.univ (storeMask v13 rs >>= k) Q := by
  unfold storeMask holds
  simp only [Prog.lift, Prog.bind_op, Prog.bind_ret, Prog.pure_eq_ret, bind_assoc, pure_bind]
  iintro ⟨⟨%A, H⟩, Hk⟩
  iapply (wp_load_slab (n := 2) (a := 32) (b := 1024) c mkM (0 : Fin 2) rfl _ fullShare A) $$ H
  iintro H
  iapply (wp_store_slab (n := 2) (a := 32) (b := 1024) c mkM (0 : Fin 2) A) $$ H
  iintro H
  iapply (wp_load_slab (n := 2) (a := 32) (b := 1024) c mkM (1 : Fin 2) rfl _ fullShare _) $$ H
  iintro H
  iapply (wp_store_slab (n := 2) (a := 32) (b := 1024) c mkM (1 : Fin 2) _) $$ H
  iintro H
  rw [put_put]
  iapply Hk
  iexact H

end Cert.Paged
-- ==== Proof.ProgEq.lean ====
/-
The printed body and the printed trip are the structured ones, by unfolding both.
-/
module

public import proofs.«01_k».proof.Proof.Prog

@[expose] public section

noncomputable section

namespace Cert.Paged

open Cert.KernelIdeal Cert.KernelIdeal.Gen
open Idealize.ShloMosaic Idealize.SL.Sem

variable {F : FTy → Type} [FloatOps F]

/-- The printed word of the device's page window within its block. -/
def blockWord (c : Dev nD) : BitVec 32 :=
  Scalar.muli (Scalar.addi (Scalar.muli (Scalar.remsi (Scalar.divsi (Dev.word c) 4#32) 2#32) 2#32) (Scalar.remsi (Scalar.divsi (Dev.word c) 1#32) 2#32)) 64#32

set_option maxRecDepth 65536 in
set_option maxHeartbeats 400000 in
/-- The printed body is `bodyOf` over the printed loop body. -/
theorem body_eq : cc0_body_skel (F := F) qM (Memref.isWhole_whole _) kM (Memref.isWhole_whole _) vM (Memref.isWhole_whole _) btM (Memref.isWhole_whole _) lenM (Memref.isWhole_whole _) outM (Memref.isWhole_whole _) oaM (Memref.isWhole_whole _) stM (Memref.isWhole_whole _) sbM (Memref.isWhole_whole _) orM (Memref.isWhole_whole _) srM (Memref.isWhole_whole _) kbM (Memref.isWhole_whole _) vbM (Memref.isWhole_whole _) mM (Memref.isWhole_whole _) lM (Memref.isWhole_whole _) oM (Memref.isWhole_whole _) mkM (Memref.isWhole_whole _) kcS vcS sendS recvS =
    Prog.lift .deviceId >>= fun c => bodyOf c (printedTrip c (blockWord c) (k0_pay203 (F := F))) := by
  simp only [cc0_body_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, bind_assoc, pure_bind]
  simp only [bodyOf, barrier, seqL, startCopy, readRows, storeMask, init, afterLoop, layOut, stage, pack, exchange, merge, finish, loopOf, bind_assoc, pure_bind]
  rfl

/-- No trip starts a next copy. -/
theorem no_next : ∀ k : Fin k0_t1_loop.trips, ¬ k0_cond1 k = 1#1 := by decide +kernel

set_option maxRecDepth 65536 in
set_option maxHeartbeats 400000 in
/-- The printed trip is `trip`. -/
theorem trip_eq (c : Dev nD) (v11 : BitVec 32) (v985 : FVec F S16x32x1 .f32) (q : Vec F S32x1x16x128 .f32) (k : Fin k0_t1_loop.trips) (u : Unit) :
    printedTrip c v11 v985 q k u = trip (k0_pay207 q) k := by
  have hk := no_next k
  simp only [printedTrip, k0_t1_body, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, bind_assoc, pure_bind, dif_neg hk]
  simp only [trip, seqL, waitCopy, head, bind_assoc, pure_bind]
  rfl

end Cert.Paged
-- ==== Proof.Whole.lean ====
/-
The whole body on one device, from what the launch hands it to what it leaves.
-/
module

public import proofs.«01_k».proof.Proof.Body
public import proofs.«01_k».proof.Proof.ProgEq

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem trips_two : k0_t1_loop.trips = 2 := by decide +kernel

/-- The heads of the two halves, half by half. -/
theorem slot_halves (f : SH → Prog (TpuEff nD τ sig (Elt F) Λ₀ .tc) PUnit) (rest : Prog (TpuEff nD τ sig (Elt F) Λ₀ .tc) PUnit) :
    seqL slotHeads f rest = seqL heads (fun h => f (0, h)) (seqL heads (fun h => f (1, h)) rest) := rfl

theorem pairs (Φ : SH → sProp 𝕄) : bigSep Finset.univ Φ = iprop((bigSep Finset.univ fun h => Φ (0, h)) ∗ bigSep Finset.univ fun h => Φ (1, h)) := by
  rw [bigSep_univ_prod, BI.bigSep_fin_two]; rfl

variable (x0 : Dev nD → XS F) (K : Dev nD × CK → ℕ) (c : Dev nD)
variable (X : Buf (Elt F) ((c : Thread nD τ).loc main_arg1)) (Y : Buf (Elt F) ((c : Thread nD τ).loc main_arg2))

/-- The copies' counters, unused and used halves alike, at zero. -/
def copySems (s : Fin 2) : sProp 𝕄 :=
  iprop(semVal ((c : Thread nD τ), .dma (halfS kcS s).sem) 0 ∗ semVal ((c : Thread nD τ), .dma (halfS vcS s).sem) 0)

/-- The buffers' parts at any contents and the caches' windows. -/
def windows : sProp 𝕄 :=
  iprop((bigSep Finset.univ fun sh : SH => anyAt c (dstW kbM sh.1 sh.2)) ∗ (bigSep Finset.univ (kWin c X))
    ∗ (bigSep Finset.univ fun sh : SH => anyAt c (dstW vbM sh.1 sh.2)) ∗ (bigSep Finset.univ (vWin c Y)))

def windowsHalf (s : Fin 2) : sProp 𝕄 :=
  bigSep Finset.univ fun h => iprop(anyAt c (dstW kbM s h) ∗ kWin c X (s, h) ∗ anyAt c (dstW vbM s h) ∗ vWin c Y (s, h))

theorem windows_halves : windows c X Y ⊢ iprop(windowsHalf c X Y 0 ∗ windowsHalf c X Y 1) := by
  unfold windows windowsHalf
  rw [pairs, pairs, pairs, pairs]
  simp only [bigSep_sep']
  iintro ⟨⟨A0, A1⟩, ⟨B0, B1⟩, ⟨C0, C1⟩, ⟨D0, D1⟩⟩
  isplitl [A0 B0 C0 D0]
  · isplitl [A0]; · iexact A0
    isplitl [B0]; · iexact B0
    isplitl [C0]; · iexact C0
    iexact D0
  isplitl [A1]; · iexact A1
  isplitl [B1]; · iexact B1
  isplitl [C1]; · iexact C1
  iexact D1

/-- A finished half gives its windows back. -/
theorem done_half (s : Fin 2) : doneHalf c X Y s ⊢ iprop(windowsHalf c X Y s ∗ copySems c s) := by
  unfold doneHalf windowsHalf copySems
  have hK : (bigSep Finset.univ (delK c X s) : sProp 𝕄) ⊢ iprop((bigSep Finset.univ fun h => anyAt c (dstW kbM s h)) ∗ bigSep Finset.univ fun h => kWin c X (s, h)) := by
    rw [← bigSep_sep']
    refine bigSep_mono fun h _ => ?_
    unfold delK
    show iprop(owns (c : Thread nD τ) (dstW kbM s h) fullShare (winK c X s h) ∗ kWin c X (s, h)) ⊢ iprop(anyAt c (dstW kbM s h) ∗ kWin c X (s, h))
    iintro ⟨H1, H2⟩
    isplitl [H1]; · iapply (owns_any c (dstW kbM s h) _); iexact H1
    iexact H2
  have hV : (bigSep Finset.univ (delV c Y s) : sProp 𝕄) ⊢ iprop((bigSep Finset.univ fun h => anyAt c (dstW vbM s h)) ∗ bigSep Finset.univ fun h => vWin c Y (s, h)) := by
    rw [← bigSep_sep']
    refine bigSep_mono fun h _ => ?_
    unfold delV
    show iprop(owns (c : Thread nD τ) (dstW vbM s h) fullShare (winV c Y s h) ∗ vWin c Y (s, h)) ⊢ iprop(anyAt c (dstW vbM s h) ∗ vWin c Y (s, h))
    iintro ⟨H1, H2⟩
    isplitl [H1]; · iapply (owns_any c (dstW vbM s h) _); iexact H1
    iexact H2
  simp only [bigSep_sep']
  iintro ⟨HK, Hzk, HV, Hzv⟩
  ihave HK := hK $$ HK
  icases HK with ⟨A, B⟩
  ihave HV := hV $$ HV
  icases HV with ⟨C, D⟩
  isplitr [Hzk Hzv]
  · isplitl [A]; · iexact A
    isplitl [B]; · iexact B
    isplitl [C]; · iexact C
    iexact D
  isplitl [Hzk]; · iexact Hzk
  iexact Hzv

theorem halves_windows : iprop(windowsHalf c X Y 0 ∗ windowsHalf c X Y 1) ⊢ windows c X Y := by
  unfold windows windowsHalf
  rw [pairs, pairs, pairs, pairs]
  simp only [bigSep_sep']
  iintro ⟨⟨A0, B0, C0, D0⟩, ⟨A1, B1, C1, D1⟩⟩
  isplitl [A0 A1]
  · isplitl [A0]; · iexact A0
    iexact A1
  isplitl [B0 B1]
  · isplitl [B0]; · iexact B0
    iexact B1
  isplitl [C0 C1]
  · isplitl [C0]; · iexact C0
    iexact C1
  isplitl [D0]; · iexact D0
  iexact D1

/-- The scratch buffers written whole, at whatever they read. -/
def scratch : sProp 𝕄 := iprop(holds c sbM ∗ holds c stM ∗ holds c oaM ∗ holds c mM ∗ holds c lM ∗ holds c oM ∗ holds c mkM)

variable (Qv : Vec F S32x1x16x128 .f32) (BT : Vec F S32x256 .i32) (LN : Vec F S32 .i32)

/-- What the operands' staging buffers read. -/
def operands : sProp 𝕄 :=
  iprop(owns (c : Thread nD τ) qM fullShare Qv ∗ owns (c : Thread nD τ) btM fullShare BT ∗ owns (c : Thread nD τ) lenM fullShare LN)

/-- What the stages start from on a device. -/
def startX : XS F := layX (loopAcc (k0_pay207 Qv) (maskX c BT LN) (winK c X) (winV c Y) acc0 2)

set_option maxRecDepth 20000 in
/-- A trip of the loop, as printed. -/
theorem wp_printed (MK : Vec F S2x32x1024 .f32) (a : Acc F) (v11 : BitVec 32) (v985 : FVec F S16x32x1 .f32) (k : Fin k0_t1_loop.trips) (u : Unit) :
    loopI c X Y (k0_pay207 Qv) MK a k.val
      ⊢ wp frame (wpE (defs₀ (F := F)) 𝒱₀ (c : Thread nD τ) none) Set.univ (printedTrip c v11 v985 Qv k u) (fun _ => loopI c X Y (k0_pay207 Qv) MK a (k.val + 1)) := by
  rw [trip_eq]
  have h := wp_trip c X Y (k0_pay207 Qv) MK a k
  exact h

/-- The exchange stages and the end. -/
theorem wp_tail (Q : PUnit → sProp 𝕄) (W : Waits sig Unit) (a : Acc F) (ha : x0 c = layX a) :
    iprop(recs (sentP x0) (sentT x0) K ∗ levAts L lv ∗ stageRes c 0 ∗ stageRes c 1 ∗ stageRes c 2
        ∗ landing (nb 0 c) 0 ∗ landing (nb 1 c) 1 ∗ landing (nb 2 c) 2
        ∗ accOwns c a ∗ holds c sbM ∗ holds c stM ∗ holds c oaM ∗ holds c outM
        ∗ owes (c : Thread nD τ) (owedFrom 0 c) W
        ∗ (∀ W', (accOwns c a ∗ holds c sbM ∗ holds c stM ∗ holds c oaM ∗ owns (c : Thread nD τ) outM fullShare (outX (xsAt x0 3 c))
            ∗ stageEnd c 0 ∗ stageEnd c 1 ∗ stageEnd c 2 ∗ landing c 0 ∗ landing c 1 ∗ landing c 2 ∗ owes (c : Thread nD τ) 0 W') -∗ Q ⟨⟩))
      ⊢ wp frame (wpE (defs₀ (F := F)) 𝒱₀ (c : Thread nD τ) none) Set.univ (afterLoop c) Q := by
  unfold afterLoop
  iintro ⟨#Hrec, #Hlev, Hs0, Hs1, Hs2, Hl0, Hl1, Hl2, Ha, Hsb, Hst, Hoa, Hout, HO, Hk⟩
  iapply (wp_layOut c a Q _)
  isplitl [Ha]; · iexact Ha
  isplitl [Hst]; · iexact Hst
  isplitl [Hoa]; · iexact Hoa
  iintro ⟨Ha, Hst, Hoa⟩
  iapply (wp_stage x0 K c 0 Q _ W)
  isplitr; · iexact Hrec
  isplitr; · iexact Hlev
  isplitl [Hs0]; · iexact Hs0
  isplitl [Hl0]; · iexact Hl0
  isplitl [Hsb]; · iexact Hsb
  isplitl [Hst]; · rw [show xsAt x0 ((0 : Fin 3) : ℕ) c = layX a from ha]; iexact Hst
  isplitl [Hoa]; · rw [show xsAt x0 ((0 : Fin 3) : ℕ) c = layX a from ha]; iexact Hoa
  isplitl [HO]; · iexact HO
  iintro %W1 ⟨He0, Hm0, Hsb, Hst, Hoa, HO⟩
  iapply (wp_stage x0 K c 1 Q _ W1)
  isplitr; · iexact Hrec
  isplitr; · iexact Hlev
  isplitl [Hs1]; · iexact Hs1
  isplitl [Hl1]; · iexact Hl1
  isplitl [Hsb]; · iexact Hsb
  isplitl [Hst]; · iexact Hst
  isplitl [Hoa]; · iexact Hoa
  isplitl [HO]; · iexact HO
  iintro %W2 ⟨He1, Hm1, Hsb, Hst, Hoa, HO⟩
  iapply (wp_stage x0 K c 2 Q _ W2)
  isplitr; · iexact Hrec
  isplitr; · iexact Hlev
  isplitl [Hs2]; · iexact Hs2
  isplitl [Hl2]; · iexact Hl2
  isplitl [Hsb]; · iexact Hsb
  isplitl [Hst]; · iexact Hst
  isplitl [Hoa]; · iexact Hoa
  isplitl [HO]; · iexact HO
  iintro %W3 ⟨He2, Hm2, Hsb, Hst, Hoa, HO⟩
  iapply (wp_finish c (xsAt x0 3 c) Q)
  isplitl [Hst]; · iexact Hst
  isplitl [Hoa]; · iexact Hoa
  isplitl [Hout]; · iexact Hout
  iintro ⟨Hst, Hoa, Hout⟩
  iapply Hk
  isplitl [Ha]; · iexact Ha
  isplitl [Hsb]; · iexact Hsb
  isplitl [Hst]; · unfold holds; iexists _; iexact Hst
  isplitl [Hoa]; · unfold holds; iexists _; iexact Hoa
  isplitl [Hout]; · iexact Hout
  isplitl [He0]; · iexact He0
  isplitl [He1]; · iexact He1
  isplitl [He2]; · iexact He2
  isplitl [Hm0]; · iexact Hm0
  isplitl [Hm1]; · iexact Hm1
  isplitl [Hm2]; · iexact Hm2
  ihave HO := (show (owes (c : Thread nD τ) (owedFrom ((2 : Fin 3).val + 1) c) W3 : sProp 𝕄) ⊢ owes (c : Thread nD τ) 0 W3 from
    Entails.of_eq (congrArg (fun O => (owes (c : Thread nD τ) O W3 : sProp 𝕄)) (owedFrom_end c))) $$ HO
  iexact HO

/-- The whole body. -/
theorem wp_body (Q : PUnit → sProp 𝕄) (W : Waits sig Unit) (hx : x0 c = startX c X Y Qv BT LN) :
    iprop(recs (sentP x0) (sentT x0) K ∗ levAts L lv ∗ barRes c ∗ stageRes c 0 ∗ stageRes c 1 ∗ stageRes c 2
        ∗ landing c 0 ∗ landing c 1 ∗ landing c 2 ∗ copySems c 0 ∗ copySems c 1 ∗ windows c X Y ∗ scratch c ∗ holds c outM ∗ operands c Qv BT LN
        ∗ owes (c : Thread nD τ) (O₀ c) W
        ∗ (∀ W', (semVal (barCell c) 0 ∗ stageEnd c 0 ∗ stageEnd c 1 ∗ stageEnd c 2 ∗ landing c 0 ∗ landing c 1 ∗ landing c 2
            ∗ copySems c 0 ∗ copySems c 1 ∗ windows c X Y ∗ scratch c ∗ owns (c : Thread nD τ) outM fullShare (outX (xsAt x0 3 c)) ∗ operands c Qv BT LN
            ∗ owes (c : Thread nD τ) 0 W') -∗ Q ⟨⟩))
      ⊢ wp frame (wpE (defs₀ (F := F)) 𝒱₀ (c : Thread nD τ) none) Set.univ (bodyOf c (printedTrip c (blockWord c) (k0_pay203 (F := F)))) Q := by
  unfold bodyOf scratch operands
  rw [slot_halves]
  simp only [Prog.lift, Prog.bind_op, Prog.bind_ret]
  iintro ⟨#Hrec, #Hlev, Hb, Hs0, Hs1, Hs2, Hl0, Hl1, Hl2, Hc0, Hc1, HW, ⟨Hsb, Hst, Hoa, Hm, Hl, Ho, Hmk⟩, Hout, ⟨Hq, Hbt, Hln⟩, HO, Hk⟩
  iapply (wp_barrier (sentP x0) (sentT x0) K c Q _ W)
  isplitr; · iexact Hrec
  isplitr; · iexact Hlev
  isplitl [Hb]; · iexact Hb
  isplitl [Hl0]; · iexact Hl0
  isplitl [Hl1]; · iexact Hl1
  isplitl [Hl2]; · iexact Hl2
  isplitl [HO]; · iexact HO
  iintro %W1 ⟨Hz, Hl0, Hl1, Hl2, HO⟩
  ihave HW := (windows_halves c X Y) $$ HW
  icases HW with ⟨HW0, HW1⟩
  unfold copySems
  icases Hc0 with ⟨Hck0, Hcv0⟩
  icases Hc1 with ⟨Hck1, Hcv1⟩
  iapply (wp_startHalf c X Y 0 _ Q)
  isplitl [Hck0]; · iexact Hck0
  isplitl [Hcv0]; · iexact Hcv0
  isplitl [HW0]; · unfold windowsHalf; iexact HW0
  iintro HB0
  iapply (wp_startHalf c X Y 1 _ Q)
  isplitl [Hck1]; · iexact Hck1
  isplitl [Hcv1]; · iexact Hcv1
  isplitl [HW1]; · unfold windowsHalf; iexact HW1
  iintro HB1
  iapply (wp_readRows c BT LN Q reqs _)
  isplitl [Hbt]; · iexact Hbt
  isplitl [Hln]; · iexact Hln
  iintro ⟨Hbt, Hln⟩
  iapply (wp_storeMask c (pageWord c) _ Q _)
  isplitl [Hmk]; · iexact Hmk
  rw [rowAt_map]
  iintro Hmk
  iapply (wp_init c Q _)
  isplitl [Hm]; · iexact Hm
  isplitl [Hl]; · iexact Hl
  isplitl [Ho]; · iexact Ho
  iintro Ha
  iapply (wp_load_all c qM zero4 _ fullShare Qv) $$ Hq
  iintro Hq
  iapply (Scf.wp_for_bind frame (wpE (defs₀ (F := F)) 𝒱₀ (c : Thread nD τ) none) Set.univ k0_t1_loop.lb k0_t1_loop.ub k0_t1_loop.st k0_t1_ok ⟨⟩ _
    (fun t _ => loopI c X Y (k0_pay207 Qv) (maskX c BT LN) acc0 t)
    (fun k u => wp_printed c X Y Qv (maskX c BT LN) acc0 (blockWord c) (k0_pay203 (F := F)) k u)) $$ [HB0 HB1 Hmk Ha HO]
  · unfold loopI
    isplitr; · iexact Hlev
    isplitl [HB0]; · rw [show halfAt c X Y 0 0 = iprop(batK c X 0 16 0 ∗ batV c Y 0 16 0) from if_neg (by decide)]; iexact HB0
    isplitl [HB1]; · rw [show halfAt c X Y 0 1 = iprop(batK c X 1 16 0 ∗ batV c Y 1 16 0) from if_neg (by decide)]; iexact HB1
    isplitl [Hmk]; · iexact Hmk
    isplitl [Ha]; · iexact Ha
    iexists _; iexact HO
  iintro %u HI
  ihave HI := (Entails.of_eq (congrArg (loopI c X Y (k0_pay207 Qv) (maskX c BT LN) acc0) trips_two)) $$ HI
  unfold loopI
  icases HI with ⟨-, HD0, HD1, Hmk, Ha, ⟨%W2, HO⟩⟩
  iapply (wp_tail x0 K c Q W2 _ hx)
  isplitr; · iexact Hrec
  isplitr; · iexact Hlev
  isplitl [Hs0]; · iexact Hs0
  isplitl [Hs1]; · iexact Hs1
  isplitl [Hs2]; · iexact Hs2
  isplitl [Hl0]; · iexact Hl0
  isplitl [Hl1]; · iexact Hl1
  isplitl [Hl2]; · iexact Hl2
  isplitl [Ha]; · iexact Ha
  isplitl [Hsb]; · iexact Hsb
  isplitl [Hst]; · iexact Hst
  isplitl [Hoa]; · iexact Hoa
  isplitl [Hout]; · iexact Hout
  isplitl [HO]; · iexact HO
  iintro %W3 ⟨Ha, Hsb, Hst, Hoa, Hout, He0, He1, He2, Hm0, Hm1, Hm2, HO⟩
  ihave HD0 := (show halfAt c X Y 2 0 ⊢ iprop(windowsHalf c X Y 0 ∗ (semVal ((c : Thread nD τ), .dma (halfS kcS 0).sem) 0 ∗ semVal ((c : Thread nD τ), .dma (halfS vcS 0).sem) 0)) from done_half c X Y 0) $$ HD0
  ihave HD1 := (show halfAt c X Y 2 1 ⊢ iprop(windowsHalf c X Y 1 ∗ (semVal ((c : Thread nD τ), .dma (halfS kcS 1).sem) 0 ∗ semVal ((c : Thread nD τ), .dma (halfS vcS 1).sem) 0)) from done_half c X Y 1) $$ HD1
  icases HD0 with ⟨HW0, Hc0⟩
  icases HD1 with ⟨HW1, Hc1⟩
  unfold accOwns
  icases Ha with ⟨Hm, Hl, Ho⟩
  iapply Hk
  isplitl [Hz]; · iexact Hz
  isplitl [He0]; · iexact He0
  isplitl [He1]; · iexact He1
  isplitl [He2]; · iexact He2
  isplitl [Hm0]; · iexact Hm0
  isplitl [Hm1]; · iexact Hm1
  isplitl [Hm2]; · iexact Hm2
  isplitl [Hc0]; · iexact Hc0
  isplitl [Hc1]; · iexact Hc1
  isplitl [HW0 HW1]
  · iapply (halves_windows c X Y)
    isplitl [HW0]; · iexact HW0
    iexact HW1
  isplitr [Hout Hq Hbt Hln HO]
  · isplitl [Hsb]; · iexact Hsb
    isplitl [Hst]; · iexact Hst
    isplitl [Hoa]; · iexact Hoa
    unfold holds
    isplitl [Hm]; · iexists _; iexact Hm
    isplitl [Hl]; · iexists _; iexact Hl
    isplitl [Ho]; · iexists _; iexact Ho
    iexists _; iexact Hmk
  isplitl [Hout]; · iexact Hout
  isplitl [Hq Hbt Hln]
  · isplitl [Hq]; · iexact Hq
    isplitl [Hbt]; · iexact Hbt
    iexact Hln
  iexact HO

end Cert.Paged
-- ==== Proof.Region.lean ====
/-
The region's proof data: what each window is staged at and left at, the invariant before and after the one grid point,
and the body run between them.
-/
module

public import proofs.«01_k».proof.Proof.Whole

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- The queries, the block table and the lengths as staged. -/
def qv (c : Dev nD) : Vec F S32x1x16x128 .f32 := iblk m c 0 t0_0
def btv (c : Dev nD) : Vec F S32x256 .i32 := iblk m c 1 t0_0
def lnv (c : Dev nD) : Vec F S32 .i32 := iblk m c 2 t0_0

/-- What each device brings to the exchange. -/
def x0 (c : Dev nD) : XS F :=
  startX c (m ((c : Thread nD τ).loc main_arg1)) (m ((c : Thread nD τ).loc main_arg2)) (qv m c) (btv m c) (lnv m c)

/-- A device's result. -/
def outv (c : Dev nD) : Vec F S32x1x16x128 .f32 := outX (xsAt (x0 m) 3 c)

/-! ## The scratch buffers -/

theorem whole_holds (c : Dev nD) (b : Ref sig .tc) :
    (iprop(∃ f : Buf (Elt F) ((c : Thread nD τ).loc b), ((c : Thread nD τ).loc b) ↦{fullShare} f) : sProp 𝕄) ⊢ iprop(∃ Z, owns (c : Thread nD τ) (Memref.whole b) fullShare Z) := by
  unfold owns
  simp only [Memref.view_whole, View.read_whole, View.set_whole]
  iintro ⟨%f, H⟩
  iexists f, f
  isplitr; · (ipureintro; rfl)
  iexact H
theorem holds_whole (c : Dev nD) (b : Ref sig .tc) :
    (iprop(∃ Z, owns (c : Thread nD τ) (Memref.whole b) fullShare Z) : sProp 𝕄) ⊢ (iprop(∃ f : Buf (Elt F) ((c : Thread nD τ).loc b), ((c : Thread nD τ).loc b) ↦{fullShare} f) : sProp 𝕄) := by
  unfold owns
  simp only [Memref.view_whole, View.read_whole, View.set_whole]
  iintro ⟨%Z, %f, -, H⟩
  iexists f
  iexact H

theorem three (Φ : Fin 3 → sProp 𝕄) : bigSep Finset.univ Φ = iprop(Φ 0 ∗ Φ 1 ∗ Φ 2) :=
  bigSep_univ_eq_bigSepL [0, 1, 2] (by decide) (by decide) Φ

/-- The scratch buffers as the body takes them. -/
def rooms (c : Dev nD) : sProp 𝕄 :=
  iprop(scratch c ∗ landing c 0 ∗ landing c 1 ∗ landing c 2
    ∗ (bigSep Finset.univ fun sh : SH => anyAt c (dstW kbM sh.1 sh.2)) ∗ (bigSep Finset.univ fun sh : SH => anyAt c (dstW vbM sh.1 sh.2)))

theorem rooms_in (c : Dev nD) : (Pipeline.scopedRest cfg0.spec c : sProp 𝕄) ⊢ rooms c := by
  rw [show (Pipeline.scopedRest cfg0.spec c : sProp 𝕄) = _ from scopedRest0_eq c]
  unfold rooms scratch landing
  iintro ⟨H0, H1, H2, ⟨%f3, H3⟩, ⟨%f4, H4⟩, ⟨%f5, H5⟩, ⟨%f6, H6⟩, H7, H8, H9, H10⟩
  ihave H3 := ((or_split c f3).trans (Entails.of_eq (three _))) $$ H3
  ihave H4 := ((sr_split c f4).trans (Entails.of_eq (three _))) $$ H4
  ihave H5 := (kb_split c f5) $$ H5
  ihave H6 := (vb_split c f6) $$ H6
  ihave H0 := (show _ ⊢ holds c oaM from whole_holds c cc0_scratch0) $$ H0
  ihave H1 := (show _ ⊢ holds c stM from whole_holds c cc0_scratch1) $$ H1
  ihave H2 := (show _ ⊢ holds c sbM from whole_holds c cc0_scratch2) $$ H2
  ihave H7 := (show _ ⊢ holds c mM from whole_holds c cc0_scratch7) $$ H7
  ihave H8 := (show _ ⊢ holds c lM from whole_holds c cc0_scratch8) $$ H8
  ihave H9 := (show _ ⊢ holds c oM from whole_holds c cc0_scratch9) $$ H9
  ihave H10 := (show _ ⊢ holds c mkM from whole_holds c cc0_scratch10) $$ H10
  icases H3 with ⟨A0, A1, A2⟩
  icases H4 with ⟨B0, B1, B2⟩
  isplitl [H0 H1 H2 H7 H8 H9 H10]
  · isplitl [H2]; · iexact H2
    isplitl [H1]; · iexact H1
    isplitl [H0]; · iexact H0
    isplitl [H7]; · iexact H7
    isplitl [H8]; · iexact H8
    isplitl [H9]; · iexact H9
    iexact H10
  isplitl [A0 B0]
  · isplitl [A0] <;> iassumption
  isplitl [A1 B1]
  · isplitl [A1] <;> iassumption
  isplitl [A2 B2]
  · isplitl [A2] <;> iassumption
  isplitl [H5] <;> iassumption

theorem rooms_out (f3 : ∀ c : Dev nD, Buf (Elt F) ((c : Thread nD τ).loc cc0_scratch3)) (f4 : ∀ c : Dev nD, Buf (Elt F) ((c : Thread nD τ).loc cc0_scratch4))
    (f5 : ∀ c : Dev nD, Buf (Elt F) ((c : Thread nD τ).loc cc0_scratch5)) (f6 : ∀ c : Dev nD, Buf (Elt F) ((c : Thread nD τ).loc cc0_scratch6)) (c : Dev nD) :
    rooms c ⊢ (Pipeline.scopedRest cfg0.spec c : sProp 𝕄) := by
  rw [show (Pipeline.scopedRest cfg0.spec c : sProp 𝕄) = _ from scopedRest0_eq c]
  unfold rooms scratch landing
  iintro ⟨⟨H2, H1, H0, H7, H8, H9, H10⟩, ⟨A0, B0⟩, ⟨A1, B1⟩, ⟨A2, B2⟩, H5, H6⟩
  ihave H0 := (show holds c oaM ⊢ _ from holds_whole c cc0_scratch0) $$ H0
  ihave H1 := (show holds c stM ⊢ _ from holds_whole c cc0_scratch1) $$ H1
  ihave H2 := (show holds c sbM ⊢ _ from holds_whole c cc0_scratch2) $$ H2
  ihave H7 := (show holds c mM ⊢ _ from holds_whole c cc0_scratch7) $$ H7
  ihave H8 := (show holds c lM ⊢ _ from holds_whole c cc0_scratch8) $$ H8
  ihave H9 := (show holds c oM ⊢ _ from holds_whole c cc0_scratch9) $$ H9
  ihave H10 := (show holds c mkM ⊢ _ from holds_whole c cc0_scratch10) $$ H10
  ihave H5 := (kb_join c (f5 c)) $$ H5
  ihave H6 := (vb_join c (f6 c)) $$ H6
  ihave H3 := ((Entails.of_eq (three _).symm).trans (or_join c (f3 c))) $$ [A0 A1 A2]
  · isplitl [A0]; · iexact A0
    isplitl [A1] <;> iassumption
  ihave H4 := ((Entails.of_eq (three _).symm).trans (sr_join c (f4 c))) $$ [B0 B1 B2]
  · isplitl [B0]; · iexact B0
    isplitl [B1] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The invariant -/

/-- The counters of the copies' third halves, which nothing uses. -/
def spare (c : Dev nD) : sProp 𝕄 :=
  iprop(semVal ((c : Thread nD τ), (.dma ⟨6, by decide⟩ : SemLoc sig)) 0 ∗ semVal ((c : Thread nD τ), (.dma ⟨9, by decide⟩ : SemLoc sig)) 0)

/-- The two caches' blocks, unchanged. -/
def caches (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2)))

/-- What the launch hands a device of the protocol. -/
def handed (c : Dev nD) : sProp 𝕄 :=
  iprop(∃ K, recs (sentP (x0 m)) (sentT (x0 m)) K ∗ levAts L lv ∗ barRes c ∗ stageRes c 0 ∗ stageRes c 1 ∗ stageRes c 2 ∗ copySems c 0 ∗ copySems c 1 ∗ spare c)
/-- What is left of it. -/
def left (c : Dev nD) : sProp 𝕄 :=
  iprop(semVal (barCell c) 0 ∗ stageEnd c 0 ∗ stageEnd c 1 ∗ stageEnd c 2 ∗ copySems c 0 ∗ copySems c 1 ∗ spare c)

def start (c : Dev nD) : sProp 𝕄 := iprop(handed m c ∗ caches m c)
def Φ₀ (c : Dev nD) : sProp 𝕄 := iprop(start m c ∗ Pipeline.scopedRest cfg0.spec c)
def Φ₁ (c : Dev nD) : sProp 𝕄 := iprop(left c ∗ caches m c ∗ Pipeline.scopedRest cfg0.spec c)

def dats (_ : Fin 1) (c : Dev nD) : Dat τ (Elt F) Unit ℕ UU ℕ cfg0 c where
  A w := V m c (Pipeline.arrRef spec0 w)
  after w _ := match w with
    | ⟨0, _⟩ => qv m c
    | ⟨1, _⟩ => btv m c
    | ⟨2, _⟩ => lnv m c
    | ⟨3, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

def pre (c : Dev nD) : sProp 𝕄 :=
  iprop(Φ₀ m c ∗ (dats m 0 c).owesAt () t0_0.castSucc
    ∗ (∃ d, owns (c : Thread nD τ) qM fullShare ((dats m 0 c).before (0 : Fin 4) t0_0 d))
    ∗ (∃ d, owns (c : Thread nD τ) btM fullShare ((dats m 0 c).before (1 : Fin 4) t0_0 d))
    ∗ (∃ d, owns (c : Thread nD τ) lenM fullShare ((dats m 0 c).before (2 : Fin 4) t0_0 d))
    ∗ (∃ d, owns (c : Thread nD τ) outM fullShare ((dats m 0 c).before (3 : Fin 4) t0_0 d)))
def post (c : Dev nD) : sProp 𝕄 :=
  iprop(Φ₁ m c ∗ (dats m 0 c).owesAt () t0_0.succ
    ∗ owns (c : Thread nD τ) qM fullShare (qv m c) ∗ owns (c : Thread nD τ) btM fullShare (btv m c)
    ∗ owns (c : Thread nD τ) lenM fullShare (lnv m c) ∗ owns (c : Thread nD τ) outM fullShare (outv m c))

theorem before_q (c : Dev nD) (d) : (dats m 0 c).before (0 : Fin 4) t0_0 d = qv m c := by
  unfold Dat.before; rw [if_pos (fetch0_0 t0_0)]; rfl
theorem before_bt (c : Dev nD) (d) : (dats m 0 c).before (1 : Fin 4) t0_0 d = btv m c := by
  unfold Dat.before; rw [if_pos (fetch0_1 t0_0)]; rfl
theorem before_ln (c : Dev nD) (d) : (dats m 0 c).before (2 : Fin 4) t0_0 d = lnv m c := by
  unfold Dat.before; rw [if_pos (fetch0_2 t0_0)]; rfl

/-- The body between the two invariants. -/
theorem sound (c : Dev nD) :
    pre m c ⊢ wp frame (wpE (defs₀ (F := F)) 𝒱₀ (c : Thread nD τ) none) Set.univ
      (bodyOf c (printedTrip c (blockWord c) (k0_pay203 (F := F)))) (fun _ => post m c) := by
  unfold pre Φ₀ start handed caches Dat.owesAt Pipeline.owesWithin
  simp only [before_q, before_bt, before_ln]
  iintro ⟨⟨⟨⟨%K, #Hrec, #Hlev, Hb, Hs0, Hs1, Hs2, Hc0, Hc1, Hsp⟩, HX, HY⟩, Hscr⟩, ⟨%W, %hW, HO⟩, ⟨%d0, Hq⟩, ⟨%d1, Hbt⟩, ⟨%d2, Hln⟩, ⟨%d3, Hout⟩⟩
  ihave HO := (show (owes (c : Thread nD τ) ((dats m 0 c).owed t0_0.castSucc) W : sProp 𝕄) ⊢ owes (c : Thread nD τ) (O₀ c) W from Entails.of_eq rfl) $$ HO
  ihave Hr := (rooms_in c) $$ Hscr
  unfold rooms
  icases Hr with ⟨Hsc, Hl0, Hl1, Hl2, Hkb, Hvb⟩
  ihave HX := (Entails.of_eq (k_split c (m ((c : Thread nD τ).loc main_arg1)))) $$ HX
  ihave HY := (Entails.of_eq (v_split c (m ((c : Thread nD τ).loc main_arg2)))) $$ HY
  icases HX with ⟨HX, HXr⟩
  icases HY with ⟨HY, HYr⟩
  iapply (wp_body (x0 m) K c (m ((c : Thread nD τ).loc main_arg1)) (m ((c : Thread nD τ).loc main_arg2)) (qv m c) (btv m c) (lnv m c) (fun _ => post m c) W rfl)
  isplitr; · iexact Hrec
  isplitr; · iexact Hlev
  isplitl [Hb]; · iexact Hb
  isplitl [Hs0]; · iexact Hs0
  isplitl [Hs1]; · iexact Hs1
  isplitl [Hs2]; · iexact Hs2
  isplitl [Hl0]; · iexact Hl0
  isplitl [Hl1]; · iexact Hl1
  isplitl [Hl2]; · iexact Hl2
  isplitl [Hc0]; · iexact Hc0
  isplitl [Hc1]; · iexact Hc1
  isplitl [HX HY Hkb Hvb]
  · unfold windows
    isplitl [Hkb]; · iexact Hkb
    isplitl [HX]; · iexact HX
    isplitl [Hvb]; · iexact Hvb
    iexact HY
  isplitl [Hsc]; · iexact Hsc
  isplitl [Hout]; · unfold holds; iexists _; iexact Hout
  isplitl [Hq Hbt Hln]
  · unfold operands
    isplitl [Hq]; · iexact Hq
    isplitl [Hbt]; · iexact Hbt
    iexact Hln
  isplitl [HO]; · iexact HO
  unfold windows operands
  iintro %W' ⟨Hz, He0, He1, He2, Hl0, Hl1, Hl2, Hc0, Hc1, ⟨Hkb, HX, Hvb, HY⟩, Hsc, Hout, ⟨Hq, Hbt, Hln⟩, HO⟩
  ihave HX := (Entails.of_eq (k_split c (m ((c : Thread nD τ).loc main_arg1))).symm) $$ [HX HXr]
  · isplitl [HX] <;> iassumption
  ihave HY := (Entails.of_eq (v_split c (m ((c : Thread nD τ).loc main_arg2))).symm) $$ [HY HYr]
  · isplitl [HY] <;> iassumption
  ihave Hscr := (rooms_out (fun c => m ((c : Thread nD τ).loc cc0_scratch3)) (fun c => m ((c : Thread nD τ).loc cc0_scratch4))
    (fun c => m ((c : Thread nD τ).loc cc0_scratch5)) (fun c => m ((c : Thread nD τ).loc cc0_scratch6)) c) $$ [Hsc Hl0 Hl1 Hl2 Hkb Hvb]
  · unfold rooms
    isplitl [Hsc]; · iexact Hsc
    isplitl [Hl0]; · iexact Hl0
    isplitl [Hl1]; · iexact Hl1
    isplitl [Hl2]; · iexact Hl2
    isplitl [Hkb] <;> iassumption
  unfold post Φ₁ left caches Dat.owesAt Pipeline.owesWithin
  isplitl [Hz He0 He1 He2 Hc0 Hc1 Hsp HX HY Hscr]
  · isplitl [Hz He0 He1 He2 Hc0 Hc1 Hsp]
    · isplitl [Hz]; · iexact Hz
      isplitl [He0]; · iexact He0
      isplitl [He1]; · iexact He1
      isplitl [He2]; · iexact He2
      isplitl [Hc0]; · iexact Hc0
      isplitl [Hc1]; · iexact Hc1
      iexact Hsp
    isplitl [HX HY]
    · isplitl [HX] <;> iassumption
    iexact Hscr
  isplitl [HO]
  · iexists W'
    isplitr; · ipureintro; exact fun _ _ => Or.inl trivial
    iexact HO
  isplitl [Hq]; · iexact Hq
  isplitl [Hbt]; · iexact Hbt
  isplitl [Hln]; · iexact Hln
  iexact Hout

set_option maxRecDepth 20000 in
/-- The pipeline's body obligation. -/
theorem body_obligation (c : Dev nD) : Pipeline.BodyObligation (dats (F := F) m 0 c) (defs₀ (F := F)) 𝒱₀ () Set.univ := fun t => by
  rw [fin_N0 t]
  rw [bigSep_W0, bigSep_W0]
  have h : (bodyAt0 (F := F) t0_0) = Prog.lift .deviceId >>= fun c => bodyOf c (printedTrip c (blockWord c) (k0_pay203 (F := F))) :=
    Eq.trans (by rw [← cc0_body_eq_skeleton]) body_eq
  show pre m c ⊢ wp frame (wpE (defs₀ (F := F)) 𝒱₀ (c : Thread nD τ) none) Set.univ (bodyAt0 t0_0) (fun _ => post m c)
  rw [h]
  simp only [Prog.lift, Prog.bind_op, Prog.bind_ret, wp_deviceId]
  exact sound m c

end Cert.Paged
-- ==== Proof.Launch.lean ====
/-
The launch: the cells' invariants and the duties dealt to the neighbours, the launch credit, and the run of @main on
the eight devices to its final memory.
-/
module

public import proofs.«01_k».proof.Proof.Region
public import Idealize.ShloMosaic.Lib.Pipeline.CollectiveSegs

@[expose] public section

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The copies' counters. -/
def copySem : Fin 3 × Bool → SemLoc sig
  | (0, false) => .dma (halfS kcS 0).sem
  | (0, true) => .dma (halfS vcS 0).sem
  | (1, false) => .dma (halfS kcS 1).sem
  | (1, true) => .dma (halfS vcS 1).sem
  | (2, false) => .dma ⟨6, by decide⟩
  | (2, true) => .dma ⟨9, by decide⟩
def osem : (Fin 3 × Bool) ⊕ (SB × Bool) → SemLoc sig
  | .inl i => copySem i
  | .inr k => csem (some k)

theorem ownSemFacts : Pipeline.OwnSemFacts cfg0.spec osem := by decide +kernel

theorem share_eq (c : Dev nD) (w : Fin cfg0.W) : (dats m 0 c).share w = fullShare := by unfold Dat.share; split <;> rfl

/-- A product over the copies' counters. -/
theorem over_copies (Φ : Fin 3 × Bool → sProp 𝕄) :
    bigSep Finset.univ Φ = iprop(Φ (0, false) ∗ Φ (0, true) ∗ Φ (1, false) ∗ Φ (1, true) ∗ Φ (2, false) ∗ Φ (2, true)) :=
  bigSep_univ_eq_bigSepL [(0, false), (0, true), (1, false), (1, true), (2, false), (2, true)] (by decide) (by decide) Φ
/-- A product over the transfers. -/
theorem over_transfers (Φ : SB → sProp 𝕄) :
    bigSep Finset.univ Φ = iprop(Φ (0, false) ∗ Φ (0, true) ∗ Φ (1, false) ∗ Φ (1, true) ∗ Φ (2, false) ∗ Φ (2, true)) := over_copies Φ
/-- A product over the two ends of the transfers: the senders' and the receivers'. -/
theorem over_ends (Φ : SB × Bool → sProp 𝕄) :
    bigSep Finset.univ Φ = iprop((bigSep Finset.univ fun d => Φ (d, false)) ∗ bigSep Finset.univ fun d => Φ (d, true)) := by
  rw [bigSep_univ_prod, ← bigSep_sep']
  exact bigSep_congr fun d _ => bigSep_univ_eq_bigSepL [false, true] (by decide) (by decide) _
/-- A product over a device's cells: the barrier's and the transfers' ends. -/
theorem over_cells (Φ : CK → sProp 𝕄) :
    bigSep Finset.univ Φ = iprop((bigSep Finset.univ fun k => Φ (some k)) ∗ Φ none) := by
  rw [bigSep_univ_equiv (Equiv.optionEquivSumPUnit.{0, 0} (SB × Bool)).symm Φ, bigSep_univ_sum]
  rw [show (bigSep Finset.univ fun b : PUnit.{1} => Φ ((Equiv.optionEquivSumPUnit (SB × Bool)).symm (.inr b))) = Φ none from
    bigSep_univ_eq_bigSepL [PUnit.unit] (by decide) (by decide) _]
  rfl

/-- A device's counters of its transfers at zero. -/
def endSems (c : Dev nD) : sProp 𝕄 :=
  iprop((bigSep Finset.univ fun d : SB => semVal (sendCell c d) 0) ∗ bigSep Finset.univ fun d : SB => semVal (recvCell c d) 0)
/-- The copies' counters at zero. -/
def copies (c : Dev nD) : sProp 𝕄 := iprop(copySems c 0 ∗ copySems c 1 ∗ spare c)

theorem ownSems0_eq (c : Dev nD) : (Pipeline.ownSems0 (Ix := Unit) (Name := ℕ) (U := UU) (Lvl := ℕ) (Val := Elt F) (τ := τ) osem c : sProp 𝕄)
    = iprop((bigSep Finset.univ fun i => semVal ((c : Thread nD τ), copySem i) 0) ∗ endSems c) := by
  unfold Pipeline.ownSems0 endSems
  rw [bigSep_univ_sum]
  exact congrArg (fun X => iprop((bigSep Finset.univ fun i => semVal ((c : Thread nD τ), copySem i) 0) ∗ X))
    (over_ends (fun k => (semVal ((c : Thread nD τ), osem (.inr k)) 0 : sProp 𝕄)))

theorem copies_in (c : Dev nD) : (bigSep Finset.univ fun i => (semVal ((c : Thread nD τ), copySem i) 0 : sProp 𝕄)) ⊢ copies c := by
  rw [over_copies]
  unfold copies copySems spare
  iintro ⟨H1, H2, H3, H4, H5, H6⟩
  isplitl [H1 H2]
  · isplitl [H1]; · iexact H1
    iexact H2
  isplitl [H3 H4]
  · isplitl [H3]; · iexact H3
    iexact H4
  isplitl [H5]; · iexact H5
  iexact H6
theorem copies_out (c : Dev nD) : copies c ⊢ bigSep Finset.univ fun i => (semVal ((c : Thread nD τ), copySem i) 0 : sProp 𝕄) := by
  rw [over_copies]
  unfold copies copySems spare
  iintro ⟨⟨H1, H2⟩, ⟨H3, H4⟩, ⟨H5, H6⟩⟩
  isplitl [H1]; · iexact H1
  isplitl [H2]; · iexact H2
  isplitl [H3]; · iexact H3
  isplitl [H4]; · iexact H4
  isplitl [H5]; · iexact H5
  iexact H6

theorem ends_out (c : Dev nD) : iprop(stageEnd c 0 ∗ stageEnd c 1 ∗ stageEnd c 2) ⊢ (endSems c : sProp 𝕄) := by
  unfold endSems stageEnd
  rw [over_transfers, over_transfers]
  iintro ⟨⟨A, B, C, D⟩, ⟨A1, B1, C1, D1⟩, ⟨A2, B2, C2, D2⟩⟩
  isplitl [A B A1 B1 A2 B2]
  · isplitl [A]; · iexact A
    isplitl [B]; · iexact B
    isplitl [A1]; · iexact A1
    isplitl [B1]; · iexact B1
    isplitl [A2]; · iexact A2
    iexact B2
  isplitl [C]; · iexact C
  isplitl [D]; · iexact D
  isplitl [C1]; · iexact C1
  isplitl [D1]; · iexact D1
  isplitl [C2]; · iexact C2
  iexact D2

theorem unscopedSems0_eq (c : Dev nD) : (unscopedSems0 c : sProp 𝕄) = semVal (barCell c) 0 := by
  unfold unscopedSems0; rw [bigSep_eq_bigSepL_of_eq [SemLoc.reg barSem] (by decide) (by decide)]; rfl

/-! ## The launch element and what it deals -/

theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := csem_inj k k' (congrArg Prod.snd h)
  rw [h1, h2]
def cellSet : Finset (GSem nD τ sig) := Finset.univ.map ⟨kcell, kcell_injective⟩

/-- The duties of a device's own cells: its barrier's three, and each end's one. -/
def tokOf (x : Dev nD × (Fin 3 ⊕ (SB × Bool))) : GSem nD τ sig × ℕ × SB :=
  (kcell (x.1, x.2.elim (fun _ => none) some), 0, x.2.elim (fun s => (s, false)) Prod.fst)
theorem tokOf_injective : Function.Injective tokOf := by
  rintro ⟨c, j⟩ ⟨c', j'⟩ h
  have h1 := kcell_injective (congrArg Prod.fst h)
  have h2 : j.elim (fun s => ((s, false) : SB)) Prod.fst = j'.elim (fun s => (s, false)) Prod.fst := congrArg (fun x : GSem nD τ sig × ℕ × SB => x.2.2) h
  have hc : c = c' := congrArg Prod.fst h1
  have hk : j.elim (fun _ => (none : CK)) some = j'.elim (fun _ => none) some := congrArg Prod.snd h1
  subst hc
  rcases j with s | k <;> rcases j' with s' | k'
  · have : s = s' := congrArg Prod.fst h2
    rw [this]
  · cases hk
  · cases hk
  · have : k = k' := Option.some.inj hk
    rw [this]
def tokSet : Finset (GSem nD τ sig × ℕ × SB) := Finset.univ.map ⟨tokOf, tokOf_injective⟩

def u₀ : UU :=
  (initOf (Pipeline.cells cfgs cellOf_inj) (Pipeline.launchToks cfgs cellOf_inj), (initOf cellSet tokSet, 1))

/-- The duties of a device's own cells, as minted. -/
def toks (c : Dev nD) : sProp 𝕄 :=
  iprop((bigSep Finset.univ fun s : Fin 3 => dutyTok ER (barCell c) 0 (s, false))
    ∗ (bigSep Finset.univ fun d : SB => dutyTok ER (sendCell c d) 0 d) ∗ bigSep Finset.univ fun d : SB => dutyTok ER (recvCell c d) 0 d)
/-- The duties a device pays. -/
def payToks (c : Dev nD) : sProp 𝕄 :=
  iprop((bigSep Finset.univ fun s : Fin 3 => dutyTok ER (barCell (nb s c)) 0 (s, false))
    ∗ (bigSep Finset.univ fun d : SB => dutyTok ER (sendCell c d) 0 d) ∗ bigSep Finset.univ fun d : SB => dutyTok ER (recvCell (nb d.1 c) d) 0 d)

abbrev RD := rd (F := F) (sentP (x0 m)) (sentT (x0 m))

def G (c : Dev nD) : sProp 𝕄 :=
  iprop((bigSep Finset.univ fun k : CK => roundState ER (RD m) (kcell (c, k)) 0)
    ∗ (bigSep Finset.univ fun k : CK => atPos ER (kcell (c, k)) 0 ∅ 0) ∗ (bigSep Finset.univ fun k : CK => reached ER (kcell (c, k)) 0) ∗ toks c)

/-- A device's positions. -/
def places (c : Dev nD) : sProp 𝕄 :=
  iprop(((bigSep Finset.univ fun d : SB => atPos ER (sendCell c d) 0 ∅ 0) ∗ bigSep Finset.univ fun d : SB => atPos ER (recvCell c d) 0 ∅ 0) ∗ atPos ER (barCell c) 0 ∅ 0)

/-- What the global step makes of it. -/
def G' (c : Dev nD) : sProp 𝕄 :=
  iprop(∃ K, recs (sentP (x0 m)) (sentT (x0 m)) K ∗ places c ∗ payToks c ∗ copies c)

theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : CK => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    refine bigSep_congr fun c _ => ?_
    rw [bigSep_univ_sum]
    unfold toks
    exact congrArg (fun X => iprop((bigSep Finset.univ fun s : Fin 3 => dutyTok ER (barCell c) 0 ((s, false) : SB)) ∗ X))
      (over_ends (fun k => (dutyTok ER (kcell (c, some k)) 0 k.1 : sProp 𝕄)))
  iintro HX
  imod (Rounds.fund ER (RD m) cellSet tokSet) $$ HX with ⟨Hst, Hr, Hat, Htok⟩
  imodintro
  ihave Hst' := (Entails.of_eq (hX fun g => roundState ER (RD m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (RD m) κ (kcell (c, k))))
          ∗ (bigSep Finset.univ fun k : CK => reached ER (kcell (c, k)) 0) ∗ places c ∗ toks c ∗ copies c) := by
  rw [ownSems0_eq, unscopedSems0_eq]
  unfold G
  iintro ⟨⟨Hcs, Hes⟩, Hb, Hst, Hat, Hr, Htok⟩
  ihave Hcs := (copies_in c) $$ Hcs
  ihave Hat := (show (bigSep Finset.univ fun k : CK => (atPos ER (kcell (c, k)) 0 ∅ 0 : sProp 𝕄)) ⊢ places c from
    Entails.of_eq (by unfold places; rw [over_cells, over_ends])) $$ Hat
  ihave Hv := (show iprop(endSems c ∗ semVal (barCell c) 0) ⊢ (bigSep Finset.univ fun k : CK => semVal (kcell (c, k)) 0 : sProp 𝕄) from
    Entails.of_eq (by unfold endSems; rw [over_cells, over_ends])) $$ [Hes Hb]
  · isplitl [Hes] <;> iassumption
  imod (show iprop((bigSep Finset.univ fun k : CK => semVal (kcell (c, k)) 0) ∗ bigSep Finset.univ fun k : CK => roundState ER (RD m) (kcell (c, k)) 0)
      ⊢ (|={Set.univ}=> bigSep Finset.univ fun k => iprop(∃ κ : ℕ, cellInv ER (RD m) κ (kcell (c, k))) : sProp 𝕄) from by
        rw [← bigSep_sep']
        exact (bigSep_mono fun k _ => (Rounds.body_intro ER (RD m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hcs

/-- The neighbours of a stage, paired. -/
def nbE (s : Fin 3) : Dev nD ≃ Dev nD := ⟨nb s, nb s, nb_nb s, nb_nb s⟩

/-- A family over devices and stages, each read at the stage's neighbour. -/
theorem across {I : Type} [Fintype I] (st : I → Fin 3) (Φ : Dev nD → I → sProp 𝕄) :
    (bigSep Finset.univ fun c => bigSep Finset.univ fun i => Φ c i) = bigSep Finset.univ fun c => bigSep Finset.univ fun i => Φ (nb (st i) c) i := by
  rw [bigSep_univ_comm, bigSep_univ_comm (fun c i => Φ (nb (st i) c) i)]
  exact bigSep_congr fun i _ => bigSep_univ_equiv (nbE (st i)) fun c => Φ c i

/-- The duties dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    across (fun s => s) (fun c s => (dutyTok ER (barCell c) 0 (s, false) : sProp 𝕄)),
    across (fun d : SB => d.1) (fun c d => (dutyTok ER (recvCell c d) 0 d : sProp 𝕄))]

theorem with_persistent {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (RD m) κ (kcell (c, k))))
          ∗ (bigSep Finset.univ fun k : CK => reached ER (kcell (c, k)) 0) ∗ places c ∗ toks c ∗ copies c) : sProp 𝕄)
      ⊢ bigSep Finset.univ (G' m) := by
  rw [bigSep_sep', bigSep_sep', bigSep_sep', bigSep_sep', ← bigSep_univ_prod (fun ck : Dev nD × CK => iprop(∃ κ : ℕ, cellInv ER (RD m) κ (kcell ck))),
    ← bigSep_univ_prod (fun ck : Dev nD × CK => (reached ER (kcell ck) 0 : sProp 𝕄))]
  iintro ⟨HI, #HR, Hpl, Htok, Hcp⟩
  ihave HK := (BI.bigSep_exists_pi Finset.univ (fun (ck : Dev nD × CK) (κ : ℕ) => (cellInv ER (RD m) κ (kcell ck) : sProp 𝕄))) $$ HI
  icases HK with ⟨%K, #HI⟩
  ihave Htk := (toks_around (F := F)) $$ Htok
  iapply (with_persistent (R := recs (sentP (x0 m)) (sentT (x0 m)) K) (A := fun c => iprop(places c ∗ payToks c ∗ copies c)) fun c _ => show
    iprop(recs (sentP (x0 m)) (sentT (x0 m)) K ∗ places c ∗ payToks c ∗ copies c) ⊢ G' m c from exists_intro (Φ := fun K => iprop(recs (sentP (x0 m)) (sentT (x0 m)) K ∗ places c ∗ payToks c ∗ copies c)) K)
  isplitr
  · unfold recs; rw [bigSep_sep']
    isplitl; · iexact HI
    iexact HR
  · rw [bigSep_sep', bigSep_sep']
    isplitl [Hpl]; · iexact Hpl
    isplitl [Htk]; · iexact Htk
    iexact Hcp

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_iff {a b : Dev nD} {sm : SemLoc sig} : (((a : Thread nD τ), sm) : GSem nD τ sig) = ((b : Thread nD τ), sm) ↔ a = b :=
  ⟨fun h => by have := congrArg (fun g : GSem nD τ sig => g.1.1) h; exact this, fun h => h ▸ rfl⟩

theorem owed_bar (d c : Dev nD) :
    O₀ d (barCell c) () = (if nb 2 d = c then 1 else 0) + (if nb 0 d = c then 1 else 0) + (if nb 1 d = c then 1 else 0) := by
  have h0 : owedFrom 0 d (barCell c) () = 0 := by
    by_contra h
    obtain ⟨e, -, he⟩ := owedFrom_pos (Nat.pos_of_ne_zero h)
    exact recv_ne_bar (congrArg Prod.snd he).symm
  have ht (s : Fin 3) : tallyAt (barCell (nb s d)) () 1 (barCell c) () = if nb s d = c then 1 else 0 := by
    rw [tallyAt_apply]
    by_cases h : nb s d = c
    · rw [if_pos h, if_pos ⟨by rw [h], rfl⟩]
    · rw [if_neg h, if_neg fun h' => h (cell_iff.mp h'.1).symm]
  unfold O₀
  rw [Pi.add_apply, Finsupp.add_apply, Pi.add_apply, Finsupp.add_apply, Pi.add_apply, Finsupp.add_apply, h0, ht, ht, ht, Nat.zero_add]

theorem owed_recv (d c : Dev nD) (e : SB) : O₀ d (recvCell c e) () = if d = nb e.1 c then cr e else 0 := by
  have ht (s : Fin 3) : tallyAt (barCell (nb s d)) () 1 (recvCell c e) () = 0 := by
    rw [tallyAt_apply]; exact if_neg fun h' => recv_ne_bar (congrArg Prod.snd h'.1)
  have h0 : owedFrom 0 d (recvCell c e) () = if d = nb e.1 c then cr e else 0 := by
    unfold owedFrom
    rw [Finset.sum_apply, Finsupp.finsetSum_apply, Finset.sum_eq_single e]
    · rw [tallyAt_apply]
      by_cases h : d = nb e.1 c
      · rw [if_pos h, if_pos ⟨by rw [h, nb_nb], rfl⟩]
      · rw [if_neg h, if_neg fun h' => h (by rw [cell_iff.mp h'.1, nb_nb])]
    · intro e' _ hne
      rw [tallyAt_apply]; exact if_neg fun h' => hne (recv_inj (congrArg Prod.snd h'.1)).symm
    · intro h; exact absurd (Finset.mem_filter.mpr ⟨Finset.mem_univ e, Nat.zero_le e.1.val⟩) h
  unfold O₀
  rw [Pi.add_apply, Finsupp.add_apply, Pi.add_apply, Finsupp.add_apply, Pi.add_apply, Finsupp.add_apply, h0, ht, ht, ht]
  rfl

theorem sum_bar : ∀ c : Dev nD, (∑ d : Dev nD, ((if nb 2 d = c then 1 else 0) + (if nb 0 d = c then 1 else 0) + (if nb 1 d = c then 1 else 0))) = 3 := by
  decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact sum_bar c

theorem launch_recv (c : Dev nD) (e : SB) :
    tallyOn (recvCell c e) (launchCredit (Pipeline.owing O₀) 0 (recvCell c e)) = (tallyAt (recvCell c e) () (cr e) : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (nb e.1 c) fun _ => cr e,
    if_pos (Finset.mem_univ _)]

/-- The credits a device waits with. -/
theorem creds (c : Dev nD) :
    (Pipeline.launchCred O₀ c : sProp 𝕄) ⊢ iprop(cred (tallyAt (barCell c) () 3) ∗ bigSep Finset.univ fun d : SB => cred (tallyAt (recvCell c d) () (cr d))) := by
  unfold Pipeline.launchCred
  rw [bigSep_univ_at _ (SemLoc.reg barSem), launch_bar]
  refine sep_mono_right ?_
  refine (bigSep_subset (t := Finset.univ.map ⟨fun d : SB => (SemLoc.dma (stS recvS d).sem : SemLoc sig), fun _ _ h => recv_inj h⟩) ?_).trans ?_
  · intro sm h
    obtain ⟨d, -, rfl⟩ := Finset.mem_map.mp h
    exact Finset.mem_erase.mpr ⟨recv_ne_bar, Finset.mem_univ _⟩
  · rw [bigSep_map]
    exact Entails.of_eq (bigSep_congr fun d _ => by rw [← launch_recv c d]; rfl)

/-! ## The side conditions of the launch -/

theorem handed_intro (c : Dev nD) :
    iprop(levAts L lv ∗ Pipeline.launchCred O₀ c ∗ G' m c) ⊢ handed m c := by
  unfold G' places payToks copies handed barRes stageRes
  rw [over_transfers, over_transfers, over_transfers, over_transfers, three]
  iintro ⟨Hlev, Hcr, ⟨%K, Hrec, ⟨⟨⟨S0, S1, S2, S3, S4, S5⟩, R0, R1, R2, R3, R4, R5⟩, B⟩, ⟨⟨T0, T1, T2⟩, ⟨U0, U1, U2, U3, U4, U5⟩, V0, V1, V2, V3, V4, V5⟩, C0, C1, C2⟩⟩
  ihave Hc := ((creds (F := F) c).trans (sep_mono_right (Entails.of_eq (over_transfers _)))) $$ Hcr
  icases Hc with ⟨E, D0, D1, D2, D3, D4, D5⟩
  iexists K
  isplitl [Hrec]; · iexact Hrec
  isplitl [Hlev]; · iexact Hlev
  isplitl [B T0 T1 T2 E]
  · isplitl [B]; · iexact B
    isplitl [T0]; · iexact T0
    isplitl [T1]; · iexact T1
    isplitl [T2]; · iexact T2
    iexact E
  isplitl [S0 S1 R0 R1 U0 U1 V0 V1 D0 D1]
  · isplitl [S0]; · iexact S0
    isplitl [S1]; · iexact S1
    isplitl [R0]; · iexact R0
    isplitl [R1]; · iexact R1
    isplitl [U0]; · iexact U0
    isplitl [U1]; · iexact U1
    isplitl [V0]; · iexact V0
    isplitl [V1]; · iexact V1
    isplitl [D0]; · iexact D0
    iexact D1
  isplitl [S2 S3 R2 R3 U2 U3 V2 V3 D2 D3]
  · isplitl [S2]; · iexact S2
    isplitl [S3]; · iexact S3
    isplitl [R2]; · iexact R2
    isplitl [R3]; · iexact R3
    isplitl [U2]; · iexact U2
    isplitl [U3]; · iexact U3
    isplitl [V2]; · iexact V2
    isplitl [V3]; · iexact V3
    isplitl [D2]; · iexact D2
    iexact D3
  isplitl [S4 S5 R4 R5 U4 U5 V4 V5 D4 D5]
  · isplitl [S4]; · iexact S4
    isplitl [S5]; · iexact S5
    isplitl [R4]; · iexact R4
    isplitl [R5]; · iexact R5
    isplitl [U4]; · iexact U4
    isplitl [U5]; · iexact U5
    isplitl [V4]; · iexact V4
    isplitl [V5]; · iexact V5
    isplitl [D4]; · iexact D4
    iexact D5
  isplitl [C0]; · iexact C0
  isplitl [C1]; · iexact C1
  iexact C2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_eq_of_list cfg0.spec c Pipeline.Prefetch.none (fun b => m ((c : Thread nD τ).loc b)) [main_arg1, main_arg2] (by decide) (by decide)]
  refine (show iprop(((((c : Thread nD τ).loc main_arg1) ↦{fullShare} m ((c : Thread nD τ).loc main_arg1)) ∗ (((c : Thread nD τ).loc main_arg2) ↦{fullShare} m ((c : Thread nD τ).loc main_arg2))) ∗ levAts L lv
        ∗ Pipeline.launchCred O₀ c ∗ prngReg c (ρ c) ∗ G' m c) ⊢ |={Set.univ}=> iprop(start m c ∗ emp) from ?_)
  iintro ⟨Hc, Hlev, Hcr, -, HG⟩
  ihave Hh := (handed_intro m c) $$ [Hlev Hcr HG]
  · isplitl [Hlev]; · iexact Hlev
    isplitl [Hcr] <;> iassumption
  imodintro
  unfold start caches
  isplitl
  · isplitl [Hh] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop((unscopedSems0 c ∗ caches m c) ∗ Pipeline.ownSems0 osem c ∗ Pipeline.scopedRest cfg0.spec c) := by
  rw [show (dats m 0 c).Φ (Fin.last cfg0.N) = Φ₁ m c from rfl, ownSems0_eq, unscopedSems0_eq]
  unfold Φ₁ left
  iintro ⟨⟨Hz, He0, He1, He2, Hc0, Hc1, Hsp⟩, Hc, Hr⟩
  isplitl [Hz Hc]
  · isplitl [Hz] <;> iassumption
  isplitl [He0 He1 He2 Hc0 Hc1 Hsp]
  · isplitl [Hc0 Hc1 Hsp]
    · iapply (copies_out c)
      unfold copies
      isplitl [Hc0]; · iexact Hc0
      isplitl [Hc1] <;> iassumption
    iapply (ends_out c)
    isplitl [He0]; · iexact He0
    isplitl [He1] <;> iassumption
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by revert w s; decide +kernel)
    · show (levAts L lv : sProp 𝕄) ⊢ MayWait (c : Thread nD τ) _ () 0
      rw [MayWait_zero]
      iintro -
      iempintro

/-! ## The run -/

/-- The final memory: every device's result, its arguments as they were. -/
def Done (s : MemSt nD τ sig (Elt F)) : Prop :=
  ∀ c : Dev nD, s.mem ((c : Thread nD τ).loc main_v1) = (dats m 0 c).arrAt 3 cfg0.N
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_caches (c : Dev nD) (s' : Phys nD τ sig (Elt F)) :
    iprop((unscopedSems0 c ∗ caches m c) ∗ emp ∗ SI s')
      ⊢ |={Set.univ}=> iprop(⌜(s'.mem.mem ((c : Thread nD τ).loc main_arg1) = m ((c : Thread nD τ).loc main_arg1)
          ∧ s'.mem.mem ((c : Thread nD τ).loc main_arg2) = m ((c : Thread nD τ).loc main_arg2))
          ∧ ∀ sm : SemLoc sig, sm.isScoped .tc = false → s'.mem.sem ((c.tc : Thread nD τ), sm) = 0⌝ ∗ SI s') := by
  unfold caches
  iintro ⟨⟨Hu, HX, HY⟩, -, HSI⟩
  icombine HSI HX gives %h1
  icombine HSI HY gives %h2
  imod (Pipeline.unscopedSems0_read (X := unscopedSems0 c) (c := c) fupd_intro s') $$ [Hu HSI] with ⟨%h, HSI⟩
  · isplitl [Hu] <;> iassumption
  imodintro
  isplitr
  · ipureintro; exact ⟨⟨funext fun i => h1 i (Finset.mem_univ i), funext fun i => h2 i (Finset.mem_univ i)⟩, h⟩
  iexact HSI

set_option maxRecDepth 8000 in
/-- On the eight devices, for any float values, from any memory with zero counters: every weakly fair execution of
    @main terminates, and every final state has each device's result at the computed contents, its arguments
    unchanged and every semaphore counter at zero. -/
theorem run_main : θ_run defs (onTc (τ := τ) (main (F := F))) ⟨m, fun _ => 0, ρ⟩ (fun r => Done m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (show (BI.own (((Emb.inl : Emb UB (UB × Counters)).trans embR : Emb UB 𝕄) (initOf cellSet tokSet)) : sProp 𝕄)
        ⊢ BI.own (ER (initOf cellSet tokSet)) from Entails.of_eq rfl) $$ HX
      imod (fund_cells m) $$ HX with HG
      imodintro
      isplitl [HP] <;> iassumption)
    (hglob := glob m)
    (hA := fun _ _ => rfl) (hpf := fun _ k => k.elim0)
    (X := start m) (Y := fun c => iprop(unscopedSems0 c ∗ caches m c)) (Z := fun _ => iprop(emp))
    (hX := start_intro m ρ) (hin := phi0_intro m) (hout := phi1_exit m)
    (QY := fun c s => (s.mem ((c : Thread nD τ).loc main_arg1) = m ((c : Thread nD τ).loc main_arg1)
          ∧ s.mem ((c : Thread nD τ).loc main_arg2) = m ((c : Thread nD τ).loc main_arg2))
          ∧ ∀ sm : SemLoc sig, sm.isScoped .tc = false → s.sem ((c.tc : Thread nD τ), sm) = 0)
    (hY := fun c s' => read_caches m c s')
    (hQ := fun _ h hs => ⟨fun c => ⟨(h c).1 3, ((h c).1 0).trans ((dats m 0 c).arrAt_in 0 rfl _), (h c).2.2.1.1, (h c).2.2.1.2,
        ((h c).1 1).trans ((dats m 0 c).arrAt_in 1 rfl _), ((h c).1 2).trans ((dats m 0 c).arrAt_in 2 rfl _)⟩, sem_eq_zero hs fun c => (h c).2.2.2⟩)

end Cert.Paged
-- ==== Proof.Lanes.lean ====
/-
The kernel's arrays, each read at one place, over the extended reals: one head's step of the loop, the counts of the pages,
the merge of two states and the final quotient.
-/
module

public import proofs.«01_k».proof.Proof.Stages
public import proofs.«01_k».proof.Proof.Body
public import Idealize.ShloMosaic.Lib.Pointwise
public import Idealize.ShloMosaic.Lib.IdealHost

@[expose] public section

noncomputable section

namespace Cert.Paged

open Cert.KernelIdeal Cert.KernelIdeal.Gen
open Idealize.ShloMosaic

set_option maxHeartbeats 1000000

/-- The page within a chunk that a lane belongs to. -/
def pageIn (i : Fin 1024) : Fin 32 := ⟨i.val / 32, by have := i.isLt; omega⟩
/-- The token within its page that a lane belongs to. -/
def tokIn (i : Fin 1024) : Fin 32 := ⟨i.val % 32, by omega⟩

/-! ## Literals -/

/-- The scale of the scores is a number. -/
theorem scale_real : ∃ r : ℝ, Ideal.ofBits .f32 0x3DB504F3#32 = r := by
  simp only [Ideal.ofBits, Ideal.ieee]
  simp [-EReal.coe_mul]

/-- The size of the scores' shift on lanes no slot names is a number. -/
theorem big_real : ∃ r : ℝ, Ideal.ofBits .f32 0x7149F2CA#32 = r := by
  simp only [Ideal.ofBits, Ideal.ieee]
  simp [-EReal.coe_mul]

/-- The first running maximum is a number. -/
theorem low_real : ∃ r : ℝ, Ideal.ofBits .f32 0xF149F2CA#32 = r := by
  simp only [Ideal.ofBits, Ideal.ieee]
  simp [-EReal.coe_mul]
  exact ⟨_, rfl⟩

/-- The least element of the maxima. -/
theorem neg_inf : Ideal.ofBits .f32 0xFF800000#32 = ⊥ := by
  simp [Ideal.ofBits, Ideal.ieee]

/-! ## One head's step -/

/-- A lane's score: the scaled product of query and key, lowered where no slot names the lane's page. -/
theorem scores_apply (h : Fin 16) (q : FVec Ideal S32x16x128 .f32) (mk : Vec Ideal S1x32x1024 .f32) (w : Vec Ideal S32x32x128 .f32)
    (b : Fin 32) (i : Fin 1024) : scores h q mk (winCast w) (ix2 b i)
      = (∑ x, q (ix3 b h x) * w (ix3 (pageIn i) (tokIn i) x)) * Ideal.ofBits .f32 0x3DB504F3#32
        + (min (mk (ix3 0 b i)) 1 - 1) * Ideal.ofBits .f32 0x7149F2CA#32 := by
  pointwise [scores, winCast, k0_pay3, k0_pay4, k0_pay2, pageIn, tokIn]

/-- The new running maximum. -/
theorem mNew_apply (s : FVec Ideal S32x1024 .f32) (m : Vec Ideal S1x32x1 .f32) (b : Fin 32) :
    mNew s m (ix2 b 0) = max (m (ix3 0 b 0)) (Finset.univ.fold max ⊥ (fun x => s (ix2 b x))) := by
  rw [← neg_inf]
  pointwise [mNew, k0_pay6]

/-- What is stored of it. -/
theorem mOut_apply (s : FVec Ideal S32x1024 .f32) (m : Vec Ideal S1x32x1 .f32) (b : Fin 32) :
    mOut s m (ix3 0 b 0) = mNew s m (ix2 b 0) := by
  pointwise [mOut, k0_pay11]

/-- The new running sum of weights. -/
theorem lOut_apply (s : FVec Ideal S32x1024 .f32) (mk : Vec Ideal S1x32x1024 .f32) (m l : Vec Ideal S1x32x1 .f32) (b : Fin 32) :
    lOut s mk m l (ix3 0 b 0) = l (ix3 0 b 0) * Ideal.exp (m (ix3 0 b 0) - mNew s m (ix2 b 0))
      + ∑ x, Ideal.exp (s (ix2 b x) - mNew s m (ix2 b 0)) * mk (ix3 0 b x) := by
  pointwise [lOut, alpha, k0_pay10, k0_pay9, k0_pay2, k0_pay6]

/-- The new running sum of weighted values. -/
theorem oOut_apply (s : FVec Ideal S32x1024 .f32) (mk : Vec Ideal S1x32x1024 .f32) (w : Vec Ideal S32x32x128 .f32)
    (m : Vec Ideal S1x32x1 .f32) (o : Vec Ideal S1x32x128 .f32) (b : Fin 32) (d : Fin 128) :
    oOut s mk (winCast w) m o (ix3 0 b d) = o (ix3 0 b d) * Ideal.exp (m (ix3 0 b 0) - mNew s m (ix2 b 0))
      + ∑ x, Ideal.exp (s (ix2 b x) - mNew s m (ix2 b 0)) * mk (ix3 0 b x) * w (ix3 (pageIn x) (tokIn x) d) := by
  pointwise [oOut, alpha, k0_pay12, k0_pay9, k0_pay2, k0_pay4, k0_pay6, winCast, pageIn, tokIn]

/-! ## The counts -/

/-- How many of a request's first slots name the page. -/
theorem rowCount_apply (v13 : BitVec 32) (p : Row Ideal) (r : Fin 64) : rowCount v13 p (ix2 0 r)
    = ∑ x : Fin 256, FloatOps.sitofp (F := Ideal) FTy.f32 (BitVec.setWidth 32 (IntOp.andi
        (IntOp.cmpi .eq (IntOp.subi (p.1 (ix2 0 x)) v13) (BitVec.ofNat 32 r.val)) (IntOp.cmpi .slt (BitVec.ofNat 32 x.val) p.2))) := by
  pointwise [rowCount, k0_pay158]

/-- The counts are the requests' counts, one row each. -/
theorem counts_apply (v13 : BitVec 32) (f : Fin 32 → Row Ideal) (b : Fin 32) (r : Fin 64) :
    counts v13 f (ix2 b r) = rowCount v13 (f b) (ix2 0 r) := by
  unfold counts
  exact concatenate_ofFn_unit_apply (t := S32x64) (s₁ := S1x64) 0 (fun n => rowCount v13 (f n)) _ rfl rfl (ix2 b r) b rfl (ix2 0 r)
    (by intro a ha; match a with | ⟨0, _⟩ => exact absurd rfl ha | ⟨1, _⟩ => rfl)

/-- The first chunk's lanes hold their pages' counts. -/
theorem mask0_apply (v13 : BitVec 32) (f : Fin 32 → Row Ideal) (b : Fin 32) (i : Fin 1024) :
    maskPay0 v13 f (ix3 0 b i) = rowCount v13 (f b) (ix2 0 ⟨i.val / 32, by have := i.isLt; omega⟩) := by
  rw [← counts_apply]
  pointwise [maskPay0]

/-- The second chunk's lanes hold theirs. -/
theorem mask1_apply (v13 : BitVec 32) (f : Fin 32 → Row Ideal) (b : Fin 32) (i : Fin 1024) :
    maskPay1 v13 f (ix3 0 b i) = rowCount v13 (f b) (ix2 0 ⟨32 + i.val / 32, by have := i.isLt; omega⟩) := by
  rw [← counts_apply]
  pointwise [maskPay1]

/-! ## Merge and quotient -/

/-- The result: the weighted values' sum over the weights' sum. -/
theorem out_apply (a : XS Ideal) (b : Fin 32) (h : Fin 16) (d : Fin 128) :
    outX a (ix4 b 0 h d) = Ideal.div (a.2 (ix3 b h d)) (a.1 (ix3 1 b h)) := by
  pointwise [outX, k0_pay1, slabOf]

/-- The merged maximum. -/
theorem merge_m (a a' : XS Ideal) (b : Fin 32) (h : Fin 16) :
    (mergeX a a').1 (ix3 0 b h) = max (a.1 (ix3 0 b h)) (a'.1 (ix3 0 b h)) := by
  pointwise [mergeX, two, k0_pay219, k0_pay216, k0_pay215, k0_pay214, slabOf, rowR]

/-- The merged sum of weights. -/
theorem merge_l (a a' : XS Ideal) (b : Fin 32) (h : Fin 16) : (mergeX a a').1 (ix3 1 b h)
    = a.1 (ix3 1 b h) * Ideal.exp (a.1 (ix3 0 b h) - max (a.1 (ix3 0 b h)) (a'.1 (ix3 0 b h)))
      + a'.1 (ix3 1 b h) * Ideal.exp (a'.1 (ix3 0 b h) - max (a.1 (ix3 0 b h)) (a'.1 (ix3 0 b h))) := by
  pointwise [mergeX, two, k0_pay221, k0_pay220, k0_pay217, k0_pay218, k0_pay216, k0_pay215, k0_pay214, slabOf, rowR]

/-- The merged sum of weighted values. -/
theorem merge_o (a a' : XS Ideal) (b : Fin 32) (h : Fin 16) (d : Fin 128) : (mergeX a a').2 (ix3 b h d)
    = a.2 (ix3 b h d) * Ideal.exp (a.1 (ix3 0 b h) - max (a.1 (ix3 0 b h)) (a'.1 (ix3 0 b h)))
      + a'.2 (ix3 b h d) * Ideal.exp (a'.1 (ix3 0 b h) - max (a.1 (ix3 0 b h)) (a'.1 (ix3 0 b h))) := by
  pointwise [mergeX, two, k0_pay222, k0_pay213, k0_pay217, k0_pay218, k0_pay216, k0_pay215, k0_pay214, slabOf, rowR]

/-- The state laid out for the exchange: its maxima, -/
theorem lay_m (a : Acc Ideal) (b : Fin 32) (h : Fin 16) : (layX a).1 (ix3 0 b h) = a.1 (ix3 h b 0) := by
  pointwise [layX, two, k0_pay209]

/-- its sums of weights, -/
theorem lay_l (a : Acc Ideal) (b : Fin 32) (h : Fin 16) : (layX a).1 (ix3 1 b h) = a.2.1 (ix3 h b 0) := by
  pointwise [layX, two, k0_pay211, k0_pay210]

/-- and its sums of weighted values. -/
theorem lay_o (a : Acc Ideal) (b : Fin 32) (h : Fin 16) (d : Fin 128) : (layX a).2 (ix3 b h d) = a.2.2 (ix3 h b d) := by
  pointwise [layX, two, k0_pay212]

/-- The first state: the low maximum, -/
theorem acc_m (b : Fin 32) (h : Fin 16) : (acc0 (F := Ideal)).1 (ix3 h b 0) = Ideal.ofBits .f32 0xF149F2CA#32 := by
  pointwise [acc0, k0_pay203, k0_pay204]

/-- and nothing summed. -/
theorem acc_l (b : Fin 32) (h : Fin 16) : (acc0 (F := Ideal)).2.1 (ix3 h b 0) = 0 := by
  pointwise [acc0, k0_pay205]

theorem acc_o (b : Fin 32) (h : Fin 16) (d : Fin 128) : (acc0 (F := Ideal)).2.2 (ix3 h b d) = 0 := by
  pointwise [acc0, k0_pay206]

/-- The query, its middle axis dropped. -/
theorem query_apply (q : Vec Ideal S32x1x16x128 .f32) (b : Fin 32) (h : Fin 16) (x : Fin 128) :
    k0_pay207 q (ix3 b h x) = q (ix4 b 0 h x) := by
  pointwise [k0_pay207]

/-! ## The windows -/

/-- Where a window's place lies among the device's own pages. -/
theorem window_idx (c : Dev nD) (s : Fin 2) (h : Fin 16) (r t : Fin 32) (d : Fin 128) (p : Fin 256)
    (hp : p.val = 128 * (c.val / 4) + 64 * (c.val % 2) + 32 * s.val + r.val) :
    (Rect.unit (s := S256x32x16x128) (srcOff c s h) S32x32x1x128.size (srcOff_inb c s h)).emb
        (Shape.reshapeEquiv (s := S32x32x1x128) (s' := S32x32x128) (by decide) (ix3 r t d)) = ix4 p t h d := by
  have e : Shape.reshapeEquiv (s := S32x32x1x128) (s' := S32x32x128) (by decide) (ix3 r t d) = ix4 r t 0 d := by
    apply S32x32x1x128.rowMajor.injective
    apply Fin.ext
    rw [Shape.rowMajor_reshapeEquiv, Shape.rowMajor_val_three, Shape.rowMajor_val_four]
    show (r.val * 32 + t.val) * 128 + d.val = ((r.val * 32 + t.val) * 1 + 0) * 128 + d.val
    omega
  rw [e]
  funext a
  apply Fin.ext
  have h0 := srcOff_eq c s h
  match a with
  | ⟨0, _⟩ =>
    show srcOff c s h 0 + 1 * r.val = p.val
    rw [h0, hp]; show 128 * (c.val / 4) + 64 * (c.val % 2) + 32 * s.val + 1 * r.val = _; omega
  | ⟨1, _⟩ =>
    show srcOff c s h 1 + 1 * t.val = t.val
    rw [h0]; show 0 + 1 * t.val = _; omega
  | ⟨2, _⟩ =>
    show srcOff c s h 2 + 1 * 0 = h.val
    rw [h0]; show h.val + 1 * 0 = _; omega
  | ⟨3, _⟩ =>
    show srcOff c s h 3 + 1 * d.val = d.val
    rw [h0]; show 0 + 1 * d.val = _; omega

/-- A window of the keys reads the device's pages from the window's first on. -/
theorem winK_apply (c : Dev nD) (X : Vec Ideal S256x32x16x128 .f32) (s : Fin 2) (h : Fin 16) (r t : Fin 32) (d : Fin 128) (p : Fin 256)
    (hp : p.val = 128 * (c.val / 4) + 64 * (c.val % 2) + 32 * s.val + r.val) :
    winK (F := Ideal) c X s h (ix3 r t d) = X (ix4 p t h d) :=
  congrArg X (window_idx c s h r t d p hp)

/-- And a window of the values. -/
theorem winV_apply (c : Dev nD) (X : Vec Ideal S256x32x16x128 .f32) (s : Fin 2) (h : Fin 16) (r t : Fin 32) (d : Fin 128) (p : Fin 256)
    (hp : p.val = 128 * (c.val / 4) + 64 * (c.val % 2) + 32 * s.val + r.val) :
    winV (F := Ideal) c X s h (ix3 r t d) = X (ix4 p t h d) :=
  congrArg X (window_idx c s h r t d p hp)

end Cert.Paged
-- ==== Proof.Math.lean ====
/-
Weighted exponentials, shifted. A state of the attention over some of the pages' chunks is a shift μ, the sum of the
weights times exp (score − μ), and the sum of these times the values. The values may be infinite; the weights, the scores
and the shift are numbers. Here: how a state takes in a chunk, how two states merge, and what their quotient is.
-/
module

public import Idealize.ShloMosaic.PureOps.Ideal
public import Idealize.ShloMosaic.PureOps.Ideal.Laws

@[expose] public section

noncomputable section

namespace Cert.Paged

open Idealize.ShloMosaic

/-- A number that is not negative distributes over a sum of extended reals. -/
theorem sum_mul_real {α : Type} (S : Finset α) (f : α → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- The sum of numbers, read as an extended real. -/
theorem coe_sum {α : Type} (S : Finset α) (f : α → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable {γ κ δ : Type} [Fintype κ]

/-- The state `(m, l, o)` over the chunks `C`: for some shift μ it is μ, the weights' sum and the weighted values' sum. -/
def Rep (w s : γ → κ → ℝ) (V : γ → κ → δ → EReal) (C : Finset γ) (m l : EReal) (o : δ → EReal) : Prop :=
  ∃ μ : ℝ, m = μ ∧ l = ((∑ g ∈ C, ∑ i, w g i * Real.exp (s g i - μ) : ℝ) : EReal)
    ∧ ∀ d, o d = ∑ g ∈ C, ∑ i, ((w g i * Real.exp (s g i - μ) : ℝ) : EReal) * V g i d

variable {w s : γ → κ → ℝ} {V : γ → κ → δ → EReal}

/-- No chunk taken in yet. -/
theorem Rep.start (μ : ℝ) : Rep w s V ∅ (μ : EReal) 0 (fun _ => 0) := ⟨μ, rfl, by simp, fun _ => by simp⟩

/-- One term's change of shift. -/
theorem shift_exp (a x μ ν : ℝ) : a * Real.exp (x - μ) * Real.exp (μ - ν) = a * Real.exp (x - ν) := by
  rw [mul_assoc, ← Real.exp_add]; congr 2; ring

/-- The exponential of a difference of numbers. -/
theorem exp_sub_coe (x y : ℝ) : Ideal.exp ((x : EReal) - (y : EReal)) = (Real.exp (x - y) : EReal) := by
  rw [← EReal.coe_sub]; rfl

/-- The weights' sum under another shift. -/
theorem sums_shift (C : Finset γ) (μ ν : ℝ) :
    ((∑ g ∈ C, ∑ i, w g i * Real.exp (s g i - μ) : ℝ) : EReal) * Ideal.exp ((μ : EReal) - (ν : EReal))
      = ((∑ g ∈ C, ∑ i, w g i * Real.exp (s g i - ν) : ℝ) : EReal) := by
  rw [exp_sub_coe, ← EReal.coe_mul, Finset.sum_mul]
  congr 1
  refine Finset.sum_congr rfl fun g _ => ?_
  rw [Finset.sum_mul]
  exact Finset.sum_congr rfl fun i _ => shift_exp _ _ _ _

/-- The weighted values' sum under another shift. -/
theorem vals_shift (C : Finset γ) (μ ν : ℝ) (d : δ) :
    (∑ g ∈ C, ∑ i, ((w g i * Real.exp (s g i - μ) : ℝ) : EReal) * V g i d) * Ideal.exp ((μ : EReal) - (ν : EReal))
      = ∑ g ∈ C, ∑ i, ((w g i * Real.exp (s g i - ν) : ℝ) : EReal) * V g i d := by
  rw [exp_sub_coe, sum_mul_real _ _ (Real.exp_pos _).le]
  refine Finset.sum_congr rfl fun g _ => ?_
  rw [sum_mul_real _ _ (Real.exp_pos _).le]
  refine Finset.sum_congr rfl fun i _ => ?_
  rw [mul_right_comm, ← EReal.coe_mul, shift_exp]

/-- Taking in the chunk `g`: the new maximum `M`, the old sums times the factor of the change of shift, plus the chunk's.
    Each lane's score is the chunk's, or the lane weighs nothing and its score is a number. -/
theorem Rep.chunk [DecidableEq γ] {C : Finset γ} {m l : EReal} {o : δ → EReal} (hR : Rep w s V C m l o) {g : γ} (hg : g ∉ C)
    {M : EReal} (hM : ∃ ν : ℝ, M = ν) {S W : κ → EReal} (hW : ∀ i, W i = (w g i : EReal))
    (hS : ∀ i, S i = (s g i : EReal) ∨ (w g i = 0 ∧ ∃ x : ℝ, S i = x)) :
    Rep w s V (insert g C) M (l * Ideal.exp (m - M) + ∑ i, Ideal.exp (S i - M) * W i)
      (fun d => o d * Ideal.exp (m - M) + ∑ i, (Ideal.exp (S i - M) * W i) * V g i d) := by
  obtain ⟨μ, rfl, rfl, ho⟩ := hR
  obtain ⟨ν, rfl⟩ := hM
  have hp : ∀ i, Ideal.exp (S i - (ν : EReal)) * W i = ((w g i * Real.exp (s g i - ν) : ℝ) : EReal) := by
    intro i
    rw [hW i]
    rcases hS i with h | ⟨h, x, hx⟩
    · rw [h, exp_sub_coe, ← EReal.coe_mul, mul_comm]
    · rw [hx, exp_sub_coe, ← EReal.coe_mul, h, mul_zero, zero_mul]
  refine ⟨ν, rfl, ?_, fun d => ?_⟩
  · rw [sums_shift, Finset.sum_insert hg, EReal.coe_add, add_comm]
    congr 1
    rw [coe_sum]
    exact Finset.sum_congr rfl fun i _ => hp i
  · show o d * _ + _ = _
    rw [ho d, vals_shift, Finset.sum_insert hg, add_comm]
    congr 1
    exact Finset.sum_congr rfl fun i _ => by rw [hp i]

/-- Merging the states of two sets of chunks with none in common. -/
theorem Rep.merge [DecidableEq γ] {C D : Finset γ} {m l m' l' : EReal} {o o' : δ → EReal} (hR : Rep w s V C m l o)
    (hR' : Rep w s V D m' l' o') (hCD : Disjoint C D) :
    Rep w s V (C ∪ D) (max m m') (l * Ideal.exp (m - max m m') + l' * Ideal.exp (m' - max m m'))
      (fun d => o d * Ideal.exp (m - max m m') + o' d * Ideal.exp (m' - max m m')) := by
  obtain ⟨μ, rfl, rfl, ho⟩ := hR
  obtain ⟨ν, rfl, rfl, ho'⟩ := hR'
  rw [← EReal.coe_strictMono.monotone.map_max]
  refine ⟨max μ ν, rfl, ?_, fun d => ?_⟩
  · rw [sums_shift, sums_shift, Finset.sum_union hCD, EReal.coe_add]
  · show o d * _ + o' d * _ = _
    rw [ho d, ho' d, vals_shift, vals_shift, Finset.sum_union hCD]

/-- The quotient of the whole state, under any shift ν. -/
theorem Rep.quotient {C : Finset γ} {m l : EReal} {o : δ → EReal} (hR : Rep w s V C m l o)
    (hw : ∀ g i, 0 ≤ w g i) (hpos : ∃ g ∈ C, ∃ i, 0 < w g i) (ν : ℝ) (d : δ) :
    Ideal.div (o d) l = ∑ g ∈ C, ∑ i,
      ((w g i * (Real.exp (s g i - ν) / ∑ g ∈ C, ∑ i, w g i * Real.exp (s g i - ν)) : ℝ) : EReal) * V g i d := by
  obtain ⟨μ, rfl, rfl, ho⟩ := hR
  have hL : ∀ x : ℝ, 0 < ∑ g ∈ C, ∑ i, w g i * Real.exp (s g i - x) := by
    intro x
    obtain ⟨g, hg, i, hi⟩ := hpos
    have hn : ∀ g i, 0 ≤ w g i * Real.exp (s g i - x) := fun g i => mul_nonneg (hw g i) (Real.exp_pos _).le
    refine Finset.sum_pos' (fun g _ => Finset.sum_nonneg fun i _ => hn g i) ⟨g, hg, ?_⟩
    exact Finset.sum_pos' (fun i _ => hn g i) ⟨i, Finset.mem_univ _, mul_pos hi (Real.exp_pos _)⟩
  have hLs : (∑ g ∈ C, ∑ i, w g i * Real.exp (s g i - ν))
      = (∑ g ∈ C, ∑ i, w g i * Real.exp (s g i - μ)) * Real.exp (μ - ν) := by
    have h := sums_shift (w := w) (s := s) C μ ν
    rw [exp_sub_coe, ← EReal.coe_mul] at h
    exact (EReal.coe_injective h).symm
  have hne : ((∑ g ∈ C, ∑ i, w g i * Real.exp (s g i - μ) : ℝ) : EReal) ≠ 0 := by
    exact_mod_cast (hL μ).ne'
  unfold Ideal.div
  rw [if_neg hne, ho d, ← EReal.coe_inv, sum_mul_real _ _ (inv_nonneg.mpr (hL μ).le)]
  refine Finset.sum_congr rfl fun g _ => ?_
  rw [sum_mul_real _ _ (inv_nonneg.mpr (hL μ).le)]
  refine Finset.sum_congr rfl fun i _ => ?_
  rw [mul_right_comm, ← EReal.coe_mul]
  congr 2
  have hs : Real.exp (s g i - ν) = Real.exp (s g i - μ) * Real.exp (μ - ν) := by
    rw [← Real.exp_add]; congr 1; ring
  rw [hLs, hs]
  have := (hL μ).ne'
  have := (Real.exp_pos (μ - ν)).ne'
  field_simp

/-- A sum over pages, each as often as the slots of `U` name it, is the sum over these slots. -/
theorem sum_counts {α β : Type} [Fintype β] [DecidableEq β] (U : Finset α) (p : α → β) (x : β → ℝ) (v : β → EReal) :
    ∑ b, ((((U.filter fun a => p a = b).card : ℝ) * x b : ℝ) : EReal) * v b = ∑ a ∈ U, (x (p a) : EReal) * v (p a) := by
  rw [← Finset.sum_fiberwise' U p fun b => (x b : EReal) * v b]
  refine Finset.sum_congr rfl fun b _ => ?_
  rw [Finset.sum_const, EReal.coe_mul, mul_assoc, EReal.nsmul_eq_mul]
  rfl

/-- A fold of maxima over numbers, at least one, from −∞ is a number. -/
theorem fold_max_real {α : Type} (S : Finset α) (f : α → EReal) (hf : ∀ a ∈ S, ∃ r : ℝ, f a = r) (x : ℝ) :
    ∃ r : ℝ, max (x : EReal) (S.fold max ⊥ f) = r := by
  classical
  have h : S.fold max ⊥ f < ⊤ := by
    induction S using Finset.induction_on with
    | empty => simp
    | insert a S ha ih =>
      rw [Finset.fold_insert ha]
      obtain ⟨r, hr⟩ := hf a (Finset.mem_insert_self a S)
      exact max_lt (hr ▸ EReal.coe_lt_top r) (ih fun b hb => hf b (Finset.mem_insert_of_mem hb))
  refine ⟨(max (x : EReal) (S.fold max ⊥ f)).toReal, (EReal.coe_toReal ?_ ?_).symm⟩
  · exact (max_lt (EReal.coe_lt_top x) h).ne
  · exact (lt_of_lt_of_le (EReal.bot_lt_coe x) (le_max_left _ _)).ne'

end Cert.Paged
-- ==== Proof.State.lean ====
/-
The state of a request's head over the chunks of pages taken in so far, in terms of the whole arrays: a device's state after
its loop, and every device's after the merges.
-/
module

public import proofs.«01_k».proof.Proof.Lanes
public import proofs.«01_k».proof.Proof.Math
public import proofs.«01_k».proof.Proof.Whole

@[expose] public section

noncomputable section

namespace Cert.Paged

open Cert.KernelIdeal Cert.KernelIdeal.Gen
open Idealize.ShloMosaic

set_option maxHeartbeats 1000000

/-! ## The whole arrays -/

/-- The shape of the whole keys and of the whole values. -/
abbrev SKV : Shape := ⟨4, ![512, 32, 16, 128]⟩

/-- The slots a request uses: the first ones, as many as its length says. -/
def used (LN : Vec Ideal S32 .i32) (b : Fin 32) : Finset (Fin 256) :=
  Finset.univ.filter fun j => (BitVec.ofNat 32 j.val).slt (LN (ix1 b)) = true

/-- How many of a request's used slots name a page. -/
def cnt (BT : Vec Ideal S32x256 .i32) (LN : Vec Ideal S32 .i32) (b : Fin 32) (P : Fin 512) : ℕ :=
  ((used LN b).filter fun j => BT (ix2 b j) = BitVec.ofNat 32 P.val).card

/-- A lane's page among all: 32 pages to a chunk. -/
def pageOf (g : Fin 16) (i : Fin 1024) : Fin 512 := ⟨32 * g.val + i.val / 32, by have := i.isLt; have := g.isLt; omega⟩

/-- The score of a token of a page. -/
def score (Q : Vec Ideal S32x1x16x128 .f32) (K : Vec Ideal SKV .f32) (b : Fin 32) (h : Fin 16) (P : Fin 512) (t : Fin 32) : EReal :=
  (∑ x : Fin 128, Q (ix4 b 0 h x) * K (ix4 P t h x)) * Ideal.ofBits .f32 0x3DB504F3#32

/-- What the inputs must be: queries and keys numbers, every request at least one slot long, the used slots' pages there. -/
structure Fine (Q : Vec Ideal S32x1x16x128 .f32) (K : Vec Ideal SKV .f32) (BT : Vec Ideal S32x256 .i32) (LN : Vec Ideal S32 .i32) : Prop where
  q : ∀ i, ∃ r : ℝ, Q i = r
  k : ∀ i, ∃ r : ℝ, K i = r
  ln : ∀ b : Fin 32, 0 < (LN (ix1 b)).toInt
  bt : ∀ (b : Fin 32) (j : Fin 256), j ∈ used LN b → (BT (ix2 b j)).toNat < 512

variable {Q : Vec Ideal S32x1x16x128 .f32} {K V : Vec Ideal SKV .f32} {BT : Vec Ideal S32x256 .i32} {LN : Vec Ideal S32 .i32}

/-- A finite sum of numbers is a number. -/
theorem sum_real {α : Type} (S : Finset α) (f : α → EReal) (hf : ∀ a ∈ S, ∃ r : ℝ, f a = r) : ∃ r : ℝ, ∑ a ∈ S, f a = r := by
  classical
  induction S using Finset.induction_on with
  | empty => exact ⟨0, by simp⟩
  | insert a S ha ih =>
    rw [Finset.sum_insert ha]
    obtain ⟨x, hx⟩ := hf a (Finset.mem_insert_self a S)
    obtain ⟨y, hy⟩ := ih fun b hb => hf b (Finset.mem_insert_of_mem hb)
    exact ⟨x + y, by rw [hx, hy, EReal.coe_add]⟩

/-- The product of two numbers is a number. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul _ _).symm⟩

/-- The scores are numbers. -/
theorem score_real (hF : Fine Q K BT LN) (b : Fin 32) (h : Fin 16) (P : Fin 512) (t : Fin 32) :
    score Q K b h P t = ((score Q K b h P t).toReal : EReal) := by
  have : ∃ r : ℝ, score Q K b h P t = r :=
    mul_real (sum_real _ _ fun x _ => mul_real (hF.q _) (hF.k _)) scale_real
  obtain ⟨r, hr⟩ := this
  rw [hr, EReal.toReal_coe]

variable (Q K V BT LN) in
/-- The state of a request's head over some chunks. -/
def St (b : Fin 32) (h : Fin 16) (C : Finset (Fin 16)) (m l : EReal) (o : Fin 128 → EReal) : Prop :=
  Rep (fun g i => (cnt BT LN b (pageOf g i) : ℝ)) (fun g i => (score Q K b h (pageOf g i) (tokIn i)).toReal)
    (fun g i d => V (ix4 (pageOf g i) (tokIn i) h d)) C m l o

/-! ## One head's step, and a trip -/

variable (Q K V BT LN) in
/-- The running buffers hold the states over the chunks. -/
def AccSt (a : Acc Ideal) (b : Fin 32) (h : Fin 16) (C : Finset (Fin 16)) : Prop :=
  St Q K V BT LN b h C (a.1 (ix3 h b 0)) (a.2.1 (ix3 h b 0)) (fun d => a.2.2 (ix3 h b d))

/-- A head's step takes in a chunk, at its own head, -/
theorem head_own (hF : Fine Q K BT LN) (mk : Vec Ideal S1x32x1024 .f32) (kk vv : Fin 16 → Vec Ideal S32x32x128 .f32) (h : Fin 16)
    (a : Acc Ideal) (b : Fin 32) (C : Finset (Fin 16)) (g : Fin 16) (hg : g ∉ C)
    (hm : ∀ i, mk (ix3 0 b i) = ((cnt BT LN b (pageOf g i) : ℝ) : EReal))
    (hk : ∀ i x, kk h (ix3 (pageIn i) (tokIn i) x) = K (ix4 (pageOf g i) (tokIn i) h x))
    (hv : ∀ i x, vv h (ix3 (pageIn i) (tokIn i) x) = V (ix4 (pageOf g i) (tokIn i) h x))
    (ha : AccSt Q K V BT LN a b h C) :
    AccSt Q K V BT LN (headUpd (k0_pay207 Q) mk kk vv h a) b h (insert g C) := by
  have hsc : ∀ i, scores h (k0_pay207 Q) mk (winCast (kk h)) (ix2 b i)
      = score Q K b h (pageOf g i) (tokIn i) + (min ((cnt BT LN b (pageOf g i) : ℝ) : EReal) 1 - 1) * Ideal.ofBits .f32 0x7149F2CA#32 := by
    intro i
    rw [scores_apply, hm i]
    congr 2
    refine Finset.sum_congr rfl fun x _ => ?_
    rw [query_apply, hk]
  obtain ⟨B, hB⟩ := big_real
  have hS : ∀ i, scores h (k0_pay207 Q) mk (winCast (kk h)) (ix2 b i) = (((score Q K b h (pageOf g i) (tokIn i)).toReal : ℝ) : EReal)
      ∨ ((cnt BT LN b (pageOf g i) : ℝ) = 0 ∧ ∃ x : ℝ, scores h (k0_pay207 Q) mk (winCast (kk h)) (ix2 b i) = x) := by
    intro i
    rw [hsc i, hB]
    rcases Nat.eq_zero_or_pos (cnt BT LN b (pageOf g i)) with h0 | h0
    · right
      refine ⟨by rw [h0]; norm_num, ?_⟩
      rw [h0, score_real hF]
      refine ⟨(score Q K b h (pageOf g i) (tokIn i)).toReal + (min 0 1 - 1) * B, ?_⟩
      rw [Nat.cast_zero, EReal.coe_add, EReal.coe_mul, EReal.coe_sub]
      norm_num
    · left
      have h1 : min (((cnt BT LN b (pageOf g i) : ℕ) : ℝ) : EReal) 1 = 1 := min_eq_right (by
        have : (1 : ℝ) ≤ (cnt BT LN b (pageOf g i) : ℝ) := by exact_mod_cast h0
        exact_mod_cast this)
      rw [h1]
      have h2 : (1 : EReal) - 1 = 0 := by
        have : (1 : EReal) - 1 = ((1 - 1 : ℝ) : EReal) := by rw [EReal.coe_sub]; rfl
        rw [this]; norm_num
      rw [h2, zero_mul, add_zero, ← score_real hF]
  have hSr : ∀ i, ∃ x : ℝ, scores h (k0_pay207 Q) mk (winCast (kk h)) (ix2 b i) = x := fun i =>
    (hS i).elim (fun e => ⟨_, e⟩) (fun e => e.2)
  have hM : ∃ ν : ℝ, mNew (scores h (k0_pay207 Q) mk (winCast (kk h))) (slabOf a.1 h) (ix2 b 0) = ν := by
    obtain ⟨μ, hμ, -⟩ := ha
    rw [mNew_apply]
    have e : slabOf a.1 h (ix3 0 b 0) = (μ : EReal) := hμ
    rw [e]
    exact fold_max_real _ _ (fun x _ => hSr x) μ
  have hR := Rep.chunk ha hg hM (S := fun i => scores h (k0_pay207 Q) mk (winCast (kk h)) (ix2 b i)) (W := fun i => mk (ix3 0 b i)) hm hS
  unfold AccSt St
  have e1 : (headUpd (k0_pay207 Q) mk kk vv h a).1 (ix3 h b 0) = mNew (scores h (k0_pay207 Q) mk (winCast (kk h))) (slabOf a.1 h) (ix2 b 0) :=
    (if_pos rfl).trans (mOut_apply _ _ _)
  have e2 : (headUpd (k0_pay207 Q) mk kk vv h a).2.1 (ix3 h b 0)
      = a.2.1 (ix3 h b 0) * Ideal.exp (a.1 (ix3 h b 0) - mNew (scores h (k0_pay207 Q) mk (winCast (kk h))) (slabOf a.1 h) (ix2 b 0))
        + ∑ x, Ideal.exp (scores h (k0_pay207 Q) mk (winCast (kk h)) (ix2 b x) - mNew (scores h (k0_pay207 Q) mk (winCast (kk h))) (slabOf a.1 h) (ix2 b 0)) * mk (ix3 0 b x) :=
    (if_pos rfl).trans (lOut_apply _ _ _ _ _)
  have e3 : ∀ d, (headUpd (k0_pay207 Q) mk kk vv h a).2.2 (ix3 h b d)
      = a.2.2 (ix3 h b d) * Ideal.exp (a.1 (ix3 h b 0) - mNew (scores h (k0_pay207 Q) mk (winCast (kk h))) (slabOf a.1 h) (ix2 b 0))
        + ∑ x, (Ideal.exp (scores h (k0_pay207 Q) mk (winCast (kk h)) (ix2 b x) - mNew (scores h (k0_pay207 Q) mk (winCast (kk h))) (slabOf a.1 h) (ix2 b 0)) * mk (ix3 0 b x))
            * V (ix4 (pageOf g x) (tokIn x) h d) := by
    intro d
    refine ((if_pos rfl).trans (oOut_apply _ _ _ _ _ _ _)).trans ?_
    congr 1
    exact Finset.sum_congr rfl fun x _ => congrArg (fun z => Ideal.exp (scores h (k0_pay207 Q) mk (winCast (kk h)) (ix2 b x)
      - mNew (scores h (k0_pay207 Q) mk (winCast (kk h))) (slabOf a.1 h) (ix2 b 0)) * mk (ix3 0 b x) * z) (hv x d)
  rw [e1, e2, funext e3]
  exact hR

/-- and leaves the other heads. -/
theorem head_other (q : FVec Ideal S32x16x128 .f32) (mk : Vec Ideal S1x32x1024 .f32) (kk vv : Fin 16 → Vec Ideal S32x32x128 .f32) (h h' : Fin 16)
    (hh : h' ≠ h) (a : Acc Ideal) (b : Fin 32) (C : Finset (Fin 16)) (ha : AccSt Q K V BT LN a b h' C) :
    AccSt Q K V BT LN (headUpd q mk kk vv h a) b h' C := by
  have hn : ¬ h'.val = h.val := fun e => hh (Fin.ext e)
  unfold AccSt at ha ⊢
  have e1 : (headUpd q mk kk vv h a).1 (ix3 h' b 0) = a.1 (ix3 h' b 0) := if_neg hn
  have e2 : (headUpd q mk kk vv h a).2.1 (ix3 h' b 0) = a.2.1 (ix3 h' b 0) := if_neg hn
  have e3 : ∀ d, (headUpd q mk kk vv h a).2.2 (ix3 h' b d) = a.2.2 (ix3 h' b d) := fun d => if_neg hn
  rw [e1, e2, funext e3]
  exact ha

/-- A trip takes in a chunk at every head. -/
theorem trip_st (hF : Fine Q K BT LN) (mk : Vec Ideal S1x32x1024 .f32) (kk vv : Fin 16 → Vec Ideal S32x32x128 .f32)
    (a : Acc Ideal) (b : Fin 32) (C : Finset (Fin 16)) (g : Fin 16) (hg : g ∉ C)
    (hm : ∀ i, mk (ix3 0 b i) = ((cnt BT LN b (pageOf g i) : ℝ) : EReal))
    (hk : ∀ h i x, kk h (ix3 (pageIn i) (tokIn i) x) = K (ix4 (pageOf g i) (tokIn i) h x))
    (hv : ∀ h i x, vv h (ix3 (pageIn i) (tokIn i) x) = V (ix4 (pageOf g i) (tokIn i) h x))
    (ha : ∀ h, AccSt Q K V BT LN a b h C) (h : Fin 16) :
    AccSt Q K V BT LN (headsUpd (k0_pay207 Q) mk kk vv a 16) b h (insert g C) := by
  have key : ∀ j, j ≤ 16 → ∀ h : Fin 16, AccSt Q K V BT LN (headsUpd (k0_pay207 Q) mk kk vv a j) b h (if h.val < j then insert g C else C) := by
    intro j
    induction j with
    | zero => intro _ h; rw [if_neg (by omega)]; exact ha h
    | succ j ih =>
      intro hj h
      rw [headsUpd_succ _ _ _ _ _ j (by omega)]
      have := ih (by omega) h
      by_cases hh : h = ⟨j, by omega⟩
      · subst hh
        rw [if_neg (lt_irrefl _)] at this
        rw [if_pos (Nat.lt_succ_self _)]
        exact head_own hF mk kk vv _ _ b C g hg hm (hk _) (hv _) this
      · have hne : h.val ≠ j := fun e => hh (Fin.ext e)
        have e : (h.val < j + 1) = (h.val < j) := propext (by omega)
        simp only [e]
        exact head_other _ mk kk vv _ h hh _ b _ this
  have := key 16 le_rfl h
  rwa [if_pos h.isLt] at this

/-! ## The counts -/

/-- One slot's part of a count: one where it is used and names the page. -/
theorem slot_one (x y w : BitVec 32) (r : ℕ) (hr : w.toNat + r < 2 ^ 32) (P : ℕ) (hP : w.toNat + r = P) (u v : BitVec 32) :
    FloatOps.sitofp (F := Ideal) FTy.f32 (BitVec.setWidth 32 (IntOp.andi
        (IntOp.cmpi .eq (IntOp.subi x w) (BitVec.ofNat 32 r)) (IntOp.cmpi .slt u v)))
      = (((if u.slt v = true ∧ x = BitVec.ofNat 32 P then 1 else 0 : ℝ)) : EReal) := by
  have hx : (x - w == BitVec.ofNat 32 r) = decide (x = BitVec.ofNat 32 P) := by
    rw [beq_eq_decide]
    congr 1
    apply propext
    have e : BitVec.ofNat 32 P = w + BitVec.ofNat 32 r := by
      apply BitVec.eq_of_toNat_eq; rw [BitVec.toNat_add, BitVec.toNat_ofNat, BitVec.toNat_ofNat]; omega
    rw [e]
    constructor
    · intro h; rw [← h, BitVec.add_comm, BitVec.sub_add_cancel]
    · intro h; rw [h, BitVec.add_comm, BitVec.add_sub_cancel]
  show (((BitVec.setWidth 32 (BitVec.ofBool (x - w == BitVec.ofNat 32 r) &&& BitVec.ofBool (u.slt v))).toInt : ℝ) : EReal) = _
  rw [hx]
  by_cases h1 : u.slt v = true <;> by_cases h2 : x = BitVec.ofNat 32 P <;> simp [h1, h2]

/-- A request's count of a page from the page word `w` on. -/
theorem rowCount_cnt (w : BitVec 32) (b : Fin 32) (r : Fin 64) (P : Fin 512) (hP : w.toNat + r.val = P.val) :
    rowCount w (rowOf BT LN b) (ix2 0 r) = ((cnt BT LN b P : ℝ) : EReal) := by
  rw [rowCount_apply]
  have := P.isLt
  rw [Finset.sum_congr rfl fun x _ => slot_one _ (BitVec.ofNat 32 0) w r.val (by omega) P.val hP _ _, ← coe_sum, Finset.sum_boole]
  unfold cnt used
  rw [Finset.filter_filter]
  rfl

/-- The chunk a device takes in at a trip. -/
def chunkOf (c : Dev nD) (k : Fin 2) : Fin 16 :=
  ⟨2 * (4 * (c.val / 2 % 2) + 2 * (c.val / 4) + c.val % 2) + k.val, by have : c.val < 8 := c.isLt; omega⟩

/-- The device's first page. -/
theorem pageWord_val : ∀ c : Dev nD, (pageWord c).toNat = 64 * (4 * (c.val / 2 % 2) + 2 * (c.val / 4) + c.val % 2) := by decide +kernel

/-- The mask of a device holds the counts of its chunks' pages. -/
theorem mask_cnt (c : Dev nD) (k : Fin 2) (b : Fin 32) (i : Fin 1024) :
    maskX c BT LN (ix3 k b i) = ((cnt BT LN b (pageOf (chunkOf c k) i) : ℝ) : EReal) := by
  have hw := pageWord_val c
  match k with
  | ⟨0, _⟩ =>
    refine (mask0_apply _ _ b i).trans (rowCount_cnt _ b _ _ ?_)
    rw [hw]; show _ + i.val / 32 = 32 * (2 * _ + 0) + i.val / 32; omega
  | ⟨1, _⟩ =>
    refine (mask1_apply _ _ b i).trans (rowCount_cnt _ b _ _ ?_)
    rw [hw]; show _ + (32 + i.val / 32) = 32 * (2 * _ + 1) + i.val / 32; omega

/-! ## A device's loop -/

/-- A device's block of the whole keys or values. -/
def Block (c : Dev nD) (X : Vec Ideal S256x32x16x128 .f32) (W : Vec Ideal SKV .f32) : Prop :=
  ∀ (p : Fin 256) (P : Fin 512) (t : Fin 32) (h : Fin 16) (d : Fin 128), P.val = 256 * (c.val / 2 % 2) + p.val → X (ix4 p t h d) = W (ix4 P t h d)

variable (Q K V BT LN) in
/-- The exchanged pair holds the states over the chunks. -/
def XsSt (a : XS Ideal) (b : Fin 32) (h : Fin 16) (C : Finset (Fin 16)) : Prop :=
  St Q K V BT LN b h C (a.1 (ix3 0 b h)) (a.1 (ix3 1 b h)) (fun d => a.2 (ix3 b h d))

/-- After its loop a device holds the states over its two chunks. -/
theorem start_st (hF : Fine Q K BT LN) (c : Dev nD) (X Y : Vec Ideal S256x32x16x128 .f32) (hX : Block c X K) (hY : Block c Y V)
    (b : Fin 32) (h : Fin 16) :
    XsSt Q K V BT LN (startX c X Y Q BT LN) b h {chunkOf c 1, chunkOf c 0} := by
  have hc : c.val < 8 := c.isLt
  have hwin : ∀ (k : Fin 2) (i : Fin 1024), ∃ p : Fin 256, p.val = 128 * (c.val / 4) + 64 * (c.val % 2) + 32 * k.val + (pageIn i).val
      ∧ (pageOf (chunkOf c k) i).val = 256 * (c.val / 2 % 2) + p.val := by
    intro k i
    have hi := i.isLt
    have hk := k.isLt
    refine ⟨⟨128 * (c.val / 4) + 64 * (c.val % 2) + 32 * k.val + i.val / 32, by omega⟩, rfl, ?_⟩
    show 32 * (2 * (4 * (c.val / 2 % 2) + 2 * (c.val / 4) + c.val % 2) + k.val) + i.val / 32 = 256 * (c.val / 2 % 2) + (128 * (c.val / 4) + 64 * (c.val % 2) + 32 * k.val + i.val / 32)
    omega
  have hk : ∀ (k : Fin 2) (h : Fin 16) i x, winK (F := Ideal) c X k h (ix3 (pageIn i) (tokIn i) x) = K (ix4 (pageOf (chunkOf c k) i) (tokIn i) h x) := by
    intro k h i x
    obtain ⟨p, hp, hP⟩ := hwin k i
    rw [winK_apply c X k h _ _ _ p hp, hX p _ _ _ _ hP]
  have hv : ∀ (k : Fin 2) (h : Fin 16) i x, winV (F := Ideal) c Y k h (ix3 (pageIn i) (tokIn i) x) = V (ix4 (pageOf (chunkOf c k) i) (tokIn i) h x) := by
    intro k h i x
    obtain ⟨p, hp, hP⟩ := hwin k i
    rw [winV_apply c Y k h _ _ _ p hp, hY p _ _ _ _ hP]
  have h0 : ∀ h, AccSt Q K V BT LN acc0 b h ∅ := by
    intro h
    obtain ⟨μ, hμ⟩ := low_real
    unfold AccSt
    rw [acc_m, acc_l, funext (acc_o b h), hμ]
    exact Rep.start μ
  have h1 := trip_st hF (slabOf (n := 2) (a := 32) (b := 1024) (maskX c BT LN) 0) (winK (F := Ideal) c X 0) (winV (F := Ideal) c Y 0) acc0 b ∅ (chunkOf c 0)
    (Finset.notMem_empty _) (fun i => mask_cnt c 0 b i) (hk 0) (hv 0) h0
  have h2 := trip_st hF (slabOf (n := 2) (a := 32) (b := 1024) (maskX c BT LN) 1) (winK (F := Ideal) c X 1) (winV (F := Ideal) c Y 1) _ b _ (chunkOf c 1)
    (by
      intro hm
      have := congrArg Fin.val (Finset.mem_singleton.mp (by simpa using hm))
      have e0 : (chunkOf c 0).val = 2 * (4 * (c.val / 2 % 2) + 2 * (c.val / 4) + c.val % 2) + 0 := rfl
      have e1 : (chunkOf c 1).val = 2 * (4 * (c.val / 2 % 2) + 2 * (c.val / 4) + c.val % 2) + 1 := rfl
      omega) (fun i => mask_cnt c 1 b i) (hk 1) (hv 1) h1 h
  unfold XsSt startX
  rw [lay_m, lay_l, funext (lay_o _ b h)]
  exact h2

end Cert.Paged
-- ==== Proof.Merged.lean ====
/-
The exchange and the quotient: after three merges every device holds the states over all chunks, and the result is the
attention over the used slots.
-/
module

public import proofs.«01_k».proof.Proof.State

@[expose] public section

noncomputable section

namespace Cert.Paged

open Cert.KernelIdeal Cert.KernelIdeal.Gen
open Idealize.ShloMosaic

set_option maxHeartbeats 1000000

variable {Q : Vec Ideal S32x1x16x128 .f32} {K V : Vec Ideal SKV .f32} {BT : Vec Ideal S32x256 .i32} {LN : Vec Ideal S32 .i32}

/-! ## The merges -/

/-- Merging the states over two sets of chunks. -/
theorem merge_st {a a' : XS Ideal} {b : Fin 32} {h : Fin 16} {C D : Finset (Fin 16)} (ha : XsSt Q K V BT LN a b h C)
    (ha' : XsSt Q K V BT LN a' b h D) (hCD : Disjoint C D) : XsSt Q K V BT LN (mergeX a a') b h (C ∪ D) := by
  unfold XsSt at ha ha' ⊢
  rw [merge_m, merge_l, funext (merge_o a a' b h)]
  exact Rep.merge ha ha' hCD

/-- The chunks a device's state covers before a stage. -/
def chunksAt : ℕ → Dev nD → Finset (Fin 16)
  | 0 => fun c => {chunkOf c 1, chunkOf c 0}
  | s + 1 => fun c => if h : s < 3 then chunksAt s c ∪ chunksAt s (nb ⟨s, h⟩ c) else chunksAt s c

/-- The two devices that merge at a stage have no chunk in common. -/
theorem chunks_disjoint : ∀ (s : Fin 3) (c : Dev nD), Disjoint (chunksAt s.val c) (chunksAt s.val (nb s c)) := by decide +kernel

/-- After the last stage a device's state covers all chunks. -/
theorem chunks_all : ∀ c : Dev nD, chunksAt 3 c = Finset.univ := by decide +kernel

/-- The states at every stage. -/
theorem stage_st {x : Dev nD → XS Ideal} {b : Fin 32} {h : Fin 16} (hx : ∀ c, XsSt Q K V BT LN (x c) b h (chunksAt 0 c)) :
    ∀ s, s ≤ 3 → ∀ c, XsSt Q K V BT LN (xsAt x s c) b h (chunksAt s c) := by
  intro s
  induction s with
  | zero => intro _ c; exact hx c
  | succ s ih =>
    intro hs c
    have e1 : xsAt x (s + 1) c = mergeX (xsAt x s c) (xsAt x s (nb ⟨s, hs⟩ c)) := xsAt_succ x ⟨s, hs⟩ c
    have e2 : chunksAt (s + 1) c = chunksAt s c ∪ chunksAt s (nb ⟨s, hs⟩ c) := dif_pos hs
    rw [e1, e2]
    exact merge_st (ih (by omega) c) (ih (by omega) _) (chunks_disjoint ⟨s, hs⟩ c)

/-! ## Pages and slots -/

/-- The page a slot names. -/
def pg (BT : Vec Ideal S32x256 .i32) (b : Fin 32) (j : Fin 256) : Fin 512 := ⟨(BT (ix2 b j)).toNat % 512, Nat.mod_lt _ (by decide)⟩

/-- A count, by the pages the used slots name. -/
theorem cnt_eq (hF : Fine Q K BT LN) (b : Fin 32) (P : Fin 512) : cnt BT LN b P = ((used LN b).filter fun j => pg BT b j = P).card := by
  unfold cnt
  congr 1
  refine Finset.filter_congr fun j hj => ?_
  have h := hF.bt b j hj
  have hP := P.isLt
  constructor
  · intro e
    apply Fin.ext
    show (BT (ix2 b j)).toNat % 512 = P.val
    rw [e, BitVec.toNat_ofNat]; omega
  · intro e
    have e' : (BT (ix2 b j)).toNat % 512 = P.val := congrArg Fin.val e
    apply BitVec.eq_of_toNat_eq
    rw [BitVec.toNat_ofNat]; omega

/-- Chunks and their lanes are the pages and their tokens. -/
def lanesEquiv : Fin 16 × Fin 1024 ≃ Fin 512 × Fin 32 where
  toFun x := (pageOf x.1 x.2, tokIn x.2)
  invFun y := (⟨y.1.val / 32, by have := y.1.isLt; omega⟩, ⟨32 * (y.1.val % 32) + y.2.val, by have := y.2.isLt; omega⟩)
  left_inv x := by
    have h1 := x.1.isLt
    have h2 := x.2.isLt
    apply Prod.ext <;> apply Fin.ext
    · show (32 * x.1.val + x.2.val / 32) / 32 = x.1.val; omega
    · show 32 * ((32 * x.1.val + x.2.val / 32) % 32) + x.2.val % 32 = x.2.val; omega
  right_inv y := by
    have h1 := y.1.isLt
    have h2 := y.2.isLt
    apply Prod.ext <;> apply Fin.ext
    · show 32 * (y.1.val / 32) + (32 * (y.1.val % 32) + y.2.val) / 32 = y.1.val; omega
    · show (32 * (y.1.val % 32) + y.2.val) % 32 = y.2.val; omega

/-- A sum over chunks and lanes is the sum over tokens and pages. -/
theorem sum_lanes {M : Type} [AddCommMonoid M] (f : Fin 512 → Fin 32 → M) :
    ∑ g : Fin 16, ∑ i : Fin 1024, f (pageOf g i) (tokIn i) = ∑ t : Fin 32, ∑ P : Fin 512, f P t := by
  rw [Finset.sum_comm (s := (Finset.univ : Finset (Fin 32)))]
  have e1 := Fintype.sum_prod_type (fun x : Fin 16 × Fin 1024 => f (pageOf x.1 x.2) (tokIn x.2))
  have e2 := Fintype.sum_prod_type (fun y : Fin 512 × Fin 32 => f y.1 y.2)
  exact e1.symm.trans ((Fintype.sum_equiv lanesEquiv _ (fun y : Fin 512 × Fin 32 => f y.1 y.2) fun _ => rfl).trans e2)

/-- A sum of numbers over pages, each as often as the slots of `U` name it. -/
theorem sum_counts_real {α β : Type} [Fintype β] [DecidableEq β] (U : Finset α) (p : α → β) (x : β → ℝ) :
    ∑ b, ((U.filter fun a => p a = b).card : ℝ) * x b = ∑ a ∈ U, x (p a) := by
  rw [← Finset.sum_fiberwise' U p x]
  exact Finset.sum_congr rfl fun b _ => by rw [Finset.sum_const, nsmul_eq_mul]

/-! ## The attention -/

variable (Q K V BT LN)

/-- The sum of the weights under a shift ν. -/
def wsum (b : Fin 32) (h : Fin 16) (ν : ℝ) : ℝ :=
  ∑ j ∈ used LN b, ∑ t : Fin 32, Real.exp ((score Q K b h (pg BT b j) t).toReal - ν)

/-- The attention of a request's head over the tokens of its used slots, at one place, the weights taken under a shift ν. -/
def attn (ν : ℝ) (b : Fin 32) (h : Fin 16) (d : Fin 128) : EReal :=
  ∑ j ∈ used LN b, ∑ t : Fin 32,
    ((Real.exp ((score Q K b h (pg BT b j) t).toReal - ν) / wsum Q K BT LN b h ν : ℝ) : EReal) * V (ix4 (pg BT b j) t h d)

variable {Q K V BT LN}

/-- The first slot is used. -/
theorem first_used (hF : Fine Q K BT LN) (b : Fin 32) : (0 : Fin 256) ∈ used LN b := by
  unfold used
  refine Finset.mem_filter.mpr ⟨Finset.mem_univ _, ?_⟩
  have h := hF.ln b
  rw [BitVec.slt_eq_decide]
  simpa using h

/-- The quotient of the state over all chunks is the attention. -/
theorem quotient_attn (hF : Fine Q K BT LN) {b : Fin 32} {h : Fin 16} {m l : EReal} {o : Fin 128 → EReal}
    (hR : St Q K V BT LN b h Finset.univ m l o) (ν : ℝ) (d : Fin 128) : Ideal.div (o d) l = attn Q K V BT LN ν b h d := by
  have hq := Rep.quotient hR (fun _ _ => Nat.cast_nonneg _) (by
    refine ⟨(lanesEquiv.symm (pg BT b 0, 0)).1, Finset.mem_univ _, (lanesEquiv.symm (pg BT b 0, 0)).2, ?_⟩
    have e : pageOf (lanesEquiv.symm (pg BT b 0, 0)).1 (lanesEquiv.symm (pg BT b 0, 0)).2 = pg BT b 0 :=
      congrArg Prod.fst (lanesEquiv.apply_symm_apply (pg BT b 0, 0))
    rw [e, cnt_eq hF]
    exact Nat.cast_pos.mpr (Finset.card_pos.mpr ⟨0, Finset.mem_filter.mpr ⟨first_used hF b, rfl⟩⟩)) ν d
  have hL : (∑ g : Fin 16, ∑ i : Fin 1024, (cnt BT LN b (pageOf g i) : ℝ) * Real.exp ((score Q K b h (pageOf g i) (tokIn i)).toReal - ν))
      = wsum Q K BT LN b h ν := by
    rw [sum_lanes (fun P t => (cnt BT LN b P : ℝ) * Real.exp ((score Q K b h P t).toReal - ν))]
    unfold wsum
    rw [Finset.sum_comm (s := used LN b)]
    refine Finset.sum_congr rfl fun t _ => ?_
    simp only [cnt_eq hF]
    exact sum_counts_real _ _ (fun P => Real.exp ((score Q K b h P t).toReal - ν))
  rw [hq, hL, sum_lanes (fun P t => (((cnt BT LN b P : ℝ) * (Real.exp ((score Q K b h P t).toReal - ν) / wsum Q K BT LN b h ν) : ℝ) : EReal)
    * V (ix4 P t h d))]
  unfold attn
  rw [Finset.sum_comm (s := used LN b)]
  refine Finset.sum_congr rfl fun t _ => ?_
  simp only [cnt_eq hF]
  exact sum_counts _ _ (fun P => Real.exp ((score Q K b h P t).toReal - ν) / wsum Q K BT LN b h ν) (fun P => V (ix4 P t h d))

/-- Every device's result is the attention. -/
theorem kernel_attn (hF : Fine Q K BT LN) (X Y : Dev nD → Vec Ideal S256x32x16x128 .f32) (hX : ∀ c, Block c (X c) K)
    (hY : ∀ c, Block c (Y c) V) (x : Dev nD → XS Ideal) (hx : ∀ c, x c = startX c (X c) (Y c) Q BT LN) (c : Dev nD) (ν : ℝ)
    (b : Fin 32) (h : Fin 16) (d : Fin 128) : outX (xsAt x 3 c) (ix4 b 0 h d) = attn Q K V BT LN ν b h d := by
  rw [out_apply]
  have := stage_st (Q := Q) (K := K) (V := V) (BT := BT) (LN := LN) (x := x) (b := b) (h := h)
    (fun c => by rw [hx c]; exact start_st hF c _ _ (hX c) (hY c) b h) 3 le_rfl c
  rw [chunks_all] at this
  exact quotient_attn hF this ν d

end Cert.Paged
-- ==== Proof.Pre.lean ====
/-
What the precondition says of the whole arrays, and how the devices' arrays are read as blocks of these.
-/
module

public import proofs.«01_k».proof.Defs
public import proofs.«01_k».proof.Proof.Merged
public import Idealize.ShloMosaic.Lib.ReduceAll
public import Idealize.ShloMosaic.Lib.Layout

@[expose] public section

noncomputable section

namespace Cert.Paged

open Idealize.ShloMosaic

set_option maxHeartbeats 1000000

/-- The side conditions of the precondition's operations, on a device's blocks, -/
theorem pre_facts : Cert.Pre_attended_KernelIdeal.Facts := by
  constructor <;> decide

/-- and on the whole arrays. -/
theorem pre_facts_reference : Cert.Pre_attended_ReferenceIdeal.Facts := by
  constructor <;> decide

/-- An extended real below +∞ in absolute value is a number. -/
theorem real_of_abs (x : EReal) (h : FloatOps.cmpf (F := Ideal) (φ := .f32) .olt (FloatOps.hostAbsf (F := Ideal) (φ := .f32) x)
    (Ideal.ofBits .f32 0x7F800000#32) = 1#1) : ∃ r : ℝ, x = r := by
  have ht : Ideal.ofBits .f32 0x7F800000#32 = ⊤ := by simp [Ideal.ofBits, Ideal.ieee]
  rw [ht] at h
  have h' : BitVec.ofBool (decide (FloatOps.hostAbsf (F := Ideal) (φ := .f32) x < (⊤ : EReal))) = 1#1 := h
  have hl : FloatOps.hostAbsf (F := Ideal) (φ := .f32) x < (⊤ : EReal) := by
    by_contra hn
    rw [decide_eq_false hn] at h'
    exact absurd h' (by decide)
  have hm : max x (-x) < ⊤ := hl
  induction x using EReal.rec with
  | bot => simp at hm
  | coe r => exact ⟨r, rfl⟩
  | top => simp at hm

section
variable [Cert.Pre_attended_KernelIdeal.Facts]
open Cert.Pre_attended_KernelIdeal

/-- The precondition read on one device: its queries and its block of the keys are numbers, the lengths at least one, and the
    used slots' pages exist. -/
theorem pre_read (Q : FVec Ideal S32x1x16x128 .f32) (X Y : FVec Ideal S256x32x16x128 .f32) (BT : IVec S32x256 32) (LN : IVec S32 32)
    (h : fn (F := Ideal) Q X Y BT LN = fun _ => 1#1) :
    (∀ i, ∃ r : ℝ, Q i = r) ∧ (∀ i, ∃ r : ℝ, X i = r) ∧ (∀ b : Fin 32, 1 ≤ (LN (ix1 b)).toInt)
      ∧ ∀ (b : Fin 32) (j : Fin 256), (LN (ix1 b)).toInt ≤ (BitVec.ofNat 32 j.val).toInt
          ∨ (0 ≤ (BT (ix2 b j)).toInt ∧ (BT (ix2 b j)).toInt < 512) := by
  have h0 := congrFun h ix0
  unfold fn fn_part1 at h0
  obtain ⟨h1, hbt⟩ := IntOp.andi_eq_one.1 h0
  obtain ⟨h2, hln⟩ := IntOp.andi_eq_one.1 h1
  obtain ⟨hq, hk⟩ := IntOp.andi_eq_one.1 h2
  haveI : Subsingleton S_.Idx := ⟨fun a b => funext fun k => k.elim0⟩
  refine ⟨fun i => ?_, fun i => ?_, fun b => ?_, fun b j => ?_⟩
  · exact real_of_abs _ (Host.reduce_andi_all _ _ _ _ _ hq i)
  · exact real_of_abs _ (Host.reduce_andi_all _ _ _ _ _ hk i)
  · exact IntOp.cmpi_sge.1 (Host.reduce_andi_all _ _ _ _ _ hln (ix1 b))
  · have e := Host.reduce_andi_all _ _ _ _ _ hbt (ix2 b j)
    rcases IntOp.ori_eq_one.1 e with e | e
    · left
      have h := IntOp.cmpi_sge.1 e
      have hb : broadcastInDim S32x256 ![0, 1] Facts.bcast_S32x1_S32x256_0_1 (broadcastInDim S32x1 ![0] Facts.bcast_S32_S32x1_0 LN) (ix2 b j)
          = LN (ix1 b) := congrArg LN (by funext k; match k with | ⟨0, _⟩ => rfl)
      rw [hb] at h
      exact h
    · right
      obtain ⟨e1, e2⟩ := IntOp.andi_eq_one.1 e
      exact ⟨IntOp.cmpi_sge.1 e1, IntOp.cmpi_slt.1 e2⟩

end

/-- A device's block of the whole array, by the layout. -/
theorem block_layout (c : Fin 8) (W : Vec Ideal SKV .f32) :
    Block c (Layout.blockN ⟨4, ![256, 32, 16, 128]⟩ ⟨4, ![512, 32, 16, 128]⟩ (Layout.meshBlock [2, 2, 2] ![[1], [], [], []] c) W) W := by
  intro p P t h d hP
  rw [Layout.blockN_apply]
  congr 1
  funext a
  apply Fin.ext
  rw [Layout.TilesN.idx_val]
  have hc : Layout.meshLin [2, 2, 2] c.val [1] = c.val / 2 % 2 := by
    clear hP; revert c; decide
  match a with
  | ⟨0, _⟩ =>
    show Layout.meshLin [2, 2, 2] c.val [1] * 256 + p.val = P.val
    rw [hc, hP]; omega
  | ⟨1, _⟩ => show 0 * 32 + t.val = t.val; omega
  | ⟨2, _⟩ => show 0 * 16 + h.val = h.val; omega
  | ⟨3, _⟩ => show 0 * 128 + d.val = d.val; omega

/-- What the precondition on every device says of the whole arrays. -/
theorem fine_of_pre [Cert.Pre_attended_KernelIdeal.Facts] (Q : Vec Ideal Cert.KernelIdeal.S32x1x16x128 .f32) (K : Vec Ideal SKV .f32)
    (BT : Vec Ideal Cert.KernelIdeal.S32x256 .i32) (LN : Vec Ideal Cert.KernelIdeal.S32 .i32)
    (X Y : Fin 8 → Vec Ideal Cert.KernelIdeal.S256x32x16x128 .f32) (hX : ∀ c, Block c (X c) K)
    (h : ∀ c, Cert.Pre_attended_KernelIdeal.fn (F := Ideal) Q (X c) (Y c) BT LN = fun _ => 1#1) : Fine Q K BT LN := by
  obtain ⟨hq, -, hln, hbt⟩ := pre_read _ _ _ _ _ (h 0)
  refine ⟨hq, fun i => ?_, fun b => lt_of_lt_of_le Int.one_pos (hln b), fun b j hj => ?_⟩
  · have hi : (i 0).val < 512 := (i 0).isLt
    have e : i = ix4 (i 0) (i 1) (i 2) (i 3) := by
      funext a; match a with | ⟨0, _⟩ => rfl | ⟨1, _⟩ => rfl | ⟨2, _⟩ => rfl | ⟨3, _⟩ => rfl
    rcases lt_or_ge (i 0).val 256 with hlt | hge
    · have hb := hX 0 ⟨(i 0).val, hlt⟩ (i 0) (i 1) (i 2) (i 3) (by show _ = 256 * (0 / 2 % 2) + (i 0).val; omega)
      obtain ⟨r, hr⟩ := (pre_read _ _ _ _ _ (h 0)).2.1 (ix4 ⟨(i 0).val, hlt⟩ (i 1) (i 2) (i 3))
      exact ⟨r, (congrArg K e).trans (hb.symm.trans hr)⟩
    · have hb := hX 2 ⟨(i 0).val - 256, by omega⟩ (i 0) (i 1) (i 2) (i 3) (by show _ = 256 * (2 / 2 % 2) + ((i 0).val - 256); omega)
      obtain ⟨r, hr⟩ := (pre_read _ _ _ _ _ (h 2)).2.1 (ix4 ⟨(i 0).val - 256, by omega⟩ (i 1) (i 2) (i 3))
      exact ⟨r, (congrArg K e).trans (hb.symm.trans hr)⟩
  · have hs : (BitVec.ofNat 32 j.val).slt (LN (ix1 b)) = true := (Finset.mem_filter.mp hj).2
    rw [BitVec.slt_iff_toInt_lt] at hs
    rcases hbt b j with e | ⟨e1, e2⟩
    · omega
    · rw [BitVec.toInt_eq_toNat_cond] at e1 e2
      have := (BT (ix2 b j)).isLt
      split at e1 <;> omega

end Cert.Paged
-- ==== Proof.RefLanes.lean ====
/-
The reference's arrays, each read at one place, over the extended reals.
-/
module

public import proofs.«01_k».proof.Proof.Gen.ReferenceIdeal.Run
public import Idealize.ShloMosaic.Lib.Pointwise
public import Idealize.ShloMosaic.Lib.IdealHost

@[expose] public section

noncomputable section

namespace Cert.Paged.Ref

open Cert.ReferenceIdeal Cert.ReferenceIdeal.Gen
open Idealize.ShloMosaic

set_option maxHeartbeats 1000000

/-- The pages as indices: a negative one counted from the end. -/
def wrapped (BT : Vec Ideal S32x256 .i32) : Vec Ideal S32x256x1 .i32 :=
  broadcastInDim S32x256x1 ![0, 1] bcast_S32x256_S32x256x1_0_1 (select (cmpi .slt BT (broadcastInDim S32x256 ![] bcast_S_S32x256 (constantI S_ 32 0#32)))
    (addi BT (broadcastInDim S32x256 ![] bcast_S_S32x256 (constantI S_ 32 512#32))) BT)

/-- The slots' pages of the keys or the values, slot after slot. -/
def paged (W : FVec Ideal S512x32x16x128 .f32) (BT : Vec Ideal S32x256 .i32) : FVec Ideal S32x8192x16x128 .f32 :=
  shapeCast _ (Host.gather gather_S512x32x16x128_S32x256x1_S32x256x32x16x128_234_0_n_n_0_2_13216128 W (wrapped BT)) shapeCasts_S32x256x32x16x128_S32x8192x16x128

/-- The scores, −∞ at the slots not used. -/
def masked (Q : FVec Ideal S32x1x16x128 .f32) (K : FVec Ideal S512x32x16x128 .f32) (BT : Vec Ideal S32x256 .i32) (LN : Vec Ideal S32 .i32) :
    FVec Ideal S32x16x8192 .f32 :=
  select (broadcastInDim S32x16x8192 ![0, 1, 2] bcast_S32x1x8192_S32x16x8192_0_1_2 (shapeCast _ (broadcastInDim S32x256x32 ![0, 1, 2] bcast_S32x256x1_S32x256x32_0_1_2 (broadcastInDim S32x256x1 ![0, 1] bcast_S32x256_S32x256x1_0_1 (cmpi .slt (iotaInDim S32x256 32 1) (broadcastInDim S32x256 ![0, 1] bcast_S32x1_S32x256_0_1 (broadcastInDim S32x1 ![0] bcast_S32_S32x1_0 LN))))) shapeCasts_S32x256x32_S32x1x8192))
    (mulf (Host.dotGeneral dot_S32x16x128_S32x8192x16x128_S32x16x8192_2_3_n_1_01_02 none (shapeCast _ Q shapeCasts_S32x1x16x128_S32x16x128) (paged K BT)) (broadcastInDim S32x16x8192 ![] bcast_S_S32x16x8192 (constant S_ .f32 0x3DB504F3#32)))
    (broadcastInDim S32x16x8192 ![] bcast_S_S32x16x8192 (id (constant S_ .f32 0xFF800000#32)))

/-- The exponentials of the scores' differences from their maximum. -/
def expd (S : FVec Ideal S32x16x8192 .f32) : FVec Ideal S32x16x8192 .f32 :=
  Host.exp (subf S (broadcastInDim S32x16x8192 ![0, 1, 2] bcast_S32x16x1_S32x16x8192_0_1_2 (broadcastInDim S32x16x1 ![0, 1] bcast_S32x16_S32x16x1_0_1
    (Host.reduce FloatOps.maximumf S (constant S_ .f32 0xFF800000#32) reducesTo_S32x16x8192_S32x16_d2 h_S_))))

/-- The exponentials over their sum. -/
def weights (E : FVec Ideal S32x16x8192 .f32) : FVec Ideal S32x16x8192 .f32 :=
  Host.divf E (broadcastInDim S32x16x8192 ![0, 1, 2] bcast_S32x16x1_S32x16x8192_0_1_2 (broadcastInDim S32x16x1 ![0, 1] bcast_S32x16_S32x16x1_0_1
    (Host.reduceAdd E (constant S_ .f32 0x00000000#32) reducesTo_S32x16x8192_S32x16_d2 h_S_)))

/-- The result. -/
def attended (P : FVec Ideal S32x16x8192 .f32) (Vp : FVec Ideal S32x8192x16x128 .f32) : FVec Ideal S32x1x16x128 .f32 :=
  broadcastInDim S32x1x16x128 ![0, 2, 3] bcast_S32x16x128_S32x1x16x128_0_2_3 (Host.dotGeneral dot_S32x16x8192_S32x8192x16x128_S32x16x128_2_1_n_3_01_02 none P Vp)

set_option maxRecDepth 65536 in
/-- The reference's result, by these. -/
theorem result_eq (m : (ℓ : Loc nD τ sig) → Buf (Elt Ideal) ℓ) (c : Dev nD) : Value.res_main_v38 m c
    = attended (weights (expd (masked (m ((c.tc : Thread nD τ).loc main_arg0)) (m ((c.tc : Thread nD τ).loc main_arg1)) (m ((c.tc : Thread nD τ).loc main_arg3)) (m ((c.tc : Thread nD τ).loc main_arg4)))))
      (paged (m ((c.tc : Thread nD τ).loc main_arg2)) (m ((c.tc : Thread nD τ).loc main_arg3))) := by
  unfold Value.res_main_v38 attended weights expd masked paged wrapped
  rfl

/-- The result at one place. -/
theorem attended_apply (P : FVec Ideal S32x16x8192 .f32) (Vp : FVec Ideal S32x8192x16x128 .f32) (b : Fin 32) (h : Fin 16) (d : Fin 128) :
    attended P Vp (ix4 b 0 h d) = ∑ k : Fin 8192, P (ix3 b h k) * Vp (ix4 b k h d) := by
  pointwise [attended]

/-- A weight. -/
theorem weights_apply (E : FVec Ideal S32x16x8192 .f32) (b : Fin 32) (h : Fin 16) (k : Fin 8192) :
    weights E (ix3 b h k) = Ideal.div (E (ix3 b h k)) (∑ k : Fin 8192, E (ix3 b h k)) := by
  pointwise [weights]

/-- An exponential. -/
theorem expd_apply (S : FVec Ideal S32x16x8192 .f32) (b : Fin 32) (h : Fin 16) (k : Fin 8192) :
    expd S (ix3 b h k) = Ideal.exp (S (ix3 b h k) - (Finset.univ.fold max (Ideal.ofBits .f32 0xFF800000#32) fun k => S (ix3 b h k))) := by
  pointwise [expd]

/-- An index. -/
theorem wrapped_apply (BT : Vec Ideal S32x256 .i32) (b : Fin 32) (j : Fin 256) :
    wrapped BT (ix3 b j 0) = Scalar.select (IntOp.cmpi .slt (BT (ix2 b j)) 0#32) (IntOp.addi (BT (ix2 b j)) 512#32) (BT (ix2 b j)) := by
  pointwise [wrapped]

/-- The slot of a place among a request's 8192 tokens. -/
def slotOf (k : Fin 8192) : Fin 256 := ⟨k.val / 32, by have := k.isLt; omega⟩
/-- Its token within the slot's page. -/
def tokOf (k : Fin 8192) : Fin 32 := ⟨k.val % 32, by omega⟩

/-- A masked score. -/
theorem masked_apply (Q : FVec Ideal S32x1x16x128 .f32) (K : FVec Ideal S512x32x16x128 .f32) (BT : Vec Ideal S32x256 .i32) (LN : Vec Ideal S32 .i32)
    (b : Fin 32) (h : Fin 16) (k : Fin 8192) : masked Q K BT LN (ix3 b h k)
      = Scalar.select (IntOp.cmpi .slt (BitVec.ofNat 32 (slotOf k).val) (LN (ix1 b)))
          ((∑ x : Fin 128, Q (ix4 b 0 h x) * paged K BT (ix4 b k h x)) * Ideal.ofBits .f32 0x3DB504F3#32) (Ideal.ofBits .f32 0xFF800000#32) := by
  pointwise [masked, slotOf]
  rfl

/-- The gather of whole pages, read at one place: the page is the index read signed and clamped. -/
theorem gather_page {α : Type} (W : S512x32x16x128.Idx → α) (I : IVec S32x256x1 32) (b : Fin 32) (j : Fin 256) (t : Fin 32) (h : Fin 16) (x : Fin 128) :
    Host.gather gather_S512x32x16x128_S32x256x1_S32x256x32x16x128_234_0_n_n_0_2_13216128 W I (ix5 b j t h x)
      = W (ix4 ⟨min (I (ix3 b j 0)).toInt.toNat 511, by omega⟩ t h x) := by
  unfold Host.gather
  congr 1
  funext a
  refine Fin.ext ?_
  generalize hd : gather_S512x32x16x128_S32x256x1_S32x256x32x16x128_234_0_n_n_0_2_13216128 = D
  show D.start (ix5 b j t h x) I a + D.batchCoord (ix5 b j t h x) a + D.offCoord (ix5 b j t h x) a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (by decide +revert)]
    have hsi : (gather_S512x32x16x128_S32x256x1_S32x256x32x16x128_234_0_n_n_0_2_13216128).siIdx (ix5 b j t h x)
        ⟨List.idxOf (0 : Fin 4) gather_S512x32x16x128_S32x256x1_S32x256x32x16x128_234_0_n_n_0_2_13216128.startIndexMap,
          List.idxOf_lt_length_iff.2 (List.mem_singleton.mpr rfl)⟩ = ix3 b j 0 := by
      funext b; refine Fin.ext ?_
      match b with
      | ⟨0, _⟩ => rfl
      | ⟨1, _⟩ => rfl
      | ⟨2, _⟩ => rfl
    erw [hsi]
    rfl
  | ⟨1, _⟩ =>
    unfold GatherDims.start
    rw [dif_neg (by decide +revert)]
    unfold GatherDims.offCoord
    rw [dif_pos (by decide +revert)]
    simp only [Nat.zero_add]
    rfl
  | ⟨2, _⟩ =>
    unfold GatherDims.start
    rw [dif_neg (by decide +revert)]
    unfold GatherDims.offCoord
    rw [dif_pos (by decide +revert)]
    simp only [Nat.zero_add]
    rfl
  | ⟨3, _⟩ =>
    unfold GatherDims.start
    rw [dif_neg (by decide +revert)]
    unfold GatherDims.offCoord
    rw [dif_pos (by decide +revert)]
    simp only [Nat.zero_add]
    rfl

/-- A slot's page, read at one place. -/
theorem paged_apply (W : FVec Ideal S512x32x16x128 .f32) (BT : Vec Ideal S32x256 .i32) (b : Fin 32) (h : Fin 16) (k : Fin 8192) (x : Fin 128) :
    paged W BT (ix4 b k h x) = W (ix4 ⟨min (wrapped BT (ix3 b (slotOf k) 0)).toInt.toNat 511, by omega⟩ (tokOf k) h x) := by
  refine Eq.trans ?_ (gather_page W (wrapped BT) b (slotOf k) (tokOf k) h x)
  pointwise [paged, slotOf, tokOf]

end Cert.Paged.Ref
-- ==== Proof.RefValue.lean ====
/-
The reference's result is the attention over the used slots.
-/
module

public import proofs.«01_k».proof.Proof.RefLanes
public import proofs.«01_k».proof.Proof.Merged

@[expose] public section

noncomputable section

namespace Cert.Paged.Ref

open Cert.ReferenceIdeal Cert.ReferenceIdeal.Gen
open Idealize.ShloMosaic
open Cert.Paged (Fine used pg score wsum attn score_real first_used neg_inf coe_sum)

set_option maxHeartbeats 1000000

variable {Q : FVec Ideal S32x1x16x128 .f32} {K V : FVec Ideal S512x32x16x128 .f32} {BT : Vec Ideal S32x256 .i32} {LN : Vec Ideal S32 .i32}

/-- A used slot's index is its page: nothing is wrapped and nothing clamped. -/
theorem page_used (hF : Fine Q K BT LN) (b : Fin 32) (j : Fin 256) (hj : j ∈ used LN b) :
    min (wrapped BT (ix3 b j 0)).toInt.toNat 511 = (pg BT b j).val := by
  have h := hF.bt b j hj
  have hw : wrapped BT (ix3 b j 0) = BT (ix2 b j) := by
    rw [wrapped_apply]
    have hn : (BT (ix2 b j)).slt 0#32 = false := by
      rw [BitVec.slt_eq_decide, BitVec.toInt_eq_toNat_cond]
      simp
      omega
    have e : IntOp.cmpi .slt (BT (ix2 b j)) 0#32 = 0#1 := by
      show BitVec.ofBool ((BT (ix2 b j)).slt 0#32) = 0#1
      rw [hn]; rfl
    rw [e]; rfl
  rw [hw]
  show _ = (BT (ix2 b j)).toNat % 512
  rw [BitVec.toInt_eq_toNat_cond]
  split <;> omega

/-- A masked score: the score of the slot's page where the slot is used, −∞ where it is not. -/
theorem masked_eq (hF : Fine Q K BT LN) (b : Fin 32) (h : Fin 16) (k : Fin 8192) :
    masked Q K BT LN (ix3 b h k) = if slotOf k ∈ used LN b then score Q K b h (pg BT b (slotOf k)) (tokOf k) else ⊥ := by
  rw [masked_apply, neg_inf]
  by_cases hj : slotOf k ∈ used LN b
  · rw [if_pos hj]
    have hs : (BitVec.ofNat 32 (slotOf k).val).slt (LN (ix1 b)) = true := (Finset.mem_filter.mp hj).2
    have e : IntOp.cmpi .slt (BitVec.ofNat 32 (slotOf k).val) (LN (ix1 b)) = 1#1 := by
      show BitVec.ofBool _ = 1#1
      rw [hs]; rfl
    rw [e]
    show _ * _ = _
    unfold score
    congr 1
    refine Finset.sum_congr rfl fun x _ => ?_
    rw [paged_apply]
    congr 2
    exact congrArg (fun p => ix4 p (tokOf k) h x) (Fin.ext (page_used hF b _ hj))
  · rw [if_neg hj]
    have hs : (BitVec.ofNat 32 (slotOf k).val).slt (LN (ix1 b)) = false := by
      by_contra hc
      exact hj (Finset.mem_filter.mpr ⟨Finset.mem_univ _, by simpa using hc⟩)
    have e : IntOp.cmpi .slt (BitVec.ofNat 32 (slotOf k).val) (LN (ix1 b)) = 0#1 := by
      show BitVec.ofBool _ = 0#1
      rw [hs]; rfl
    rw [e]; rfl

/-- Places among a request's tokens are its slots and their tokens. -/
def slotsEquiv : Fin 8192 ≃ Fin 256 × Fin 32 where
  toFun k := (slotOf k, tokOf k)
  invFun y := ⟨32 * y.1.val + y.2.val, by have := y.1.isLt; have := y.2.isLt; omega⟩
  left_inv k := by apply Fin.ext; show 32 * (k.val / 32) + k.val % 32 = k.val; omega
  right_inv y := by
    have h2 := y.2.isLt
    apply Prod.ext <;> apply Fin.ext
    · show (32 * y.1.val + y.2.val) / 32 = y.1.val; omega
    · show (32 * y.1.val + y.2.val) % 32 = y.2.val; omega

/-- A sum over a request's tokens, nothing at the slots not used. -/
theorem sum_slots {M : Type} [AddCommMonoid M] (U : Finset (Fin 256)) (f : Fin 256 → Fin 32 → M) :
    ∑ k : Fin 8192, (if slotOf k ∈ U then f (slotOf k) (tokOf k) else 0) = ∑ j ∈ U, ∑ t : Fin 32, f j t := by
  have e1 := Fintype.sum_equiv slotsEquiv (fun k => if slotOf k ∈ U then f (slotOf k) (tokOf k) else 0)
    (fun y : Fin 256 × Fin 32 => if y.1 ∈ U then f y.1 y.2 else 0) fun _ => rfl
  rw [e1, Fintype.sum_prod_type, ← Finset.sum_filter_add_sum_filter_not Finset.univ (· ∈ U)]
  have e2 : (∑ x ∈ Finset.univ.filter (· ∉ U), ∑ y : Fin 32, (if x ∈ U then f x y else 0)) = 0 :=
    Finset.sum_eq_zero fun x hx => Finset.sum_eq_zero fun y _ => if_neg (Finset.mem_filter.mp hx).2
  rw [e2, add_zero, Finset.filter_mem_eq_inter, Finset.univ_inter]
  exact Finset.sum_congr rfl fun x hx => Finset.sum_congr rfl fun y _ => if_pos hx

/-- The greatest masked score is a number. -/
theorem max_real (hF : Fine Q K BT LN) (b : Fin 32) (h : Fin 16) :
    ∃ M : ℝ, (Finset.univ.fold max (Ideal.ofBits .f32 0xFF800000#32) fun k => masked Q K BT LN (ix3 b h k)) = M := by
  rw [neg_inf]
  refine ⟨_, (EReal.coe_toReal ?_ ?_).symm⟩
  · refine ((Finset.fold_max_lt (c := ⊤)).mpr ⟨bot_lt_top, fun k _ => ?_⟩).ne
    rw [masked_eq hF]
    split
    · rw [score_real hF]; exact EReal.coe_lt_top _
    · exact bot_lt_top
  · refine ne_of_gt (lt_of_lt_of_le ?_ ((Finset.le_fold_max (score Q K b h (pg BT b 0) 0)).mpr (Or.inr ⟨0, Finset.mem_univ _, ?_⟩)))
    · rw [score_real hF]; exact EReal.bot_lt_coe _
    · rw [masked_eq hF]
      have e : slotOf 0 = 0 := rfl
      rw [e, if_pos (first_used hF b)]
      exact le_of_eq rfl

/-- The reference's result is the attention, the weights taken under its greatest score. -/
theorem reference_attn (hF : Fine Q K BT LN) (b : Fin 32) (h : Fin 16) : ∃ ν : ℝ, ∀ d : Fin 128,
    attended (weights (expd (masked Q K BT LN))) (paged V BT) (ix4 b 0 h d) = attn Q K V BT LN ν b h d := by
  obtain ⟨M, hM⟩ := max_real hF b h
  refine ⟨M, fun d => ?_⟩
  have hE : ∀ k : Fin 8192, expd (masked Q K BT LN) (ix3 b h k)
      = if slotOf k ∈ used LN b then ((Real.exp ((score Q K b h (pg BT b (slotOf k)) (tokOf k)).toReal - M) : ℝ) : EReal) else 0 := by
    intro k
    rw [expd_apply, hM, masked_eq hF]
    split
    · rw [score_real hF, Cert.Paged.exp_sub_coe, EReal.toReal_coe]
    · rw [EReal.bot_sub]; rfl
  have hL : ∑ k : Fin 8192, expd (masked Q K BT LN) (ix3 b h k) = ((wsum Q K BT LN b h M : ℝ) : EReal) := by
    rw [Finset.sum_congr rfl fun k _ => hE k,
      sum_slots (used LN b) (fun j t => ((Real.exp ((score Q K b h (pg BT b j) t).toReal - M) : ℝ) : EReal))]
    unfold wsum
    rw [coe_sum]
    exact Finset.sum_congr rfl fun j _ => (coe_sum _ _).symm
  have hpos : 0 < wsum Q K BT LN b h M := by
    unfold wsum
    refine Finset.sum_pos (fun j _ => Finset.sum_pos (fun t _ => Real.exp_pos _) ⟨0, Finset.mem_univ _⟩) ⟨0, first_used hF b⟩
  have hne : ((wsum Q K BT LN b h M : ℝ) : EReal) ≠ 0 := by exact_mod_cast hpos.ne'
  have hT : ∀ k : Fin 8192, weights (expd (masked Q K BT LN)) (ix3 b h k) * paged V BT (ix4 b k h d)
      = if slotOf k ∈ used LN b then
          ((Real.exp ((score Q K b h (pg BT b (slotOf k)) (tokOf k)).toReal - M) / wsum Q K BT LN b h M : ℝ) : EReal)
            * V (ix4 (pg BT b (slotOf k)) (tokOf k) h d) else 0 := by
    intro k
    rw [weights_apply, hL, hE k]
    unfold Ideal.div
    rw [if_neg hne]
    by_cases hj : slotOf k ∈ used LN b
    · rw [if_pos hj, if_pos hj, paged_apply, ← EReal.coe_inv, ← EReal.coe_mul, ← div_eq_mul_inv]
      exact congrArg (fun p => _ * V (ix4 p (tokOf k) h d)) (Fin.ext (page_used hF b _ hj))
    · rw [if_neg hj, if_neg hj, zero_mul, zero_mul]
  rw [attended_apply, Finset.sum_congr rfl fun k _ => hT k,
    sum_slots (used LN b) (fun j t => ((Real.exp ((score Q K b h (pg BT b j) t).toReal - M) / wsum Q K BT LN b h M : ℝ) : EReal)
      * V (ix4 (pg BT b j) t h d))]
  rfl

end Cert.Paged.Ref
-- ==== Proof.Value.lean ====
/-
The value of the run: every device's result is the reference's on the whole arrays.
-/
module

public import proofs.«01_k».proof.Proof.Launch
public import proofs.«01_k».proof.Proof.Pre
public import proofs.«01_k».proof.Proof.RefValue
public import proofs.«01_k».proof.Proof.Gen.ReferenceIdeal.Run
public import Idealize.ShloMosaic.Lib.Pipeline.ValueKit.Geometry

@[expose] public section

noncomputable section

namespace Cert.Paged

open Cert.KernelIdeal Cert.KernelIdeal.Gen
open Idealize.ShloMosaic Idealize.SL.Sem

set_option maxHeartbeats 1000000

variable {F : FTy → Type} [FloatOps F]
variable (m : (ℓ : Loc nD τ sig) → Buf (Elt F) ℓ)

/-- The staged queries are the argument, -/
theorem qv_eq (c : Dev nD) : qv m c = m ((c.tc : Thread nD τ).loc main_arg0) := by
  unfold qv
  funext i
  have e : win0_0.index t0_0 = ![0, 0, 0, 0] := by decide +kernel
  show iblk m c 0 t0_0 i = V m c main_arg0 i
  blk_simp [iblk]
  congr 1
  blk_ext [e]

/-- the staged block table is the argument, -/
theorem btv_eq (c : Dev nD) : btv m c = m ((c.tc : Thread nD τ).loc main_arg3) := by
  unfold btv
  funext i
  have e : win0_1.index t0_0 = ![0, 0] := by decide +kernel
  show iblk m c 1 t0_0 i = V m c main_arg3 i
  blk_simp [iblk]
  congr 1
  blk_ext [e]

/-- and so are the staged lengths. -/
theorem lnv_eq (c : Dev nD) : lnv m c = m ((c.tc : Thread nD τ).loc main_arg4) := by
  unfold lnv
  funext i
  have e : win0_2.index t0_0 = ![0] := by decide +kernel
  show iblk m c 2 t0_0 i = V m c main_arg4 i
  blk_simp [iblk]
  congr 1
  blk_ext [e]

/-- The result array ends at the device's result. -/
theorem result_arr (c : Dev nD) : (dats m 0 c).arrAt 3 cfg0.N = outv m c := by
  refine (dats m 0 c).arrAt_eq_of_covers 3 _ (by decide +kernel) fun t hf y => ?_
  obtain rfl := fin_N0 t
  have e : win0_3.index t0_0 = ![0, 0, 0, 0] := by decide +kernel
  show outv m c y = _
  congr 1
  blk_ext [e]

/-- With the devices' caches blocks of `K` and `V`, the rest whole, and the precondition met: every device's result is
    the attention the reference computes. -/
theorem value_eq [Cert.Pre_attended_KernelIdeal.Facts] (m : (ℓ : Loc nD τ sig) → Buf (Elt Ideal) ℓ)
    (Q : Vec Ideal S32x1x16x128 .f32) (K V : Vec Ideal SKV .f32) (BT : Vec Ideal S32x256 .i32) (LN : Vec Ideal S32 .i32)
    (hp : ∀ c : Dev nD, Cert.Pre_attended_KernelIdeal.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (h0 : ∀ c : Dev nD, m ((c.tc : Thread nD τ).loc main_arg0) = Q)
    (h1 : ∀ c : Dev nD, Block c (m ((c.tc : Thread nD τ).loc main_arg1)) K)
    (h2 : ∀ c : Dev nD, Block c (m ((c.tc : Thread nD τ).loc main_arg2)) V)
    (h3 : ∀ c : Dev nD, m ((c.tc : Thread nD τ).loc main_arg3) = BT)
    (h4 : ∀ c : Dev nD, m ((c.tc : Thread nD τ).loc main_arg4) = LN) (c : Dev nD) :
    outv m c = Ref.attended (Ref.weights (Ref.expd (Ref.masked Q K BT LN))) (Ref.paged V BT) := by
  have hF : Fine Q K BT LN := fine_of_pre Q K BT LN (fun c : Dev nD => m ((c.tc : Thread nD τ).loc main_arg1))
    (fun c : Dev nD => m ((c.tc : Thread nD τ).loc main_arg2)) h1 fun c => by
      have h := hp c
      rw [h0 c, h3 c, h4 c] at h
      exact h
  funext i
  have e : i = ix4 (i 0) 0 (i 2) (i 3) := by
    funext a
    match a with
    | ⟨0, _⟩ => rfl
    | ⟨1, _⟩ => exact Fin.ext (by have : (i 1).val < 1 := (i 1).isLt; show (i 1).val = 0; omega)
    | ⟨2, _⟩ => rfl
    | ⟨3, _⟩ => rfl
  obtain ⟨ν, hν⟩ := Ref.reference_attn (V := V) hF (i 0) (i 2)
  have hk := kernel_attn (V := V) hF (fun c => m ((c.tc : Thread nD τ).loc main_arg1)) (fun c => m ((c.tc : Thread nD τ).loc main_arg2)) h1 h2 (x0 m)
    (fun c => by unfold x0; rw [qv_eq, btv_eq, lnv_eq, h0 c, h3 c, h4 c]) c ν (i 0) (i 2) (i 3)
  have hr := hk.trans (hν (i 3)).symm
  refine (congrArg (outv m c) e).trans (hr.trans ?_)
  exact (congrArg (Ref.attended (Ref.weights (Ref.expd (Ref.masked Q K BT LN))) (Ref.paged V BT)) e).symm

/-- The two programs, from memories that agree and meet the precondition, end at one result. -/
theorem algebraic [Cert.Pre_attended_KernelIdeal.Facts] : Cert.algebraic_KernelIdeal_ReferenceIdeal_pre_attended_KernelIdeal := by
  intro m g m' g' hp hm
  refine ⟨Cert.ReferenceIdeal.Value.res_main_v38 m' 0, ?_, ?_⟩
  · refine (θ_run _ _ _).mono (fun r h c => ⟨((h.1 c).1.trans ((result_arr m c).trans ?_)), (h.1 c).2⟩) (run_main m g)
    rw [Ref.result_eq]
    refine value_eq m _ _ _ _ _ hp (fun c => (hm c).1) (fun c => ?_) (fun c => ?_) (fun c => (hm c).2.2.2.1) (fun c => (hm c).2.2.2.2) c
    · rw [(hm c).2.1]; exact block_layout c _
    · rw [(hm c).2.2.1]; exact block_layout c _
  · exact (θ_run _ _ _).mono (fun r h => h 0) (Cert.ReferenceIdeal.Value.run m' g')

end Cert.Paged
-- ==== Proof.Same.lean ====
/-
The kernel and its idealized form have the same text: their body tables are equal, so a run of the one is a run of the
other, at any float values.
-/
module

public import proofs.«01_k».proof.Defs

@[expose] public section

noncomputable section

namespace Cert.Paged

open Idealize.ShloMosaic Idealize.SL.Sem

variable {F : FTy → Type} [FloatOps F] [Cert.Kernel.Facts] [Cert.KernelIdeal.Facts]

set_option maxRecDepth 20000 in
set_option maxHeartbeats 4000000 in
/-- The two printed bodies are one function. -/
theorem body_same : (fun a (h : a.IsWhole) => Cert.Kernel.cc0_body (F := F) a h)
    = (fun a (h : a.IsWhole) => Cert.KernelIdeal.cc0_body (F := F) a h) := rfl

set_option maxRecDepth 20000 in
set_option maxHeartbeats 4000000 in
/-- The two tables of bodies agree at their one label. -/
theorem labels_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl

/-- So do the programs' whole tables. -/
theorem defs_same : Cert.Kernel.defs (F := F) = Cert.KernelIdeal.defs (F := F) :=
  congrArg (Pipeline.defs Cert.KernelIdeal.pcfgs) labels_same

end Cert.Paged
-- ==== Proof.lean ====
/-
The claims about the paged-attention kernel on the mesh, put together: the kernel's and the idealized kernel's runs,
the reference's run, and their common result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The idealized kernel's text, run at any float values, ends quiescent with its arguments as they were. -/
theorem run_keeps {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2)
        = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3)
        = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4)
        = m ((c.tc : Thread Cert.KernelIdeal.nD Cert.KernelIdeal.τ).loc Cert.KernelIdeal.main_arg4))
      ∧ r.2.sem = fun _ => 0 :=
  (θ_run _ _ _).mono (fun _ h => ⟨fun c => (h.1 c).2, h.2⟩) (Cert.Paged.run_main m ρ)

/-- The kernel runs and ends quiescent, its arguments as they were. -/
theorem frame_kernel : Cert.quiescent_Kernel := by
  intro m ρ _
  have h := run_keeps (F := Bits) m ρ
  rw [← Cert.Paged.defs_same] at h
  exact h

/-- So does the idealized kernel. -/
theorem frame_kernel_ideal : Cert.quiescent_KernelIdeal := fun m ρ _ => run_keeps m ρ

/-- So does the reference, which has no semaphore. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- All the claims: the three programs end quiescent, the last two also under the precondition; and the idealized
    kernel's result on every device is the reference's. -/
theorem claim : Cert.Claim := ⟨Cert.Kernel.Gen.facts, Cert.KernelIdeal.Gen.facts, Cert.ReferenceIdeal.Gen.facts,
  Cert.Paged.pre_facts, Cert.Paged.pre_facts_reference,
  frame_kernel, frame_kernel_ideal, (fun m ρ _ => frame_kernel_ideal m ρ trivial),
  frame_reference_ideal, (fun m ρ _ => frame_reference_ideal m ρ trivial),
  trivial, @Cert.Paged.algebraic Cert.Paged.pre_facts⟩

end Cert.Proof

end
